-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_scales_1 [hPre_scales_1 : Cert.Pre_scales_1.Facts] (m : (ℓ : Loc Cert.MlpIdeal.nD Cert.MlpIdeal.τ Cert.MlpIdeal.sig) → Buf (Elt Ideal) ℓ) : Prop :=
  ∀ c : Dev Cert.MlpIdeal.nD,
    (Cert.Pre_scales_1.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))) = (fun _ => 1#1)

def Pre_MlpLast (m : (ℓ : Loc Cert.MlpLast.nD Cert.MlpLast.τ Cert.MlpLast.sig) → Buf (Elt Bits) ℓ) : Prop :=
  True

def Pre_MlpLastIdeal (m : (ℓ : Loc Cert.MlpLastIdeal.nD Cert.MlpLastIdeal.τ Cert.MlpLastIdeal.sig) → Buf (Elt Ideal) ℓ) : Prop :=
  True

def Pre_MlpLastIdeal_scales_2 [hPre_scales_2 : Cert.Pre_scales_2.Facts] (m : (ℓ : Loc Cert.MlpLastIdeal.nD Cert.MlpLastIdeal.τ Cert.MlpLastIdeal.sig) → Buf (Elt Ideal) ℓ) : Prop :=
  ∀ c : Dev Cert.MlpLastIdeal.nD,
    (Cert.Pre_scales_2.fn (F := Ideal) (m ((c.tc : Thread Cert.MlpLastIdeal.nD Cert.MlpLastIdeal.τ).loc Cert.MlpLastIdeal.main_arg0)) (m ((c.tc : Thread Cert.MlpLastIdeal.nD Cert.MlpLastIdeal.τ).loc Cert.MlpLastIdeal.main_arg1)) (m ((c.tc : Thread Cert.MlpLastIdeal.nD Cert.MlpLastIdeal.τ).loc Cert.MlpLastIdeal.main_arg2)) (m ((c.tc : Thread Cert.MlpLastIdeal.nD Cert.MlpLastIdeal.τ).loc Cert.MlpLastIdeal.main_arg3)) (m ((c.tc : Thread Cert.MlpLastIdeal.nD Cert.MlpLastIdeal.τ).loc Cert.MlpLastIdeal.main_arg4)) (m ((c.tc : Thread Cert.MlpLastIdeal.nD Cert.MlpLastIdeal.τ).loc Cert.MlpLastIdeal.main_arg5)) (m ((c.tc : Thread Cert.MlpLastIdeal.nD Cert.MlpLastIdeal.τ).loc Cert.MlpLastIdeal.main_arg6)) (m ((c.tc : Thread Cert.MlpLastIdeal.nD Cert.MlpLastIdeal.τ).loc Cert.MlpLastIdeal.main_arg7)) (m ((c.tc : Thread Cert.MlpLastIdeal.nD Cert.MlpLastIdeal.τ).loc Cert.MlpLastIdeal.main_arg8)) (m ((c.tc : Thread Cert.MlpLastIdeal.nD Cert.MlpLastIdeal.τ).loc Cert.MlpLastIdeal.main_arg9)) (m ((c.tc : Thread Cert.MlpLastIdeal.nD Cert.MlpLastIdeal.τ).loc Cert.MlpLastIdeal.main_arg10)) (m ((c.tc : Thread Cert.MlpLastIdeal.nD Cert.MlpLastIdeal.τ).loc Cert.MlpLastIdeal.main_arg11)) (m ((c.tc : Thread Cert.MlpLastIdeal.nD Cert.MlpLastIdeal.τ).loc Cert.MlpLastIdeal.main_arg12)) (m ((c.tc : Thread Cert.MlpLastIdeal.nD Cert.MlpLastIdeal.τ).loc Cert.MlpLastIdeal.main_arg13)) (m ((c.tc : Thread Cert.MlpLastIdeal.nD Cert.MlpLastIdeal.τ).loc Cert.MlpLastIdeal.main_arg14)) (m ((c.tc : Thread Cert.MlpLastIdeal.nD Cert.MlpLastIdeal.τ).loc Cert.MlpLastIdeal.main_arg15)) (m ((c.tc : Thread Cert.MlpLastIdeal.nD Cert.MlpLastIdeal.τ).loc Cert.MlpLastIdeal.main_arg16)) (m ((c.tc : Thread Cert.MlpLastIdeal.nD Cert.MlpLastIdeal.τ).loc Cert.MlpLastIdeal.main_arg17))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scale_codes [hPre_scale_codes : Cert.Pre_scale_codes.Facts] (m : (ℓ : Loc Cert.AttnIdeal.nD Cert.AttnIdeal.τ Cert.AttnIdeal.sig) → Buf (Elt Ideal) ℓ) : Prop :=
  ∀ c : Dev Cert.AttnIdeal.nD,
    (Cert.Pre_scale_codes.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_scales_1 [hPre_scales_1 : Cert.Pre_scales_1.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_scales_1.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))) = (fun _ => 1#1)

def Pre_MlpLastRefIdeal (m : (ℓ : Loc Cert.MlpLastRefIdeal.nD Cert.MlpLastRefIdeal.τ Cert.MlpLastRefIdeal.sig) → Buf (Elt Ideal) ℓ) : Prop :=
  True

def Pre_MlpLastRefIdeal_scales_2 [hPre_scales_2 : Cert.Pre_scales_2.Facts] (m : (ℓ : Loc Cert.MlpLastRefIdeal.nD Cert.MlpLastRefIdeal.τ Cert.MlpLastRefIdeal.sig) → Buf (Elt Ideal) ℓ) : Prop :=
  ∀ c : Dev Cert.MlpLastRefIdeal.nD,
    (Cert.Pre_scales_2.fn (F := Ideal) (m ((c.tc : Thread Cert.MlpLastRefIdeal.nD Cert.MlpLastRefIdeal.τ).loc Cert.MlpLastRefIdeal.main_arg0)) (m ((c.tc : Thread Cert.MlpLastRefIdeal.nD Cert.MlpLastRefIdeal.τ).loc Cert.MlpLastRefIdeal.main_arg1)) (m ((c.tc : Thread Cert.MlpLastRefIdeal.nD Cert.MlpLastRefIdeal.τ).loc Cert.MlpLastRefIdeal.main_arg2)) (m ((c.tc : Thread Cert.MlpLastRefIdeal.nD Cert.MlpLastRefIdeal.τ).loc Cert.MlpLastRefIdeal.main_arg3)) (m ((c.tc : Thread Cert.MlpLastRefIdeal.nD Cert.MlpLastRefIdeal.τ).loc Cert.MlpLastRefIdeal.main_arg4)) (m ((c.tc : Thread Cert.MlpLastRefIdeal.nD Cert.MlpLastRefIdeal.τ).loc Cert.MlpLastRefIdeal.main_arg5)) (m ((c.tc : Thread Cert.MlpLastRefIdeal.nD Cert.MlpLastRefIdeal.τ).loc Cert.MlpLastRefIdeal.main_arg6)) (m ((c.tc : Thread Cert.MlpLastRefIdeal.nD Cert.MlpLastRefIdeal.τ).loc Cert.MlpLastRefIdeal.main_arg7)) (m ((c.tc : Thread Cert.MlpLastRefIdeal.nD Cert.MlpLastRefIdeal.τ).loc Cert.MlpLastRefIdeal.main_arg8)) (m ((c.tc : Thread Cert.MlpLastRefIdeal.nD Cert.MlpLastRefIdeal.τ).loc Cert.MlpLastRefIdeal.main_arg9)) (m ((c.tc : Thread Cert.MlpLastRefIdeal.nD Cert.MlpLastRefIdeal.τ).loc Cert.MlpLastRefIdeal.main_arg10)) (m ((c.tc : Thread Cert.MlpLastRefIdeal.nD Cert.MlpLastRefIdeal.τ).loc Cert.MlpLastRefIdeal.main_arg11)) (m ((c.tc : Thread Cert.MlpLastRefIdeal.nD Cert.MlpLastRefIdeal.τ).loc Cert.MlpLastRefIdeal.main_arg12)) (m ((c.tc : Thread Cert.MlpLastRefIdeal.nD Cert.MlpLastRefIdeal.τ).loc Cert.MlpLastRefIdeal.main_arg13)) (m ((c.tc : Thread Cert.MlpLastRefIdeal.nD Cert.MlpLastRefIdeal.τ).loc Cert.MlpLastRefIdeal.main_arg14)) (m ((c.tc : Thread Cert.MlpLastRefIdeal.nD Cert.MlpLastRefIdeal.τ).loc Cert.MlpLastRefIdeal.main_arg15)) (m ((c.tc : Thread Cert.MlpLastRefIdeal.nD Cert.MlpLastRefIdeal.τ).loc Cert.MlpLastRefIdeal.main_arg16)) (m ((c.tc : Thread Cert.MlpLastRefIdeal.nD Cert.MlpLastRefIdeal.τ).loc Cert.MlpLastRefIdeal.main_arg17))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_scale_codes [hPre_scale_codes : Cert.Pre_scale_codes.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_scale_codes.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))) = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12)
      ∧ r.2.mem ((c.tc : Thread Cert.Mlp.nD Cert.Mlp.τ).loc Cert.Mlp.main_arg13) = m ((c.tc : Thread Cert.Mlp.nD Cert.Mlp.τ).loc Cert.Mlp.main_arg13)
      ∧ r.2.mem ((c.tc : Thread Cert.Mlp.nD Cert.Mlp.τ).loc Cert.Mlp.main_arg14) = m ((c.tc : Thread Cert.Mlp.nD Cert.Mlp.τ).loc Cert.Mlp.main_arg14)
      ∧ r.2.mem ((c.tc : Thread Cert.Mlp.nD Cert.Mlp.τ).loc Cert.Mlp.main_arg15) = m ((c.tc : Thread Cert.Mlp.nD Cert.Mlp.τ).loc Cert.Mlp.main_arg15)
      ∧ r.2.mem ((c.tc : Thread Cert.Mlp.nD Cert.Mlp.τ).loc Cert.Mlp.main_arg16) = m ((c.tc : Thread Cert.Mlp.nD Cert.Mlp.τ).loc Cert.Mlp.main_arg16)
      ∧ r.2.mem ((c.tc : Thread Cert.Mlp.nD Cert.Mlp.τ).loc Cert.Mlp.main_arg17) = m ((c.tc : Thread Cert.Mlp.nD Cert.Mlp.τ).loc Cert.Mlp.main_arg17)
      ∧ r.2.mem ((c.tc : Thread Cert.Mlp.nD Cert.Mlp.τ).loc Cert.Mlp.main_arg18) = m ((c.tc : Thread Cert.Mlp.nD Cert.Mlp.τ).loc Cert.Mlp.main_arg18))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
      ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14)
      ∧ r.2.mem ((c.tc : Thread Cert.MlpIdeal.nD Cert.MlpIdeal.τ).loc Cert.MlpIdeal.main_arg15) = m ((c.tc : Thread Cert.MlpIdeal.nD Cert.MlpIdeal.τ).loc Cert.MlpIdeal.main_arg15)
      ∧ r.2.mem ((c.tc : Thread Cert.MlpIdeal.nD Cert.MlpIdeal.τ).loc Cert.MlpIdeal.main_arg16) = m ((c.tc : Thread Cert.MlpIdeal.nD Cert.MlpIdeal.τ).loc Cert.MlpIdeal.main_arg16)
      ∧ r.2.mem ((c.tc : Thread Cert.MlpIdeal.nD Cert.MlpIdeal.τ).loc Cert.MlpIdeal.main_arg17) = m ((c.tc : Thread Cert.MlpIdeal.nD Cert.MlpIdeal.τ).loc Cert.MlpIdeal.main_arg17)
      ∧ r.2.mem ((c.tc : Thread Cert.MlpIdeal.nD Cert.MlpIdeal.τ).loc Cert.MlpIdeal.main_arg18) = m ((c.tc : Thread Cert.MlpIdeal.nD Cert.MlpIdeal.τ).loc Cert.MlpIdeal.main_arg18))
      ∧ r.2.sem = fun _ => 0)

def quiescent_MlpIdeal_pre_scales_1 [hMlpIdeal : Cert.MlpIdeal.Facts] [hPre_scales_1 : Cert.Pre_scales_1.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_scales_1 m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
      ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14)
      ∧ r.2.mem ((c.tc : Thread Cert.MlpIdeal.nD Cert.MlpIdeal.τ).loc Cert.MlpIdeal.main_arg15) = m ((c.tc : Thread Cert.MlpIdeal.nD Cert.MlpIdeal.τ).loc Cert.MlpIdeal.main_arg15)
      ∧ r.2.mem ((c.tc : Thread Cert.MlpIdeal.nD Cert.MlpIdeal.τ).loc Cert.MlpIdeal.main_arg16) = m ((c.tc : Thread Cert.MlpIdeal.nD Cert.MlpIdeal.τ).loc Cert.MlpIdeal.main_arg16)
      ∧ r.2.mem ((c.tc : Thread Cert.MlpIdeal.nD Cert.MlpIdeal.τ).loc Cert.MlpIdeal.main_arg17) = m ((c.tc : Thread Cert.MlpIdeal.nD Cert.MlpIdeal.τ).loc Cert.MlpIdeal.main_arg17)
      ∧ r.2.mem ((c.tc : Thread Cert.MlpIdeal.nD Cert.MlpIdeal.τ).loc Cert.MlpIdeal.main_arg18) = m ((c.tc : Thread Cert.MlpIdeal.nD Cert.MlpIdeal.τ).loc Cert.MlpIdeal.main_arg18))
      ∧ r.2.sem = fun _ => 0)

def quiescent_MlpLast [hMlpLast : Cert.MlpLast.Facts] : Prop :=
  ∀ (m : (ℓ : Loc Cert.MlpLast.nD Cert.MlpLast.τ Cert.MlpLast.sig) → Buf (Elt Bits) ℓ) (g : Dev Cert.MlpLast.nD → PrngReg), Pre_MlpLast m →
    θ_run (Cert.MlpLast.defs (F := Bits)) (onTc (τ := Cert.MlpLast.τ) (Cert.MlpLast.main (F := Bits))) ⟨m, fun _ => 0, g⟩ (fun r => (∀ c : Dev Cert.MlpLast.nD,
      r.2.mem ((c.tc : Thread Cert.MlpLast.nD Cert.MlpLast.τ).loc Cert.MlpLast.main_arg0) = m ((c.tc : Thread Cert.MlpLast.nD Cert.MlpLast.τ).loc Cert.MlpLast.main_arg0)
      ∧ r.2.mem ((c.tc : Thread Cert.MlpLast.nD Cert.MlpLast.τ).loc Cert.MlpLast.main_arg1) = m ((c.tc : Thread Cert.MlpLast.nD Cert.MlpLast.τ).loc Cert.MlpLast.main_arg1)
      ∧ r.2.mem ((c.tc : Thread Cert.MlpLast.nD Cert.MlpLast.τ).loc Cert.MlpLast.main_arg2) = m ((c.tc : Thread Cert.MlpLast.nD Cert.MlpLast.τ).loc Cert.MlpLast.main_arg2)
      ∧ r.2.mem ((c.tc : Thread Cert.MlpLast.nD Cert.MlpLast.τ).loc Cert.MlpLast.main_arg3) = m ((c.tc : Thread Cert.MlpLast.nD Cert.MlpLast.τ).loc Cert.MlpLast.main_arg3)
      ∧ r.2.mem ((c.tc : Thread Cert.MlpLast.nD Cert.MlpLast.τ).loc Cert.MlpLast.main_arg4) = m ((c.tc : Thread Cert.MlpLast.nD Cert.MlpLast.τ).loc Cert.MlpLast.main_arg4)
      ∧ r.2.mem ((c.tc : Thread Cert.MlpLast.nD Cert.MlpLast.τ).loc Cert.MlpLast.main_arg5) = m ((c.tc : Thread Cert.MlpLast.nD Cert.MlpLast.τ).loc Cert.MlpLast.main_arg5)
      ∧ r.2.mem ((c.tc : Thread Cert.MlpLast.nD Cert.MlpLast.τ).loc Cert.MlpLast.main_arg6) = m ((c.tc : Thread Cert.MlpLast.nD Cert.MlpLast.τ).loc Cert.MlpLast.main_arg6)
      ∧ r.2.mem ((c.tc : Thread Cert.MlpLast.nD Cert.MlpLast.τ).loc Cert.MlpLast.main_arg7) = m ((c.tc : Thread Cert.MlpLast.nD Cert.MlpLast.τ).loc Cert.MlpLast.main_arg7)
      ∧ r.2.mem ((c.tc : Thread Cert.MlpLast.nD Cert.MlpLast.τ).loc Cert.MlpLast.main_arg8) = m ((c.tc : Thread Cert.MlpLast.nD Cert.MlpLast.τ).loc Cert.MlpLast.main_arg8)
      ∧ r.2.mem ((c.tc : Thread Cert.MlpLast.nD Cert.MlpLast.τ).loc Cert.MlpLast.main_arg9) = m ((c.tc : Thread Cert.MlpLast.nD Cert.MlpLast.τ).loc Cert.MlpLast.main_arg9)
      ∧ r.2.mem ((c.tc : Thread Cert.MlpLast.nD Cert.MlpLast.τ).loc Cert.MlpLast.main_arg10) = m ((c.tc : Thread Cert.MlpLast.nD Cert.MlpLast.τ).loc Cert.MlpLast.main_arg10)
      ∧ r.2.mem ((c.tc : Thread Cert.MlpLast.nD Cert.MlpLast.τ).loc Cert.MlpLast.main_arg11) = m ((c.tc : Thread Cert.MlpLast.nD Cert.MlpLast.τ).loc Cert.MlpLast.main_arg11)
      ∧ r.2.mem ((c.tc : Thread Cert.MlpLast.nD Cert.MlpLast.τ).loc Cert.MlpLast.main_arg12) = m ((c.tc : Thread Cert.MlpLast.nD Cert.MlpLast.τ).loc Cert.MlpLast.main_arg12)
      ∧ r.2.mem ((c.tc : Thread Cert.MlpLast.nD Cert.MlpLast.τ).loc Cert.MlpLast.main_arg13) = m ((c.tc : Thread Cert.MlpLast.nD Cert.MlpLast.τ).loc Cert.MlpLast.main_arg13)
      ∧ r.2.mem ((c.tc : Thread Cert.MlpLast.nD Cert.MlpLast.τ).loc Cert.MlpLast.main_arg14) = m ((c.tc : Thread Cert.MlpLast.nD Cert.MlpLast.τ).loc Cert.MlpLast.main_arg14)
      ∧ r.2.mem ((c.tc : Thread Cert.MlpLast.nD Cert.MlpLast.τ).loc Cert.MlpLast.main_arg15) = m ((c.tc : Thread Cert.MlpLast.nD Cert.MlpLast.τ).loc Cert.MlpLast.main_arg15)
      ∧ r.2.mem ((c.tc : Thread Cert.MlpLast.nD Cert.MlpLast.τ).loc Cert.MlpLast.main_arg16) = m ((c.tc : Thread Cert.MlpLast.nD Cert.MlpLast.τ).loc Cert.MlpLast.main_arg16)
      ∧ r.2.mem ((c.tc : Thread Cert.MlpLast.nD Cert.MlpLast.τ).loc Cert.MlpLast.main_arg17) = m ((c.tc : Thread Cert.MlpLast.nD Cert.MlpLast.τ).loc Cert.MlpLast.main_arg17))
      ∧ r.2.sem = fun _ => 0)

def quiescent_MlpLastIdeal [hMlpLastIdeal : Cert.MlpLastIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg), Pre_MlpLastIdeal m →
    θ_run (Cert.MlpLastIdeal.defs (F := Ideal)) (onTc (τ := Cert.MlpLastIdeal.τ) (Cert.MlpLastIdeal.main (F := Ideal))) ⟨m, fun _ => 0, g⟩ (fun r => (∀ c : Dev Cert.MlpLastIdeal.nD,
      r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
      ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
      ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
      ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
      ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4)
      ∧ r.2.mem ((c.tc : Thread Cert.MlpLastIdeal.nD Cert.MlpLastIdeal.τ).loc Cert.MlpLastIdeal.main_arg5) = m ((c.tc : Thread Cert.MlpLastIdeal.nD Cert.MlpLastIdeal.τ).loc Cert.MlpLastIdeal.main_arg5)
      ∧ r.2.mem ((c.tc : Thread Cert.MlpLastIdeal.nD Cert.MlpLastIdeal.τ).loc Cert.MlpLastIdeal.main_arg6) = m ((c.tc : Thread Cert.MlpLastIdeal.nD Cert.MlpLastIdeal.τ).loc Cert.MlpLastIdeal.main_arg6)
      ∧ r.2.mem ((c.tc : Thread Cert.MlpLastIdeal.nD Cert.MlpLastIdeal.τ).loc Cert.MlpLastIdeal.main_arg7) = m ((c.tc : Thread Cert.MlpLastIdeal.nD Cert.MlpLastIdeal.τ).loc Cert.MlpLastIdeal.main_arg7)
      ∧ r.2.mem ((c.tc : Thread Cert.MlpLastIdeal.nD Cert.MlpLastIdeal.τ).loc Cert.MlpLastIdeal.main_arg8) = m ((c.tc : Thread Cert.MlpLastIdeal.nD Cert.MlpLastIdeal.τ).loc Cert.MlpLastIdeal.main_arg8)
      ∧ r.2.mem ((c.tc : Thread Cert.MlpLastIdeal.nD Cert.MlpLastIdeal.τ).loc Cert.MlpLastIdeal.main_arg9) = m ((c.tc : Thread Cert.MlpLastIdeal.nD Cert.MlpLastIdeal.τ).loc Cert.MlpLastIdeal.main_arg9)
      ∧ r.2.mem ((c.tc : Thread Cert.MlpLastIdeal.nD Cert.MlpLastIdeal.τ).loc Cert.MlpLastIdeal.main_arg10) = m ((c.tc : Thread Cert.MlpLastIdeal.nD Cert.MlpLastIdeal.τ).loc Cert.MlpLastIdeal.main_arg10)
      ∧ r.2.mem ((c.tc : Thread Cert.MlpLastIdeal.nD Cert.MlpLastIdeal.τ).loc Cert.MlpLastIdeal.main_arg11) = m ((c.tc : Thread Cert.MlpLastIdeal.nD Cert.MlpLastIdeal.τ).loc Cert.MlpLastIdeal.main_arg11)
      ∧ r.2.mem ((c.tc : Thread Cert.MlpLastIdeal.nD Cert.MlpLastIdeal.τ).loc Cert.MlpLastIdeal.main_arg12) = m ((c.tc : Thread Cert.MlpLastIdeal.nD Cert.MlpLastIdeal.τ).loc Cert.MlpLastIdeal.main_arg12)
      ∧ r.2.mem ((c.tc : Thread Cert.MlpLastIdeal.nD Cert.MlpLastIdeal.τ).loc Cert.MlpLastIdeal.main_arg13) = m ((c.tc : Thread Cert.MlpLastIdeal.nD Cert.MlpLastIdeal.τ).loc Cert.MlpLastIdeal.main_arg13)
      ∧ r.2.mem ((c.tc : Thread Cert.MlpLastIdeal.nD Cert.MlpLastIdeal.τ).loc Cert.MlpLastIdeal.main_arg14) = m ((c.tc : Thread Cert.MlpLastIdeal.nD Cert.MlpLastIdeal.τ).loc Cert.MlpLastIdeal.main_arg14)
      ∧ r.2.mem ((c.tc : Thread Cert.MlpLastIdeal.nD Cert.MlpLastIdeal.τ).loc Cert.MlpLastIdeal.main_arg15) = m ((c.tc : Thread Cert.MlpLastIdeal.nD Cert.MlpLastIdeal.τ).loc Cert.MlpLastIdeal.main_arg15)
      ∧ r.2.mem ((c.tc : Thread Cert.MlpLastIdeal.nD Cert.MlpLastIdeal.τ).loc Cert.MlpLastIdeal.main_arg16) = m ((c.tc : Thread Cert.MlpLastIdeal.nD Cert.MlpLastIdeal.τ).loc Cert.MlpLastIdeal.main_arg16)
      ∧ r.2.mem ((c.tc : Thread Cert.MlpLastIdeal.nD Cert.MlpLastIdeal.τ).loc Cert.MlpLastIdeal.main_arg17) = m ((c.tc : Thread Cert.MlpLastIdeal.nD Cert.MlpLastIdeal.τ).loc Cert.MlpLastIdeal.main_arg17))
      ∧ r.2.sem = fun _ => 0)

def quiescent_MlpLastIdeal_pre_scales_2 [hMlpLastIdeal : Cert.MlpLastIdeal.Facts] [hPre_scales_2 : Cert.Pre_scales_2.Facts] : Prop :=
  ∀ (m : (ℓ : Loc Cert.MlpLastIdeal.nD Cert.MlpLastIdeal.τ Cert.MlpLastIdeal.sig) → Buf (Elt Ideal) ℓ) (g : Dev Cert.MlpLastIdeal.nD → PrngReg), Pre_MlpLastIdeal_scales_2 m →
    θ_run (Cert.MlpLastIdeal.defs (F := Ideal)) (onTc (τ := Cert.MlpLastIdeal.τ) (Cert.MlpLastIdeal.main (F := Ideal))) ⟨m, fun _ => 0, g⟩ (fun r => (∀ c : Dev Cert.MlpLastIdeal.nD,
      r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
      ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
      ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
      ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
      ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4)
      ∧ r.2.mem ((c.tc : Thread Cert.MlpLastIdeal.nD Cert.MlpLastIdeal.τ).loc Cert.MlpLastIdeal.main_arg5) = m ((c.tc : Thread Cert.MlpLastIdeal.nD Cert.MlpLastIdeal.τ).loc Cert.MlpLastIdeal.main_arg5)
      ∧ r.2.mem ((c.tc : Thread Cert.MlpLastIdeal.nD Cert.MlpLastIdeal.τ).loc Cert.MlpLastIdeal.main_arg6) = m ((c.tc : Thread Cert.MlpLastIdeal.nD Cert.MlpLastIdeal.τ).loc Cert.MlpLastIdeal.main_arg6)
      ∧ r.2.mem ((c.tc : Thread Cert.MlpLastIdeal.nD Cert.MlpLastIdeal.τ).loc Cert.MlpLastIdeal.main_arg7) = m ((c.tc : Thread Cert.MlpLastIdeal.nD Cert.MlpLastIdeal.τ).loc Cert.MlpLastIdeal.main_arg7)
      ∧ r.2.mem ((c.tc : Thread Cert.MlpLastIdeal.nD Cert.MlpLastIdeal.τ).loc Cert.MlpLastIdeal.main_arg8) = m ((c.tc : Thread Cert.MlpLastIdeal.nD Cert.MlpLastIdeal.τ).loc Cert.MlpLastIdeal.main_arg8)
      ∧ r.2.mem ((c.tc : Thread Cert.MlpLastIdeal.nD Cert.MlpLastIdeal.τ).loc Cert.MlpLastIdeal.main_arg9) = m ((c.tc : Thread Cert.MlpLastIdeal.nD Cert.MlpLastIdeal.τ).loc Cert.MlpLastIdeal.main_arg9)
      ∧ r.2.mem ((c.tc : Thread Cert.MlpLastIdeal.nD Cert.MlpLastIdeal.τ).loc Cert.MlpLastIdeal.main_arg10) = m ((c.tc : Thread Cert.MlpLastIdeal.nD Cert.MlpLastIdeal.τ).loc Cert.MlpLastIdeal.main_arg10)
      ∧ r.2.mem ((c.tc : Thread Cert.MlpLastIdeal.nD Cert.MlpLastIdeal.τ).loc Cert.MlpLastIdeal.main_arg11) = m ((c.tc : Thread Cert.MlpLastIdeal.nD Cert.MlpLastIdeal.τ).loc Cert.MlpLastIdeal.main_arg11)
      ∧ r.2.mem ((c.tc : Thread Cert.MlpLastIdeal.nD Cert.MlpLastIdeal.τ).loc Cert.MlpLastIdeal.main_arg12) = m ((c.tc : Thread Cert.MlpLastIdeal.nD Cert.MlpLastIdeal.τ).loc Cert.MlpLastIdeal.main_arg12)
      ∧ r.2.mem ((c.tc : Thread Cert.MlpLastIdeal.nD Cert.MlpLastIdeal.τ).loc Cert.MlpLastIdeal.main_arg13) = m ((c.tc : Thread Cert.MlpLastIdeal.nD Cert.MlpLastIdeal.τ).loc Cert.MlpLastIdeal.main_arg13)
      ∧ r.2.mem ((c.tc : Thread Cert.MlpLastIdeal.nD Cert.MlpLastIdeal.τ).loc Cert.MlpLastIdeal.main_arg14) = m ((c.tc : Thread Cert.MlpLastIdeal.nD Cert.MlpLastIdeal.τ).loc Cert.MlpLastIdeal.main_arg14)
      ∧ r.2.mem ((c.tc : Thread Cert.MlpLastIdeal.nD Cert.MlpLastIdeal.τ).loc Cert.MlpLastIdeal.main_arg15) = m ((c.tc : Thread Cert.MlpLastIdeal.nD Cert.MlpLastIdeal.τ).loc Cert.MlpLastIdeal.main_arg15)
      ∧ r.2.mem ((c.tc : Thread Cert.MlpLastIdeal.nD Cert.MlpLastIdeal.τ).loc Cert.MlpLastIdeal.main_arg16) = m ((c.tc : Thread Cert.MlpLastIdeal.nD Cert.MlpLastIdeal.τ).loc Cert.MlpLastIdeal.main_arg16)
      ∧ r.2.mem ((c.tc : Thread Cert.MlpLastIdeal.nD Cert.MlpLastIdeal.τ).loc Cert.MlpLastIdeal.main_arg17) = m ((c.tc : Thread Cert.MlpLastIdeal.nD Cert.MlpLastIdeal.τ).loc Cert.MlpLastIdeal.main_arg17))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_scale_codes [hAttnIdeal : Cert.AttnIdeal.Facts] [hPre_scale_codes : Cert.Pre_scale_codes.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scale_codes m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13)
      ∧ r.2.mem ((c.tc : Thread Cert.MlpRefIdeal.nD Cert.MlpRefIdeal.τ).loc Cert.MlpRefIdeal.main_arg14) = m ((c.tc : Thread Cert.MlpRefIdeal.nD Cert.MlpRefIdeal.τ).loc Cert.MlpRefIdeal.main_arg14)
      ∧ r.2.mem ((c.tc : Thread Cert.MlpRefIdeal.nD Cert.MlpRefIdeal.τ).loc Cert.MlpRefIdeal.main_arg15) = m ((c.tc : Thread Cert.MlpRefIdeal.nD Cert.MlpRefIdeal.τ).loc Cert.MlpRefIdeal.main_arg15)
      ∧ r.2.mem ((c.tc : Thread Cert.MlpRefIdeal.nD Cert.MlpRefIdeal.τ).loc Cert.MlpRefIdeal.main_arg16) = m ((c.tc : Thread Cert.MlpRefIdeal.nD Cert.MlpRefIdeal.τ).loc Cert.MlpRefIdeal.main_arg16)
      ∧ r.2.mem ((c.tc : Thread Cert.MlpRefIdeal.nD Cert.MlpRefIdeal.τ).loc Cert.MlpRefIdeal.main_arg17) = m ((c.tc : Thread Cert.MlpRefIdeal.nD Cert.MlpRefIdeal.τ).loc Cert.MlpRefIdeal.main_arg17)
      ∧ r.2.mem ((c.tc : Thread Cert.MlpRefIdeal.nD Cert.MlpRefIdeal.τ).loc Cert.MlpRefIdeal.main_arg18) = m ((c.tc : Thread Cert.MlpRefIdeal.nD Cert.MlpRefIdeal.τ).loc Cert.MlpRefIdeal.main_arg18))
      ∧ r.2.sem = fun _ => 0)

def quiescent_MlpRefIdeal_pre_scales_1 [hMlpRefIdeal : Cert.MlpRefIdeal.Facts] [hPre_scales_1 : Cert.Pre_scales_1.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_scales_1 m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13)
      ∧ r.2.mem ((c.tc : Thread Cert.MlpRefIdeal.nD Cert.MlpRefIdeal.τ).loc Cert.MlpRefIdeal.main_arg14) = m ((c.tc : Thread Cert.MlpRefIdeal.nD Cert.MlpRefIdeal.τ).loc Cert.MlpRefIdeal.main_arg14)
      ∧ r.2.mem ((c.tc : Thread Cert.MlpRefIdeal.nD Cert.MlpRefIdeal.τ).loc Cert.MlpRefIdeal.main_arg15) = m ((c.tc : Thread Cert.MlpRefIdeal.nD Cert.MlpRefIdeal.τ).loc Cert.MlpRefIdeal.main_arg15)
      ∧ r.2.mem ((c.tc : Thread Cert.MlpRefIdeal.nD Cert.MlpRefIdeal.τ).loc Cert.MlpRefIdeal.main_arg16) = m ((c.tc : Thread Cert.MlpRefIdeal.nD Cert.MlpRefIdeal.τ).loc Cert.MlpRefIdeal.main_arg16)
      ∧ r.2.mem ((c.tc : Thread Cert.MlpRefIdeal.nD Cert.MlpRefIdeal.τ).loc Cert.MlpRefIdeal.main_arg17) = m ((c.tc : Thread Cert.MlpRefIdeal.nD Cert.MlpRefIdeal.τ).loc Cert.MlpRefIdeal.main_arg17)
      ∧ r.2.mem ((c.tc : Thread Cert.MlpRefIdeal.nD Cert.MlpRefIdeal.τ).loc Cert.MlpRefIdeal.main_arg18) = m ((c.tc : Thread Cert.MlpRefIdeal.nD Cert.MlpRefIdeal.τ).loc Cert.MlpRefIdeal.main_arg18))
      ∧ r.2.sem = fun _ => 0)

def quiescent_MlpLastRefIdeal [hMlpLastRefIdeal : Cert.MlpLastRefIdeal.Facts] : Prop :=
  ∀ (m : (ℓ : Loc Cert.MlpLastRefIdeal.nD Cert.MlpLastRefIdeal.τ Cert.MlpLastRefIdeal.sig) → Buf (Elt Ideal) ℓ) (g : Dev Cert.MlpLastRefIdeal.nD → PrngReg), Pre_MlpLastRefIdeal m →
    θ_run (Cert.MlpLastRefIdeal.defs (F := Ideal)) (onTc (τ := Cert.MlpLastRefIdeal.τ) (Cert.MlpLastRefIdeal.main (F := Ideal))) ⟨m, fun _ => 0, g⟩ (fun r => (∀ c : Dev Cert.MlpLastRefIdeal.nD,
      r.2.mem ((c.tc : Thread Cert.MlpLastRefIdeal.nD Cert.MlpLastRefIdeal.τ).loc Cert.MlpLastRefIdeal.main_arg0) = m ((c.tc : Thread Cert.MlpLastRefIdeal.nD Cert.MlpLastRefIdeal.τ).loc Cert.MlpLastRefIdeal.main_arg0)
      ∧ r.2.mem ((c.tc : Thread Cert.MlpLastRefIdeal.nD Cert.MlpLastRefIdeal.τ).loc Cert.MlpLastRefIdeal.main_arg1) = m ((c.tc : Thread Cert.MlpLastRefIdeal.nD Cert.MlpLastRefIdeal.τ).loc Cert.MlpLastRefIdeal.main_arg1)
      ∧ r.2.mem ((c.tc : Thread Cert.MlpLastRefIdeal.nD Cert.MlpLastRefIdeal.τ).loc Cert.MlpLastRefIdeal.main_arg2) = m ((c.tc : Thread Cert.MlpLastRefIdeal.nD Cert.MlpLastRefIdeal.τ).loc Cert.MlpLastRefIdeal.main_arg2)
      ∧ r.2.mem ((c.tc : Thread Cert.MlpLastRefIdeal.nD Cert.MlpLastRefIdeal.τ).loc Cert.MlpLastRefIdeal.main_arg3) = m ((c.tc : Thread Cert.MlpLastRefIdeal.nD Cert.MlpLastRefIdeal.τ).loc Cert.MlpLastRefIdeal.main_arg3)
      ∧ r.2.mem ((c.tc : Thread Cert.MlpLastRefIdeal.nD Cert.MlpLastRefIdeal.τ).loc Cert.MlpLastRefIdeal.main_arg4) = m ((c.tc : Thread Cert.MlpLastRefIdeal.nD Cert.MlpLastRefIdeal.τ).loc Cert.MlpLastRefIdeal.main_arg4)
      ∧ r.2.mem ((c.tc : Thread Cert.MlpLastRefIdeal.nD Cert.MlpLastRefIdeal.τ).loc Cert.MlpLastRefIdeal.main_arg5) = m ((c.tc : Thread Cert.MlpLastRefIdeal.nD Cert.MlpLastRefIdeal.τ).loc Cert.MlpLastRefIdeal.main_arg5)
      ∧ r.2.mem ((c.tc : Thread Cert.MlpLastRefIdeal.nD Cert.MlpLastRefIdeal.τ).loc Cert.MlpLastRefIdeal.main_arg6) = m ((c.tc : Thread Cert.MlpLastRefIdeal.nD Cert.MlpLastRefIdeal.τ).loc Cert.MlpLastRefIdeal.main_arg6)
      ∧ r.2.mem ((c.tc : Thread Cert.MlpLastRefIdeal.nD Cert.MlpLastRefIdeal.τ).loc Cert.MlpLastRefIdeal.main_arg7) = m ((c.tc : Thread Cert.MlpLastRefIdeal.nD Cert.MlpLastRefIdeal.τ).loc Cert.MlpLastRefIdeal.main_arg7)
      ∧ r.2.mem ((c.tc : Thread Cert.MlpLastRefIdeal.nD Cert.MlpLastRefIdeal.τ).loc Cert.MlpLastRefIdeal.main_arg8) = m ((c.tc : Thread Cert.MlpLastRefIdeal.nD Cert.MlpLastRefIdeal.τ).loc Cert.MlpLastRefIdeal.main_arg8)
      ∧ r.2.mem ((c.tc : Thread Cert.MlpLastRefIdeal.nD Cert.MlpLastRefIdeal.τ).loc Cert.MlpLastRefIdeal.main_arg9) = m ((c.tc : Thread Cert.MlpLastRefIdeal.nD Cert.MlpLastRefIdeal.τ).loc Cert.MlpLastRefIdeal.main_arg9)
      ∧ r.2.mem ((c.tc : Thread Cert.MlpLastRefIdeal.nD Cert.MlpLastRefIdeal.τ).loc Cert.MlpLastRefIdeal.main_arg10) = m ((c.tc : Thread Cert.MlpLastRefIdeal.nD Cert.MlpLastRefIdeal.τ).loc Cert.MlpLastRefIdeal.main_arg10)
      ∧ r.2.mem ((c.tc : Thread Cert.MlpLastRefIdeal.nD Cert.MlpLastRefIdeal.τ).loc Cert.MlpLastRefIdeal.main_arg11) = m ((c.tc : Thread Cert.MlpLastRefIdeal.nD Cert.MlpLastRefIdeal.τ).loc Cert.MlpLastRefIdeal.main_arg11)
      ∧ r.2.mem ((c.tc : Thread Cert.MlpLastRefIdeal.nD Cert.MlpLastRefIdeal.τ).loc Cert.MlpLastRefIdeal.main_arg12) = m ((c.tc : Thread Cert.MlpLastRefIdeal.nD Cert.MlpLastRefIdeal.τ).loc Cert.MlpLastRefIdeal.main_arg12)
      ∧ r.2.mem ((c.tc : Thread Cert.MlpLastRefIdeal.nD Cert.MlpLastRefIdeal.τ).loc Cert.MlpLastRefIdeal.main_arg13) = m ((c.tc : Thread Cert.MlpLastRefIdeal.nD Cert.MlpLastRefIdeal.τ).loc Cert.MlpLastRefIdeal.main_arg13)
      ∧ r.2.mem ((c.tc : Thread Cert.MlpLastRefIdeal.nD Cert.MlpLastRefIdeal.τ).loc Cert.MlpLastRefIdeal.main_arg14) = m ((c.tc : Thread Cert.MlpLastRefIdeal.nD Cert.MlpLastRefIdeal.τ).loc Cert.MlpLastRefIdeal.main_arg14)
      ∧ r.2.mem ((c.tc : Thread Cert.MlpLastRefIdeal.nD Cert.MlpLastRefIdeal.τ).loc Cert.MlpLastRefIdeal.main_arg15) = m ((c.tc : Thread Cert.MlpLastRefIdeal.nD Cert.MlpLastRefIdeal.τ).loc Cert.MlpLastRefIdeal.main_arg15)
      ∧ r.2.mem ((c.tc : Thread Cert.MlpLastRefIdeal.nD Cert.MlpLastRefIdeal.τ).loc Cert.MlpLastRefIdeal.main_arg16) = m ((c.tc : Thread Cert.MlpLastRefIdeal.nD Cert.MlpLastRefIdeal.τ).loc Cert.MlpLastRefIdeal.main_arg16)
      ∧ r.2.mem ((c.tc : Thread Cert.MlpLastRefIdeal.nD Cert.MlpLastRefIdeal.τ).loc Cert.MlpLastRefIdeal.main_arg17) = m ((c.tc : Thread Cert.MlpLastRefIdeal.nD Cert.MlpLastRefIdeal.τ).loc Cert.MlpLastRefIdeal.main_arg17))
      ∧ r.2.sem = fun _ => 0)

def quiescent_MlpLastRefIdeal_pre_scales_2 [hMlpLastRefIdeal : Cert.MlpLastRefIdeal.Facts] [hPre_scales_2 : Cert.Pre_scales_2.Facts] : Prop :=
  ∀ (m : (ℓ : Loc Cert.MlpLastRefIdeal.nD Cert.MlpLastRefIdeal.τ Cert.MlpLastRefIdeal.sig) → Buf (Elt Ideal) ℓ) (g : Dev Cert.MlpLastRefIdeal.nD → PrngReg), Pre_MlpLastRefIdeal_scales_2 m →
    θ_run (Cert.MlpLastRefIdeal.defs (F := Ideal)) (onTc (τ := Cert.MlpLastRefIdeal.τ) (Cert.MlpLastRefIdeal.main (F := Ideal))) ⟨m, fun _ => 0, g⟩ (fun r => (∀ c : Dev Cert.MlpLastRefIdeal.nD,
      r.2.mem ((c.tc : Thread Cert.MlpLastRefIdeal.nD Cert.MlpLastRefIdeal.τ).loc Cert.MlpLastRefIdeal.main_arg0) = m ((c.tc : Thread Cert.MlpLastRefIdeal.nD Cert.MlpLastRefIdeal.τ).loc Cert.MlpLastRefIdeal.main_arg0)
      ∧ r.2.mem ((c.tc : Thread Cert.MlpLastRefIdeal.nD Cert.MlpLastRefIdeal.τ).loc Cert.MlpLastRefIdeal.main_arg1) = m ((c.tc : Thread Cert.MlpLastRefIdeal.nD Cert.MlpLastRefIdeal.τ).loc Cert.MlpLastRefIdeal.main_arg1)
      ∧ r.2.mem ((c.tc : Thread Cert.MlpLastRefIdeal.nD Cert.MlpLastRefIdeal.τ).loc Cert.MlpLastRefIdeal.main_arg2) = m ((c.tc : Thread Cert.MlpLastRefIdeal.nD Cert.MlpLastRefIdeal.τ).loc Cert.MlpLastRefIdeal.main_arg2)
      ∧ r.2.mem ((c.tc : Thread Cert.MlpLastRefIdeal.nD Cert.MlpLastRefIdeal.τ).loc Cert.MlpLastRefIdeal.main_arg3) = m ((c.tc : Thread Cert.MlpLastRefIdeal.nD Cert.MlpLastRefIdeal.τ).loc Cert.MlpLastRefIdeal.main_arg3)
      ∧ r.2.mem ((c.tc : Thread Cert.MlpLastRefIdeal.nD Cert.MlpLastRefIdeal.τ).loc Cert.MlpLastRefIdeal.main_arg4) = m ((c.tc : Thread Cert.MlpLastRefIdeal.nD Cert.MlpLastRefIdeal.τ).loc Cert.MlpLastRefIdeal.main_arg4)
      ∧ r.2.mem ((c.tc : Thread Cert.MlpLastRefIdeal.nD Cert.MlpLastRefIdeal.τ).loc Cert.MlpLastRefIdeal.main_arg5) = m ((c.tc : Thread Cert.MlpLastRefIdeal.nD Cert.MlpLastRefIdeal.τ).loc Cert.MlpLastRefIdeal.main_arg5)
      ∧ r.2.mem ((c.tc : Thread Cert.MlpLastRefIdeal.nD Cert.MlpLastRefIdeal.τ).loc Cert.MlpLastRefIdeal.main_arg6) = m ((c.tc : Thread Cert.MlpLastRefIdeal.nD Cert.MlpLastRefIdeal.τ).loc Cert.MlpLastRefIdeal.main_arg6)
      ∧ r.2.mem ((c.tc : Thread Cert.MlpLastRefIdeal.nD Cert.MlpLastRefIdeal.τ).loc Cert.MlpLastRefIdeal.main_arg7) = m ((c.tc : Thread Cert.MlpLastRefIdeal.nD Cert.MlpLastRefIdeal.τ).loc Cert.MlpLastRefIdeal.main_arg7)
      ∧ r.2.mem ((c.tc : Thread Cert.MlpLastRefIdeal.nD Cert.MlpLastRefIdeal.τ).loc Cert.MlpLastRefIdeal.main_arg8) = m ((c.tc : Thread Cert.MlpLastRefIdeal.nD Cert.MlpLastRefIdeal.τ).loc Cert.MlpLastRefIdeal.main_arg8)
      ∧ r.2.mem ((c.tc : Thread Cert.MlpLastRefIdeal.nD Cert.MlpLastRefIdeal.τ).loc Cert.MlpLastRefIdeal.main_arg9) = m ((c.tc : Thread Cert.MlpLastRefIdeal.nD Cert.MlpLastRefIdeal.τ).loc Cert.MlpLastRefIdeal.main_arg9)
      ∧ r.2.mem ((c.tc : Thread Cert.MlpLastRefIdeal.nD Cert.MlpLastRefIdeal.τ).loc Cert.MlpLastRefIdeal.main_arg10) = m ((c.tc : Thread Cert.MlpLastRefIdeal.nD Cert.MlpLastRefIdeal.τ).loc Cert.MlpLastRefIdeal.main_arg10)
      ∧ r.2.mem ((c.tc : Thread Cert.MlpLastRefIdeal.nD Cert.MlpLastRefIdeal.τ).loc Cert.MlpLastRefIdeal.main_arg11) = m ((c.tc : Thread Cert.MlpLastRefIdeal.nD Cert.MlpLastRefIdeal.τ).loc Cert.MlpLastRefIdeal.main_arg11)
      ∧ r.2.mem ((c.tc : Thread Cert.MlpLastRefIdeal.nD Cert.MlpLastRefIdeal.τ).loc Cert.MlpLastRefIdeal.main_arg12) = m ((c.tc : Thread Cert.MlpLastRefIdeal.nD Cert.MlpLastRefIdeal.τ).loc Cert.MlpLastRefIdeal.main_arg12)
      ∧ r.2.mem ((c.tc : Thread Cert.MlpLastRefIdeal.nD Cert.MlpLastRefIdeal.τ).loc Cert.MlpLastRefIdeal.main_arg13) = m ((c.tc : Thread Cert.MlpLastRefIdeal.nD Cert.MlpLastRefIdeal.τ).loc Cert.MlpLastRefIdeal.main_arg13)
      ∧ r.2.mem ((c.tc : Thread Cert.MlpLastRefIdeal.nD Cert.MlpLastRefIdeal.τ).loc Cert.MlpLastRefIdeal.main_arg14) = m ((c.tc : Thread Cert.MlpLastRefIdeal.nD Cert.MlpLastRefIdeal.τ).loc Cert.MlpLastRefIdeal.main_arg14)
      ∧ r.2.mem ((c.tc : Thread Cert.MlpLastRefIdeal.nD Cert.MlpLastRefIdeal.τ).loc Cert.MlpLastRefIdeal.main_arg15) = m ((c.tc : Thread Cert.MlpLastRefIdeal.nD Cert.MlpLastRefIdeal.τ).loc Cert.MlpLastRefIdeal.main_arg15)
      ∧ r.2.mem ((c.tc : Thread Cert.MlpLastRefIdeal.nD Cert.MlpLastRefIdeal.τ).loc Cert.MlpLastRefIdeal.main_arg16) = m ((c.tc : Thread Cert.MlpLastRefIdeal.nD Cert.MlpLastRefIdeal.τ).loc Cert.MlpLastRefIdeal.main_arg16)
      ∧ r.2.mem ((c.tc : Thread Cert.MlpLastRefIdeal.nD Cert.MlpLastRefIdeal.τ).loc Cert.MlpLastRefIdeal.main_arg17) = m ((c.tc : Thread Cert.MlpLastRefIdeal.nD Cert.MlpLastRefIdeal.τ).loc Cert.MlpLastRefIdeal.main_arg17))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_AttnRefIdeal_pre_scale_codes [hAttnRefIdeal : Cert.AttnRefIdeal.Facts] [hPre_scale_codes : Cert.Pre_scale_codes.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_scale_codes m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def preserves_Mlp_MlpIdeal : Prop :=
  True

def preserves_MlpLast_MlpLastIdeal : Prop :=
  True

def preserves_Attn_AttnIdeal : Prop :=
  True

def algebraic_MlpIdeal_MlpRefIdeal_pre_scales_1 [hMlpIdeal : Cert.MlpIdeal.Facts] [hMlpRefIdeal : Cert.MlpRefIdeal.Facts] [hPre_scales_1 : Cert.Pre_scales_1.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_scales_1 m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)
      ∧ m' ((c.tc : Thread Cert.MlpRefIdeal.nD Cert.MlpRefIdeal.τ).loc Cert.MlpRefIdeal.main_arg12) = m ((c.tc : Thread Cert.MlpIdeal.nD Cert.MlpIdeal.τ).loc Cert.MlpIdeal.main_arg12)
      ∧ m' ((c.tc : Thread Cert.MlpRefIdeal.nD Cert.MlpRefIdeal.τ).loc Cert.MlpRefIdeal.main_arg13) = m ((c.tc : Thread Cert.MlpIdeal.nD Cert.MlpIdeal.τ).loc Cert.MlpIdeal.main_arg13)
      ∧ m' ((c.tc : Thread Cert.MlpRefIdeal.nD Cert.MlpRefIdeal.τ).loc Cert.MlpRefIdeal.main_arg14) = m ((c.tc : Thread Cert.MlpIdeal.nD Cert.MlpIdeal.τ).loc Cert.MlpIdeal.main_arg14)
      ∧ m' ((c.tc : Thread Cert.MlpRefIdeal.nD Cert.MlpRefIdeal.τ).loc Cert.MlpRefIdeal.main_arg15) = m ((c.tc : Thread Cert.MlpIdeal.nD Cert.MlpIdeal.τ).loc Cert.MlpIdeal.main_arg15)
      ∧ m' ((c.tc : Thread Cert.MlpRefIdeal.nD Cert.MlpRefIdeal.τ).loc Cert.MlpRefIdeal.main_arg16) = m ((c.tc : Thread Cert.MlpIdeal.nD Cert.MlpIdeal.τ).loc Cert.MlpIdeal.main_arg16)
      ∧ m' ((c.tc : Thread Cert.MlpRefIdeal.nD Cert.MlpRefIdeal.τ).loc Cert.MlpRefIdeal.main_arg17) = m ((c.tc : Thread Cert.MlpIdeal.nD Cert.MlpIdeal.τ).loc Cert.MlpIdeal.main_arg17)
      ∧ m' ((c.tc : Thread Cert.MlpRefIdeal.nD Cert.MlpRefIdeal.τ).loc Cert.MlpRefIdeal.main_arg18) = m ((c.tc : Thread Cert.MlpIdeal.nD Cert.MlpIdeal.τ).loc Cert.MlpIdeal.main_arg18)) →
    ∃ (v0 : (c : Dev Cert.MlpIdeal.nD) → Buf (Elt Ideal) ((c.tc : Thread Cert.MlpIdeal.nD Cert.MlpIdeal.τ).loc Cert.MlpIdeal.main_v8_0)) (v1 : (c : Dev Cert.MlpIdeal.nD) → Buf (Elt Ideal) ((c.tc : Thread Cert.MlpIdeal.nD Cert.MlpIdeal.τ).loc Cert.MlpIdeal.main_v8_1)) (v2 : (c : Dev Cert.MlpIdeal.nD) → Buf (Elt Ideal) ((c.tc : Thread Cert.MlpIdeal.nD Cert.MlpIdeal.τ).loc Cert.MlpIdeal.main_v8_2)) (v3 : (c : Dev Cert.MlpIdeal.nD) → Buf (Elt Ideal) ((c.tc : Thread Cert.MlpIdeal.nD Cert.MlpIdeal.τ).loc Cert.MlpIdeal.main_v8_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8_0) = v0 c
          ∧ r.2.mem ((c.tc : Thread Cert.MlpIdeal.nD Cert.MlpIdeal.τ).loc Cert.MlpIdeal.main_v8_1) = v1 c
          ∧ r.2.mem ((c.tc : Thread Cert.MlpIdeal.nD Cert.MlpIdeal.τ).loc Cert.MlpIdeal.main_v8_2) = v2 c
          ∧ r.2.mem ((c.tc : Thread Cert.MlpIdeal.nD Cert.MlpIdeal.τ).loc Cert.MlpIdeal.main_v8_3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
          ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
          ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14)
          ∧ r.2.mem ((c.tc : Thread Cert.MlpIdeal.nD Cert.MlpIdeal.τ).loc Cert.MlpIdeal.main_arg15) = m ((c.tc : Thread Cert.MlpIdeal.nD Cert.MlpIdeal.τ).loc Cert.MlpIdeal.main_arg15)
          ∧ r.2.mem ((c.tc : Thread Cert.MlpIdeal.nD Cert.MlpIdeal.τ).loc Cert.MlpIdeal.main_arg16) = m ((c.tc : Thread Cert.MlpIdeal.nD Cert.MlpIdeal.τ).loc Cert.MlpIdeal.main_arg16)
          ∧ r.2.mem ((c.tc : Thread Cert.MlpIdeal.nD Cert.MlpIdeal.τ).loc Cert.MlpIdeal.main_arg17) = m ((c.tc : Thread Cert.MlpIdeal.nD Cert.MlpIdeal.τ).loc Cert.MlpIdeal.main_arg17)
          ∧ r.2.mem ((c.tc : Thread Cert.MlpIdeal.nD Cert.MlpIdeal.τ).loc Cert.MlpIdeal.main_arg18) = m ((c.tc : Thread Cert.MlpIdeal.nD Cert.MlpIdeal.τ).loc Cert.MlpIdeal.main_arg18))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v16_0) = v0 c
          ∧ r.2.mem ((c.tc : Thread Cert.MlpRefIdeal.nD Cert.MlpRefIdeal.τ).loc Cert.MlpRefIdeal.main_v16_1) = v1 c
          ∧ r.2.mem ((c.tc : Thread Cert.MlpRefIdeal.nD Cert.MlpRefIdeal.τ).loc Cert.MlpRefIdeal.main_v16_2) = v2 c
          ∧ r.2.mem ((c.tc : Thread Cert.MlpRefIdeal.nD Cert.MlpRefIdeal.τ).loc Cert.MlpRefIdeal.main_v16_3) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11)
          ∧ r.2.mem ((c.tc : Thread Cert.MlpRefIdeal.nD Cert.MlpRefIdeal.τ).loc Cert.MlpRefIdeal.main_arg12) = m' ((c.tc : Thread Cert.MlpRefIdeal.nD Cert.MlpRefIdeal.τ).loc Cert.MlpRefIdeal.main_arg12)
          ∧ r.2.mem ((c.tc : Thread Cert.MlpRefIdeal.nD Cert.MlpRefIdeal.τ).loc Cert.MlpRefIdeal.main_arg13) = m' ((c.tc : Thread Cert.MlpRefIdeal.nD Cert.MlpRefIdeal.τ).loc Cert.MlpRefIdeal.main_arg13)
          ∧ r.2.mem ((c.tc : Thread Cert.MlpRefIdeal.nD Cert.MlpRefIdeal.τ).loc Cert.MlpRefIdeal.main_arg14) = m' ((c.tc : Thread Cert.MlpRefIdeal.nD Cert.MlpRefIdeal.τ).loc Cert.MlpRefIdeal.main_arg14)
          ∧ r.2.mem ((c.tc : Thread Cert.MlpRefIdeal.nD Cert.MlpRefIdeal.τ).loc Cert.MlpRefIdeal.main_arg15) = m' ((c.tc : Thread Cert.MlpRefIdeal.nD Cert.MlpRefIdeal.τ).loc Cert.MlpRefIdeal.main_arg15)
          ∧ r.2.mem ((c.tc : Thread Cert.MlpRefIdeal.nD Cert.MlpRefIdeal.τ).loc Cert.MlpRefIdeal.main_arg16) = m' ((c.tc : Thread Cert.MlpRefIdeal.nD Cert.MlpRefIdeal.τ).loc Cert.MlpRefIdeal.main_arg16)
          ∧ r.2.mem ((c.tc : Thread Cert.MlpRefIdeal.nD Cert.MlpRefIdeal.τ).loc Cert.MlpRefIdeal.main_arg17) = m' ((c.tc : Thread Cert.MlpRefIdeal.nD Cert.MlpRefIdeal.τ).loc Cert.MlpRefIdeal.main_arg17)
          ∧ r.2.mem ((c.tc : Thread Cert.MlpRefIdeal.nD Cert.MlpRefIdeal.τ).loc Cert.MlpRefIdeal.main_arg18) = m' ((c.tc : Thread Cert.MlpRefIdeal.nD Cert.MlpRefIdeal.τ).loc Cert.MlpRefIdeal.main_arg18))

def algebraic_MlpLastIdeal_MlpLastRefIdeal_pre_scales_2 [hMlpLastIdeal : Cert.MlpLastIdeal.Facts] [hMlpLastRefIdeal : Cert.MlpLastRefIdeal.Facts] [hPre_scales_2 : Cert.Pre_scales_2.Facts] : Prop :=
  ∀ (m : (ℓ : Loc Cert.MlpLastIdeal.nD Cert.MlpLastIdeal.τ Cert.MlpLastIdeal.sig) → Buf (Elt Ideal) ℓ) (g : Dev Cert.MlpLastIdeal.nD → PrngReg)
    (m' : (ℓ : Loc Cert.MlpLastRefIdeal.nD Cert.MlpLastRefIdeal.τ Cert.MlpLastRefIdeal.sig) → Buf (Elt Ideal) ℓ) (g' : Dev Cert.MlpLastRefIdeal.nD → PrngReg), Pre_MlpLastIdeal_scales_2 m →
    (∀ c : Dev Cert.MlpLastIdeal.nD,
      m' ((c.tc : Thread Cert.MlpLastRefIdeal.nD Cert.MlpLastRefIdeal.τ).loc Cert.MlpLastRefIdeal.main_arg0) = m ((c.tc : Thread Cert.MlpLastIdeal.nD Cert.MlpLastIdeal.τ).loc Cert.MlpLastIdeal.main_arg0)
      ∧ m' ((c.tc : Thread Cert.MlpLastRefIdeal.nD Cert.MlpLastRefIdeal.τ).loc Cert.MlpLastRefIdeal.main_arg1) = m ((c.tc : Thread Cert.MlpLastIdeal.nD Cert.MlpLastIdeal.τ).loc Cert.MlpLastIdeal.main_arg1)
      ∧ m' ((c.tc : Thread Cert.MlpLastRefIdeal.nD Cert.MlpLastRefIdeal.τ).loc Cert.MlpLastRefIdeal.main_arg2) = m ((c.tc : Thread Cert.MlpLastIdeal.nD Cert.MlpLastIdeal.τ).loc Cert.MlpLastIdeal.main_arg2)
      ∧ m' ((c.tc : Thread Cert.MlpLastRefIdeal.nD Cert.MlpLastRefIdeal.τ).loc Cert.MlpLastRefIdeal.main_arg3) = m ((c.tc : Thread Cert.MlpLastIdeal.nD Cert.MlpLastIdeal.τ).loc Cert.MlpLastIdeal.main_arg3)
      ∧ m' ((c.tc : Thread Cert.MlpLastRefIdeal.nD Cert.MlpLastRefIdeal.τ).loc Cert.MlpLastRefIdeal.main_arg4) = m ((c.tc : Thread Cert.MlpLastIdeal.nD Cert.MlpLastIdeal.τ).loc Cert.MlpLastIdeal.main_arg4)
      ∧ m' ((c.tc : Thread Cert.MlpLastRefIdeal.nD Cert.MlpLastRefIdeal.τ).loc Cert.MlpLastRefIdeal.main_arg5) = m ((c.tc : Thread Cert.MlpLastIdeal.nD Cert.MlpLastIdeal.τ).loc Cert.MlpLastIdeal.main_arg5)
      ∧ m' ((c.tc : Thread Cert.MlpLastRefIdeal.nD Cert.MlpLastRefIdeal.τ).loc Cert.MlpLastRefIdeal.main_arg6) = m ((c.tc : Thread Cert.MlpLastIdeal.nD Cert.MlpLastIdeal.τ).loc Cert.MlpLastIdeal.main_arg6)
      ∧ m' ((c.tc : Thread Cert.MlpLastRefIdeal.nD Cert.MlpLastRefIdeal.τ).loc Cert.MlpLastRefIdeal.main_arg7) = m ((c.tc : Thread Cert.MlpLastIdeal.nD Cert.MlpLastIdeal.τ).loc Cert.MlpLastIdeal.main_arg7)
      ∧ m' ((c.tc : Thread Cert.MlpLastRefIdeal.nD Cert.MlpLastRefIdeal.τ).loc Cert.MlpLastRefIdeal.main_arg8) = m ((c.tc : Thread Cert.MlpLastIdeal.nD Cert.MlpLastIdeal.τ).loc Cert.MlpLastIdeal.main_arg8)
      ∧ m' ((c.tc : Thread Cert.MlpLastRefIdeal.nD Cert.MlpLastRefIdeal.τ).loc Cert.MlpLastRefIdeal.main_arg9) = m ((c.tc : Thread Cert.MlpLastIdeal.nD Cert.MlpLastIdeal.τ).loc Cert.MlpLastIdeal.main_arg9)
      ∧ m' ((c.tc : Thread Cert.MlpLastRefIdeal.nD Cert.MlpLastRefIdeal.τ).loc Cert.MlpLastRefIdeal.main_arg10) = m ((c.tc : Thread Cert.MlpLastIdeal.nD Cert.MlpLastIdeal.τ).loc Cert.MlpLastIdeal.main_arg10)
      ∧ m' ((c.tc : Thread Cert.MlpLastRefIdeal.nD Cert.MlpLastRefIdeal.τ).loc Cert.MlpLastRefIdeal.main_arg11) = m ((c.tc : Thread Cert.MlpLastIdeal.nD Cert.MlpLastIdeal.τ).loc Cert.MlpLastIdeal.main_arg11)
      ∧ m' ((c.tc : Thread Cert.MlpLastRefIdeal.nD Cert.MlpLastRefIdeal.τ).loc Cert.MlpLastRefIdeal.main_arg12) = m ((c.tc : Thread Cert.MlpLastIdeal.nD Cert.MlpLastIdeal.τ).loc Cert.MlpLastIdeal.main_arg12)
      ∧ m' ((c.tc : Thread Cert.MlpLastRefIdeal.nD Cert.MlpLastRefIdeal.τ).loc Cert.MlpLastRefIdeal.main_arg13) = m ((c.tc : Thread Cert.MlpLastIdeal.nD Cert.MlpLastIdeal.τ).loc Cert.MlpLastIdeal.main_arg13)
      ∧ m' ((c.tc : Thread Cert.MlpLastRefIdeal.nD Cert.MlpLastRefIdeal.τ).loc Cert.MlpLastRefIdeal.main_arg14) = m ((c.tc : Thread Cert.MlpLastIdeal.nD Cert.MlpLastIdeal.τ).loc Cert.MlpLastIdeal.main_arg14)
      ∧ m' ((c.tc : Thread Cert.MlpLastRefIdeal.nD Cert.MlpLastRefIdeal.τ).loc Cert.MlpLastRefIdeal.main_arg15) = m ((c.tc : Thread Cert.MlpLastIdeal.nD Cert.MlpLastIdeal.τ).loc Cert.MlpLastIdeal.main_arg15)
      ∧ m' ((c.tc : Thread Cert.MlpLastRefIdeal.nD Cert.MlpLastRefIdeal.τ).loc Cert.MlpLastRefIdeal.main_arg16) = m ((c.tc : Thread Cert.MlpLastIdeal.nD Cert.MlpLastIdeal.τ).loc Cert.MlpLastIdeal.main_arg16)
      ∧ m' ((c.tc : Thread Cert.MlpLastRefIdeal.nD Cert.MlpLastRefIdeal.τ).loc Cert.MlpLastRefIdeal.main_arg17) = m ((c.tc : Thread Cert.MlpLastIdeal.nD Cert.MlpLastIdeal.τ).loc Cert.MlpLastIdeal.main_arg17)) →
    ∃ (v0 : (c : Dev Cert.MlpLastIdeal.nD) → Buf (Elt Ideal) ((c.tc : Thread Cert.MlpLastIdeal.nD Cert.MlpLastIdeal.τ).loc Cert.MlpLastIdeal.main_v7_0)) (v1 : (c : Dev Cert.MlpLastIdeal.nD) → Buf (Elt Ideal) ((c.tc : Thread Cert.MlpLastIdeal.nD Cert.MlpLastIdeal.τ).loc Cert.MlpLastIdeal.main_v7_1)) (v2 : (c : Dev Cert.MlpLastIdeal.nD) → Buf (Elt Ideal) ((c.tc : Thread Cert.MlpLastIdeal.nD Cert.MlpLastIdeal.τ).loc Cert.MlpLastIdeal.main_v7_2)),
      θ_run (Cert.MlpLastIdeal.defs (F := Ideal)) (onTc (τ := Cert.MlpLastIdeal.τ) (Cert.MlpLastIdeal.main (F := Ideal))) ⟨m, fun _ => 0, g⟩ (fun r => ∀ c : Dev Cert.MlpLastIdeal.nD,
          r.2.mem ((c.tc : Thread Cert.MlpLastIdeal.nD Cert.MlpLastIdeal.τ).loc Cert.MlpLastIdeal.main_v7_0) = v0 c
          ∧ r.2.mem ((c.tc : Thread Cert.MlpLastIdeal.nD Cert.MlpLastIdeal.τ).loc Cert.MlpLastIdeal.main_v7_1) = v1 c
          ∧ r.2.mem ((c.tc : Thread Cert.MlpLastIdeal.nD Cert.MlpLastIdeal.τ).loc Cert.MlpLastIdeal.main_v7_2) = v2 c
          ∧ r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
          ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
          ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
          ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
          ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4)
          ∧ r.2.mem ((c.tc : Thread Cert.MlpLastIdeal.nD Cert.MlpLastIdeal.τ).loc Cert.MlpLastIdeal.main_arg5) = m ((c.tc : Thread Cert.MlpLastIdeal.nD Cert.MlpLastIdeal.τ).loc Cert.MlpLastIdeal.main_arg5)
          ∧ r.2.mem ((c.tc : Thread Cert.MlpLastIdeal.nD Cert.MlpLastIdeal.τ).loc Cert.MlpLastIdeal.main_arg6) = m ((c.tc : Thread Cert.MlpLastIdeal.nD Cert.MlpLastIdeal.τ).loc Cert.MlpLastIdeal.main_arg6)
          ∧ r.2.mem ((c.tc : Thread Cert.MlpLastIdeal.nD Cert.MlpLastIdeal.τ).loc Cert.MlpLastIdeal.main_arg7) = m ((c.tc : Thread Cert.MlpLastIdeal.nD Cert.MlpLastIdeal.τ).loc Cert.MlpLastIdeal.main_arg7)
          ∧ r.2.mem ((c.tc : Thread Cert.MlpLastIdeal.nD Cert.MlpLastIdeal.τ).loc Cert.MlpLastIdeal.main_arg8) = m ((c.tc : Thread Cert.MlpLastIdeal.nD Cert.MlpLastIdeal.τ).loc Cert.MlpLastIdeal.main_arg8)
          ∧ r.2.mem ((c.tc : Thread Cert.MlpLastIdeal.nD Cert.MlpLastIdeal.τ).loc Cert.MlpLastIdeal.main_arg9) = m ((c.tc : Thread Cert.MlpLastIdeal.nD Cert.MlpLastIdeal.τ).loc Cert.MlpLastIdeal.main_arg9)
          ∧ r.2.mem ((c.tc : Thread Cert.MlpLastIdeal.nD Cert.MlpLastIdeal.τ).loc Cert.MlpLastIdeal.main_arg10) = m ((c.tc : Thread Cert.MlpLastIdeal.nD Cert.MlpLastIdeal.τ).loc Cert.MlpLastIdeal.main_arg10)
          ∧ r.2.mem ((c.tc : Thread Cert.MlpLastIdeal.nD Cert.MlpLastIdeal.τ).loc Cert.MlpLastIdeal.main_arg11) = m ((c.tc : Thread Cert.MlpLastIdeal.nD Cert.MlpLastIdeal.τ).loc Cert.MlpLastIdeal.main_arg11)
          ∧ r.2.mem ((c.tc : Thread Cert.MlpLastIdeal.nD Cert.MlpLastIdeal.τ).loc Cert.MlpLastIdeal.main_arg12) = m ((c.tc : Thread Cert.MlpLastIdeal.nD Cert.MlpLastIdeal.τ).loc Cert.MlpLastIdeal.main_arg12)
          ∧ r.2.mem ((c.tc : Thread Cert.MlpLastIdeal.nD Cert.MlpLastIdeal.τ).loc Cert.MlpLastIdeal.main_arg13) = m ((c.tc : Thread Cert.MlpLastIdeal.nD Cert.MlpLastIdeal.τ).loc Cert.MlpLastIdeal.main_arg13)
          ∧ r.2.mem ((c.tc : Thread Cert.MlpLastIdeal.nD Cert.MlpLastIdeal.τ).loc Cert.MlpLastIdeal.main_arg14) = m ((c.tc : Thread Cert.MlpLastIdeal.nD Cert.MlpLastIdeal.τ).loc Cert.MlpLastIdeal.main_arg14)
          ∧ r.2.mem ((c.tc : Thread Cert.MlpLastIdeal.nD Cert.MlpLastIdeal.τ).loc Cert.MlpLastIdeal.main_arg15) = m ((c.tc : Thread Cert.MlpLastIdeal.nD Cert.MlpLastIdeal.τ).loc Cert.MlpLastIdeal.main_arg15)
          ∧ r.2.mem ((c.tc : Thread Cert.MlpLastIdeal.nD Cert.MlpLastIdeal.τ).loc Cert.MlpLastIdeal.main_arg16) = m ((c.tc : Thread Cert.MlpLastIdeal.nD Cert.MlpLastIdeal.τ).loc Cert.MlpLastIdeal.main_arg16)
          ∧ r.2.mem ((c.tc : Thread Cert.MlpLastIdeal.nD Cert.MlpLastIdeal.τ).loc Cert.MlpLastIdeal.main_arg17) = m ((c.tc : Thread Cert.MlpLastIdeal.nD Cert.MlpLastIdeal.τ).loc Cert.MlpLastIdeal.main_arg17))
      ∧ θ_run (Cert.MlpLastRefIdeal.defs (F := Ideal)) (onTc (τ := Cert.MlpLastRefIdeal.τ) (Cert.MlpLastRefIdeal.main (F := Ideal))) ⟨m', fun _ => 0, g'⟩ (fun r => ∀ c : Dev Cert.MlpLastRefIdeal.nD,
          r.2.mem ((c.tc : Thread Cert.MlpLastRefIdeal.nD Cert.MlpLastRefIdeal.τ).loc Cert.MlpLastRefIdeal.main_v15_0) = v0 c
          ∧ r.2.mem ((c.tc : Thread Cert.MlpLastRefIdeal.nD Cert.MlpLastRefIdeal.τ).loc Cert.MlpLastRefIdeal.main_v15_1) = v1 c
          ∧ r.2.mem ((c.tc : Thread Cert.MlpLastRefIdeal.nD Cert.MlpLastRefIdeal.τ).loc Cert.MlpLastRefIdeal.main_v15_2) = v2 c
          ∧ r.2.mem ((c.tc : Thread Cert.MlpLastRefIdeal.nD Cert.MlpLastRefIdeal.τ).loc Cert.MlpLastRefIdeal.main_arg0) = m' ((c.tc : Thread Cert.MlpLastRefIdeal.nD Cert.MlpLastRefIdeal.τ).loc Cert.MlpLastRefIdeal.main_arg0)
          ∧ r.2.mem ((c.tc : Thread Cert.MlpLastRefIdeal.nD Cert.MlpLastRefIdeal.τ).loc Cert.MlpLastRefIdeal.main_arg1) = m' ((c.tc : Thread Cert.MlpLastRefIdeal.nD Cert.MlpLastRefIdeal.τ).loc Cert.MlpLastRefIdeal.main_arg1)
          ∧ r.2.mem ((c.tc : Thread Cert.MlpLastRefIdeal.nD Cert.MlpLastRefIdeal.τ).loc Cert.MlpLastRefIdeal.main_arg2) = m' ((c.tc : Thread Cert.MlpLastRefIdeal.nD Cert.MlpLastRefIdeal.τ).loc Cert.MlpLastRefIdeal.main_arg2)
          ∧ r.2.mem ((c.tc : Thread Cert.MlpLastRefIdeal.nD Cert.MlpLastRefIdeal.τ).loc Cert.MlpLastRefIdeal.main_arg3) = m' ((c.tc : Thread Cert.MlpLastRefIdeal.nD Cert.MlpLastRefIdeal.τ).loc Cert.MlpLastRefIdeal.main_arg3)
          ∧ r.2.mem ((c.tc : Thread Cert.MlpLastRefIdeal.nD Cert.MlpLastRefIdeal.τ).loc Cert.MlpLastRefIdeal.main_arg4) = m' ((c.tc : Thread Cert.MlpLastRefIdeal.nD Cert.MlpLastRefIdeal.τ).loc Cert.MlpLastRefIdeal.main_arg4)
          ∧ r.2.mem ((c.tc : Thread Cert.MlpLastRefIdeal.nD Cert.MlpLastRefIdeal.τ).loc Cert.MlpLastRefIdeal.main_arg5) = m' ((c.tc : Thread Cert.MlpLastRefIdeal.nD Cert.MlpLastRefIdeal.τ).loc Cert.MlpLastRefIdeal.main_arg5)
          ∧ r.2.mem ((c.tc : Thread Cert.MlpLastRefIdeal.nD Cert.MlpLastRefIdeal.τ).loc Cert.MlpLastRefIdeal.main_arg6) = m' ((c.tc : Thread Cert.MlpLastRefIdeal.nD Cert.MlpLastRefIdeal.τ).loc Cert.MlpLastRefIdeal.main_arg6)
          ∧ r.2.mem ((c.tc : Thread Cert.MlpLastRefIdeal.nD Cert.MlpLastRefIdeal.τ).loc Cert.MlpLastRefIdeal.main_arg7) = m' ((c.tc : Thread Cert.MlpLastRefIdeal.nD Cert.MlpLastRefIdeal.τ).loc Cert.MlpLastRefIdeal.main_arg7)
          ∧ r.2.mem ((c.tc : Thread Cert.MlpLastRefIdeal.nD Cert.MlpLastRefIdeal.τ).loc Cert.MlpLastRefIdeal.main_arg8) = m' ((c.tc : Thread Cert.MlpLastRefIdeal.nD Cert.MlpLastRefIdeal.τ).loc Cert.MlpLastRefIdeal.main_arg8)
          ∧ r.2.mem ((c.tc : Thread Cert.MlpLastRefIdeal.nD Cert.MlpLastRefIdeal.τ).loc Cert.MlpLastRefIdeal.main_arg9) = m' ((c.tc : Thread Cert.MlpLastRefIdeal.nD Cert.MlpLastRefIdeal.τ).loc Cert.MlpLastRefIdeal.main_arg9)
          ∧ r.2.mem ((c.tc : Thread Cert.MlpLastRefIdeal.nD Cert.MlpLastRefIdeal.τ).loc Cert.MlpLastRefIdeal.main_arg10) = m' ((c.tc : Thread Cert.MlpLastRefIdeal.nD Cert.MlpLastRefIdeal.τ).loc Cert.MlpLastRefIdeal.main_arg10)
          ∧ r.2.mem ((c.tc : Thread Cert.MlpLastRefIdeal.nD Cert.MlpLastRefIdeal.τ).loc Cert.MlpLastRefIdeal.main_arg11) = m' ((c.tc : Thread Cert.MlpLastRefIdeal.nD Cert.MlpLastRefIdeal.τ).loc Cert.MlpLastRefIdeal.main_arg11)
          ∧ r.2.mem ((c.tc : Thread Cert.MlpLastRefIdeal.nD Cert.MlpLastRefIdeal.τ).loc Cert.MlpLastRefIdeal.main_arg12) = m' ((c.tc : Thread Cert.MlpLastRefIdeal.nD Cert.MlpLastRefIdeal.τ).loc Cert.MlpLastRefIdeal.main_arg12)
          ∧ r.2.mem ((c.tc : Thread Cert.MlpLastRefIdeal.nD Cert.MlpLastRefIdeal.τ).loc Cert.MlpLastRefIdeal.main_arg13) = m' ((c.tc : Thread Cert.MlpLastRefIdeal.nD Cert.MlpLastRefIdeal.τ).loc Cert.MlpLastRefIdeal.main_arg13)
          ∧ r.2.mem ((c.tc : Thread Cert.MlpLastRefIdeal.nD Cert.MlpLastRefIdeal.τ).loc Cert.MlpLastRefIdeal.main_arg14) = m' ((c.tc : Thread Cert.MlpLastRefIdeal.nD Cert.MlpLastRefIdeal.τ).loc Cert.MlpLastRefIdeal.main_arg14)
          ∧ r.2.mem ((c.tc : Thread Cert.MlpLastRefIdeal.nD Cert.MlpLastRefIdeal.τ).loc Cert.MlpLastRefIdeal.main_arg15) = m' ((c.tc : Thread Cert.MlpLastRefIdeal.nD Cert.MlpLastRefIdeal.τ).loc Cert.MlpLastRefIdeal.main_arg15)
          ∧ r.2.mem ((c.tc : Thread Cert.MlpLastRefIdeal.nD Cert.MlpLastRefIdeal.τ).loc Cert.MlpLastRefIdeal.main_arg16) = m' ((c.tc : Thread Cert.MlpLastRefIdeal.nD Cert.MlpLastRefIdeal.τ).loc Cert.MlpLastRefIdeal.main_arg16)
          ∧ r.2.mem ((c.tc : Thread Cert.MlpLastRefIdeal.nD Cert.MlpLastRefIdeal.τ).loc Cert.MlpLastRefIdeal.main_arg17) = m' ((c.tc : Thread Cert.MlpLastRefIdeal.nD Cert.MlpLastRefIdeal.τ).loc Cert.MlpLastRefIdeal.main_arg17))

def algebraic_AttnIdeal_AttnRefIdeal_pre_scale_codes [hAttnIdeal : Cert.AttnIdeal.Facts] [hAttnRefIdeal : Cert.AttnRefIdeal.Facts] [hPre_scale_codes : Cert.Pre_scale_codes.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_scale_codes m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v15_0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v15_0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v2) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def Claim : Prop :=
  ∃ (hMlp : Cert.Mlp.Facts) (hMlpIdeal : Cert.MlpIdeal.Facts) (hMlpLast : Cert.MlpLast.Facts) (hMlpLastIdeal : Cert.MlpLastIdeal.Facts) (hAttn : Cert.Attn.Facts) (hAttnIdeal : Cert.AttnIdeal.Facts) (hMlpRefIdeal : Cert.MlpRefIdeal.Facts) (hMlpLastRefIdeal : Cert.MlpLastRefIdeal.Facts) (hAttnRefIdeal : Cert.AttnRefIdeal.Facts) (hPre_scales_1 : Cert.Pre_scales_1.Facts) (hPre_scales_2 : Cert.Pre_scales_2.Facts) (hPre_scale_codes : Cert.Pre_scale_codes.Facts),
    quiescent_Mlp (hMlp := hMlp)
    ∧ quiescent_MlpIdeal (hMlpIdeal := hMlpIdeal)
    ∧ quiescent_MlpIdeal_pre_scales_1 (hMlpIdeal := hMlpIdeal) (hPre_scales_1 := hPre_scales_1)
    ∧ quiescent_MlpLast (hMlpLast := hMlpLast)
    ∧ quiescent_MlpLastIdeal (hMlpLastIdeal := hMlpLastIdeal)
    ∧ quiescent_MlpLastIdeal_pre_scales_2 (hMlpLastIdeal := hMlpLastIdeal) (hPre_scales_2 := hPre_scales_2)
    ∧ quiescent_Attn (hAttn := hAttn)
    ∧ quiescent_AttnIdeal (hAttnIdeal := hAttnIdeal)
    ∧ quiescent_AttnIdeal_pre_scale_codes (hAttnIdeal := hAttnIdeal) (hPre_scale_codes := hPre_scale_codes)
    ∧ quiescent_MlpRefIdeal (hMlpRefIdeal := hMlpRefIdeal)
    ∧ quiescent_MlpRefIdeal_pre_scales_1 (hMlpRefIdeal := hMlpRefIdeal) (hPre_scales_1 := hPre_scales_1)
    ∧ quiescent_MlpLastRefIdeal (hMlpLastRefIdeal := hMlpLastRefIdeal)
    ∧ quiescent_MlpLastRefIdeal_pre_scales_2 (hMlpLastRefIdeal := hMlpLastRefIdeal) (hPre_scales_2 := hPre_scales_2)
    ∧ quiescent_AttnRefIdeal (hAttnRefIdeal := hAttnRefIdeal)
    ∧ quiescent_AttnRefIdeal_pre_scale_codes (hAttnRefIdeal := hAttnRefIdeal) (hPre_scale_codes := hPre_scale_codes)
    ∧ preserves_Mlp_MlpIdeal
    ∧ preserves_MlpLast_MlpLastIdeal
    ∧ preserves_Attn_AttnIdeal
    ∧ algebraic_MlpIdeal_MlpRefIdeal_pre_scales_1 (hMlpIdeal := hMlpIdeal) (hMlpRefIdeal := hMlpRefIdeal) (hPre_scales_1 := hPre_scales_1)
    ∧ algebraic_MlpLastIdeal_MlpLastRefIdeal_pre_scales_2 (hMlpLastIdeal := hMlpLastIdeal) (hMlpLastRefIdeal := hMlpLastRefIdeal) (hPre_scales_2 := hPre_scales_2)
    ∧ algebraic_AttnIdeal_AttnRefIdeal_pre_scale_codes (hAttnIdeal := hAttnIdeal) (hAttnRefIdeal := hAttnRefIdeal) (hPre_scale_codes := hPre_scale_codes)
-- ==== Pre_scale_codes.lean ====
abbrev S10x40x48x768 : Shape := ⟨4, ![10, 40, 48, 768]⟩
abbrev S768x2304 : Shape := ⟨2, ![768, 2304]⟩
abbrev S1 : Shape := ⟨1, ![1]⟩
abbrev S768 : Shape := ⟨1, ![768]⟩
abbrev S24 : Shape := ⟨1, ![24]⟩
abbrev S24x64x64 : Shape := ⟨3, ![24, 64, 64]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S10x40x48x768 .bf16) (main_arg1 : FVec F S768x2304 .fp8e4m3) (main_arg2 : FVec F S1 .f32) (main_arg3 : FVec F S1 .f32) (main_arg4 : FVec F S768 .f32) (main_arg5 : FVec F S768 .f32) (main_arg6 : FVec F S24 .f32) (main_arg7 : FVec F S24x64x64 .f32) (main_arg8 : FVec F S1 .f32) : IVec S1 1 :=
  let main_cst : FVec F S_ .f32 := constant S_ .f32 0x00000000#32
  let main_v0 : FVec F S1 .f32 := broadcastInDim S1 ![] bcast_S_S1 main_cst
  let main_v1 : IVec S1 1 := cmpf .une main_arg3 main_v0
  main_v1
-- ==== Pre_scales_1.lean ====
abbrev S10x40x48x768 : Shape := ⟨4, ![10, 40, 48, 768]⟩
abbrev S400x6x8x768 : Shape := ⟨4, ![400, 6, 8, 768]⟩
abbrev S768x768 : Shape := ⟨2, ![768, 768]⟩
abbrev S1 : Shape := ⟨1, ![1]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S10x40x48x768 .bf16) (main_arg1 : FVec F S400x6x8x768 .fp8e4m3) (main_arg2 : FVec F S768x768 .fp8e4m3) (main_arg3 : FVec F S1 .f32) (main_arg4 : FVec F S1 .f32) (main_arg5 : FVec F S768 .f32) (main_arg6 : FVec F S768 .f32) (main_arg7 : FVec F S768 .f32) (main_arg8 : FVec F S768x3072 .fp8e4m3) (main_arg9 : FVec F S1 .f32) (main_arg10 : FVec F S1 .f32) (main_arg11 : FVec F S3072 .f32) (main_arg12 : FVec F S3072x768 .fp8e4m3) (main_arg13 : FVec F S1 .f32) (main_arg14 : FVec F S1 .f32) (main_arg15 : FVec F S768 .f32) (main_arg16 : FVec F S768 .f32) (main_arg17 : FVec F S768 .f32) (main_arg18 : FVec F S1 .f32) : IVec S1 1 :=
  let main_cst : FVec F S_ .f32 := constant S_ .f32 0x00000000#32
  let main_v0 : FVec F S1 .f32 := broadcastInDim S1 ![] bcast_S_S1 main_cst
  let main_v1 : IVec S1 1 := cmpf .une main_arg10 main_v0
  let main_cst_0 : FVec F S_ .f32 := constant S_ .f32 0x00000000#32
  let main_v2 : FVec F S1 .f32 := broadcastInDim S1 ![] bcast_S_S1 main_cst_0
  let main_v3 : IVec S1 1 := cmpf .une main_arg14 main_v2
  let main_v4 : IVec S1 1 := andi main_v1 main_v3
  let main_cst_1 : FVec F S_ .f32 := constant S_ .f32 0x00000000#32
  let main_v5 : FVec F S1 .f32 := broadcastInDim S1 ![] bcast_S_S1 main_cst_1
  let main_v6 : IVec S1 1 := cmpf .une main_arg18 main_v5
  let main_v7 : IVec S1 1 := andi main_v4 main_v6
  main_v7
-- ==== Pre_scales_2.lean ====
abbrev S400x6x8x768 : Shape := ⟨4, ![400, 6, 8, 768]⟩
abbrev S768x768 : Shape := ⟨2, ![768, 768]⟩
abbrev S1 : Shape := ⟨1, ![1]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S400x6x8x768 .f32) (main_arg1 : FVec F S400x6x8x768 .fp8e4m3) (main_arg2 : FVec F S768x768 .fp8e4m3) (main_arg3 : FVec F S1 .f32) (main_arg4 : FVec F S1 .f32) (main_arg5 : FVec F S768 .f32) (main_arg6 : FVec F S768 .f32) (main_arg7 : FVec F S768 .f32) (main_arg8 : FVec F S768x3072 .fp8e4m3) (main_arg9 : FVec F S1 .f32) (main_arg10 : FVec F S1 .f32) (main_arg11 : FVec F S3072 .f32) (main_arg12 : FVec F S3072x768 .fp8e4m3) (main_arg13 : FVec F S1 .f32) (main_arg14 : FVec F S1 .f32) (main_arg15 : FVec F S768 .f32) (main_arg16 : FVec F S768 .f32) (main_arg17 : FVec F S768 .f32) : IVec S1 1 :=
  let main_cst : FVec F S_ .f32 := constant S_ .f32 0x00000000#32
  let main_v0 : FVec F S1 .f32 := broadcastInDim S1 ![] bcast_S_S1 main_cst
  let main_v1 : IVec S1 1 := cmpf .une main_arg10 main_v0
  let main_cst_0 : FVec F S_ .f32 := constant S_ .f32 0x00000000#32
  let main_v2 : FVec F S1 .f32 := broadcastInDim S1 ![] bcast_S_S1 main_cst_0
  let main_v3 : IVec S1 1 := cmpf .une main_arg14 main_v2
  let main_v4 : IVec S1 1 := andi main_v1 main_v3
  main_v4
-- ==== Mlp.lean ====
abbrev S10x40x48x768 : Shape := ⟨4, ![10, 40, 48, 768]⟩
abbrev S400x6x8x768 : Shape := ⟨4, ![400, 6, 8, 768]⟩
abbrev S768x768 : Shape := ⟨2, ![768, 768]⟩
abbrev S1 : Shape := ⟨1, ![1]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S1x768 : Shape := ⟨2, ![1, 768]⟩
abbrev S1x3072 : Shape := ⟨2, ![1, 3072]⟩
abbrev S400x6x8x3072 : Shape := ⟨4, ![400, 6, 8, 3072]⟩
abbrev S8x6x8x768 : Shape := ⟨4, ![8, 6, 8, 768]⟩
abbrev S8x6x8x3072 : Shape := ⟨4, ![8, 6, 8, 3072]⟩
abbrev S384x3072 : Shape := ⟨2, ![384, 3072]⟩
abbrev S384x768 : Shape := ⟨2, ![384, 768]⟩
abbrev S384 : Shape := ⟨1, ![384]⟩
abbrev S384x1 : Shape := ⟨2, ![384, 1]⟩
abbrev S1x128 : Shape := ⟨2, ![1, 128]⟩
abbrev S1x1 : Shape := ⟨2, ![1, 1]⟩
abbrev S768x512 : Shape := ⟨2, ![768, 512]⟩
abbrev S384x512 : Shape := ⟨2, ![384, 512]⟩
abbrev S1x512 : Shape := ⟨2, ![1, 512]⟩
abbrev S8x6x8x512 : Shape := ⟨4, ![8, 6, 8, 512]⟩

abbrev nBuf : Space → Nat
  | .hbm => 31
  | .vmem => 23
  | .smem => 7
  | _ => 0

abbrev bufTy : (tb : Table) → Fin (tcTables nBuf tb) → BufTy
  | .hbm, ⟨0, _⟩ => ⟨S10x40x48x768, .bf16⟩
  | .hbm, ⟨1, _⟩ => ⟨S400x6x8x768, .fp8e4m3⟩
  | .hbm, ⟨2, _⟩ => ⟨S768x768, .fp8e4m3⟩
  | .hbm, ⟨3, _⟩ => ⟨S1, .f32⟩
  | .hbm, ⟨4, _⟩ => ⟨S1, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768x3072, .fp8e4m3⟩
  | .hbm, ⟨9, _⟩ => ⟨S1, .f32⟩
  | .hbm, ⟨10, _⟩ => ⟨S1, .f32⟩
  | .hbm, ⟨11, _⟩ => ⟨S3072, .f32⟩
  | .hbm, ⟨12, _⟩ => ⟨S3072x768, .fp8e4m3⟩
  | .hbm, ⟨13, _⟩ => ⟨S1, .f32⟩
  | .hbm, ⟨14, _⟩ => ⟨S1, .f32⟩
  | .hbm, ⟨15, _⟩ => ⟨S768, .f32⟩
  | .hbm, ⟨16, _⟩ => ⟨S768, .f32⟩
  | .hbm, ⟨17, _⟩ => ⟨S768, .f32⟩
  | .hbm, ⟨18, _⟩ => ⟨S1, .f32⟩
  | .hbm, ⟨19, _⟩ => ⟨S400x6x8x768, .bf16⟩
  | .hbm, ⟨20, _⟩ => ⟨S1x768, .f32⟩
  | .hbm, ⟨21, _⟩ => ⟨S1x768, .f32⟩
  | .hbm, ⟨22, _⟩ => ⟨S1x768, .f32⟩
  | .hbm, ⟨23, _⟩ => ⟨S1x3072, .f32⟩
  | .hbm, ⟨24, _⟩ => ⟨S1x768, .f32⟩
  | .hbm, ⟨25, _⟩ => ⟨S1x768, .f32⟩
  | .hbm, ⟨26, _⟩ => ⟨S1x768, .f32⟩
  | .hbm, ⟨27, _⟩ => ⟨S400x6x8x768, .f32⟩
  | .hbm, ⟨28, _⟩ => ⟨S400x6x8x768, .fp8e4m3⟩
  | .hbm, ⟨29, _⟩ => ⟨S400x6x8x3072, .fp8e4m3⟩
  | .hbm, ⟨30, _⟩ => ⟨S400x6x8x768, .fp8e4m3⟩
  | .local _ .vmem, ⟨0, _⟩ => ⟨S8x6x8x768, .bf16⟩
  | .local _ .vmem, ⟨1, _⟩ => ⟨S8x6x8x768, .bf16⟩
  | .local _ .vmem, ⟨2, _⟩ => ⟨S8x6x8x768, .fp8e4m3⟩
  | .local _ .vmem, ⟨3, _⟩ => ⟨S8x6x8x768, .fp8e4m3⟩
  | .local _ .vmem, ⟨4, _⟩ => ⟨S768x768, .fp8e4m3⟩
  | .local _ .vmem, ⟨5, _⟩ => ⟨S768x3072, .fp8e4m3⟩
  | .local _ .vmem, ⟨6, _⟩ => ⟨S3072x768, .fp8e4m3⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x3072, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S8x6x8x768, .f32⟩
  | .local _ .vmem, ⟨15, _⟩ => ⟨S8x6x8x768, .f32⟩
  | .local _ .vmem, ⟨16, _⟩ => ⟨S8x6x8x768, .fp8e4m3⟩
  | .local _ .vmem, ⟨17, _⟩ => ⟨S8x6x8x768, .fp8e4m3⟩
  | .local _ .vmem, ⟨18, _⟩ => ⟨S8x6x8x3072, .fp8e4m3⟩
  | .local _ .vmem, ⟨19, _⟩ => ⟨S8x6x8x3072, .fp8e4m3⟩
  | .local _ .vmem, ⟨20, _⟩ => ⟨S8x6x8x768, .fp8e4m3⟩
  | .local _ .vmem, ⟨21, _⟩ => ⟨S8x6x8x768, .fp8e4m3⟩
  | .local _ .vmem, ⟨22, _⟩ => ⟨S384x3072, .fp8e4m3⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | .local _ .smem, ⟨6, _⟩ => ⟨S1, .f32⟩
  | _, _ => ⟨S10x40x48x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_v8_2 : Ref sig .tc := ⟨.hbm, 29, rfl⟩
abbrev main_v8_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg19_0 : Ref sig .tc := ⟨.vmem, 14, rfl⟩
abbrev cc0_stg19_1 : Ref sig .tc := ⟨.vmem, 15, rfl⟩
abbrev cc0_stg20_0 : Ref sig .tc := ⟨.vmem, 16, rfl⟩
abbrev cc0_stg20_1 : Ref sig .tc := ⟨.vmem, 17, rfl⟩
abbrev cc0_stg21_0 : Ref sig .tc := ⟨.vmem, 18, rfl⟩
abbrev cc0_stg21_1 : Ref sig .tc := ⟨.vmem, 19, rfl⟩
abbrev cc0_stg22_0 : Ref sig .tc := ⟨.vmem, 20, rfl⟩
abbrev cc0_stg22_1 : Ref sig .tc := ⟨.vmem, 21, rfl⟩
abbrev cc0_scratch0 : Ref sig .tc := ⟨.vmem, 22, rfl⟩
abbrev cc0_stg12_0 : Ref sig .tc := ⟨.smem, 0, rfl⟩
abbrev cc0_stg13_0 : Ref sig .tc := ⟨.smem, 1, rfl⟩
abbrev cc0_stg14_0 : Ref sig .tc := ⟨.smem, 2, rfl⟩
abbrev cc0_stg15_0 : Ref sig .tc := ⟨.smem, 3, rfl⟩
abbrev cc0_stg16_0 : Ref sig .tc := ⟨.smem, 4, rfl⟩
abbrev cc0_stg17_0 : Ref sig .tc := ⟨.smem, 5, rfl⟩
abbrev cc0_stg18_0 : Ref sig .tc := ⟨.smem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_21 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x6x8x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x6x8x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .smem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .smem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .smem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .smem S1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .smem S1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S8x6x8x768 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x6x8x768 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x6x8x3072 .fp8e4m3 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x6x8x768 .fp8e4m3 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== MlpLast.lean ====
abbrev S400x6x8x768 : Shape := ⟨4, ![400, 6, 8, 768]⟩
abbrev S768x768 : Shape := ⟨2, ![768, 768]⟩
abbrev S1 : Shape := ⟨1, ![1]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S1x768 : Shape := ⟨2, ![1, 768]⟩
abbrev S1x3072 : Shape := ⟨2, ![1, 3072]⟩
abbrev S400x6x8x3072 : Shape := ⟨4, ![400, 6, 8, 3072]⟩
abbrev S8x6x8x768 : Shape := ⟨4, ![8, 6, 8, 768]⟩
abbrev S8x6x8x3072 : Shape := ⟨4, ![8, 6, 8, 3072]⟩
abbrev S384x3072 : Shape := ⟨2, ![384, 3072]⟩
abbrev S384x768 : Shape := ⟨2, ![384, 768]⟩
abbrev S384 : Shape := ⟨1, ![384]⟩
abbrev S384x1 : Shape := ⟨2, ![384, 1]⟩
abbrev S1x128 : Shape := ⟨2, ![1, 128]⟩
abbrev S1x1 : Shape := ⟨2, ![1, 1]⟩
abbrev S768x512 : Shape := ⟨2, ![768, 512]⟩
abbrev S384x512 : Shape := ⟨2, ![384, 512]⟩
abbrev S1x512 : Shape := ⟨2, ![1, 512]⟩
abbrev S8x6x8x512 : Shape := ⟨4, ![8, 6, 8, 512]⟩

abbrev nBuf : Space → Nat
  | .hbm => 28
  | .vmem => 21
  | .smem => 6
  | _ => 0

abbrev bufTy : (tb : Table) → Fin (tcTables nBuf tb) → BufTy
  | .hbm, ⟨0, _⟩ => ⟨S400x6x8x768, .f32⟩
  | .hbm, ⟨1, _⟩ => ⟨S400x6x8x768, .fp8e4m3⟩
  | .hbm, ⟨2, _⟩ => ⟨S768x768, .fp8e4m3⟩
  | .hbm, ⟨3, _⟩ => ⟨S1, .f32⟩
  | .hbm, ⟨4, _⟩ => ⟨S1, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768x3072, .fp8e4m3⟩
  | .hbm, ⟨9, _⟩ => ⟨S1, .f32⟩
  | .hbm, ⟨10, _⟩ => ⟨S1, .f32⟩
  | .hbm, ⟨11, _⟩ => ⟨S3072, .f32⟩
  | .hbm, ⟨12, _⟩ => ⟨S3072x768, .fp8e4m3⟩
  | .hbm, ⟨13, _⟩ => ⟨S1, .f32⟩
  | .hbm, ⟨14, _⟩ => ⟨S1, .f32⟩
  | .hbm, ⟨15, _⟩ => ⟨S768, .f32⟩
  | .hbm, ⟨16, _⟩ => ⟨S768, .f32⟩
  | .hbm, ⟨17, _⟩ => ⟨S768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x3072, .f32⟩
  | .hbm, ⟨22, _⟩ => ⟨S1x768, .f32⟩
  | .hbm, ⟨23, _⟩ => ⟨S1x768, .f32⟩
  | .hbm, ⟨24, _⟩ => ⟨S1x768, .f32⟩
  | .hbm, ⟨25, _⟩ => ⟨S400x6x8x768, .bf16⟩
  | .hbm, ⟨26, _⟩ => ⟨S400x6x8x768, .fp8e4m3⟩
  | .hbm, ⟨27, _⟩ => ⟨S400x6x8x3072, .fp8e4m3⟩
  | .local _ .vmem, ⟨0, _⟩ => ⟨S8x6x8x768, .f32⟩
  | .local _ .vmem, ⟨1, _⟩ => ⟨S8x6x8x768, .f32⟩
  | .local _ .vmem, ⟨2, _⟩ => ⟨S8x6x8x768, .fp8e4m3⟩
  | .local _ .vmem, ⟨3, _⟩ => ⟨S8x6x8x768, .fp8e4m3⟩
  | .local _ .vmem, ⟨4, _⟩ => ⟨S768x768, .fp8e4m3⟩
  | .local _ .vmem, ⟨5, _⟩ => ⟨S768x3072, .fp8e4m3⟩
  | .local _ .vmem, ⟨6, _⟩ => ⟨S3072x768, .fp8e4m3⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x3072, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S8x6x8x768, .bf16⟩
  | .local _ .vmem, ⟨15, _⟩ => ⟨S8x6x8x768, .bf16⟩
  | .local _ .vmem, ⟨16, _⟩ => ⟨S8x6x8x768, .fp8e4m3⟩
  | .local _ .vmem, ⟨17, _⟩ => ⟨S8x6x8x768, .fp8e4m3⟩
  | .local _ .vmem, ⟨18, _⟩ => ⟨S8x6x8x3072, .fp8e4m3⟩
  | .local _ .vmem, ⟨19, _⟩ => ⟨S8x6x8x3072, .fp8e4m3⟩
  | .local _ .vmem, ⟨20, _⟩ => ⟨S384x3072, .fp8e4m3⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | _, _ => ⟨S400x6x8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7_0 : Ref sig .tc := ⟨.hbm, 25, rfl⟩
abbrev main_v7_1 : Ref sig .tc := ⟨.hbm, 26, rfl⟩
abbrev main_v7_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg18_0 : Ref sig .tc := ⟨.vmem, 14, rfl⟩
abbrev cc0_stg18_1 : Ref sig .tc := ⟨.vmem, 15, rfl⟩
abbrev cc0_stg19_0 : Ref sig .tc := ⟨.vmem, 16, rfl⟩
abbrev cc0_stg19_1 : Ref sig .tc := ⟨.vmem, 17, rfl⟩
abbrev cc0_stg20_0 : Ref sig .tc := ⟨.vmem, 18, rfl⟩
abbrev cc0_stg20_1 : Ref sig .tc := ⟨.vmem, 19, rfl⟩
abbrev cc0_scratch0 : Ref sig .tc := ⟨.vmem, 20, rfl⟩
abbrev cc0_stg12_0 : Ref sig .tc := ⟨.smem, 0, rfl⟩
abbrev cc0_stg13_0 : Ref sig .tc := ⟨.smem, 1, rfl⟩
abbrev cc0_stg14_0 : Ref sig .tc := ⟨.smem, 2, rfl⟩
abbrev cc0_stg15_0 : Ref sig .tc := ⟨.smem, 3, rfl⟩
abbrev cc0_stg16_0 : Ref sig .tc := ⟨.smem, 4, rfl⟩
abbrev cc0_stg17_0 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x6x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x6x8x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .smem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .smem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .smem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .smem S1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S8x6x8x768 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x6x8x768 .fp8e4m3 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x6x8x3072 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Attn.lean ====
abbrev S10x40x48x768 : Shape := ⟨4, ![10, 40, 48, 768]⟩
abbrev S768x2304 : Shape := ⟨2, ![768, 2304]⟩
abbrev S1 : Shape := ⟨1, ![1]⟩
abbrev S768 : Shape := ⟨1, ![768]⟩
abbrev S24 : Shape := ⟨1, ![24]⟩
abbrev S24x64x64 : Shape := ⟨3, ![24, 64, 64]⟩
abbrev S400x6x8x768 : Shape := ⟨4, ![400, 6, 8, 768]⟩
abbrev S2304x768 : Shape := ⟨2, ![2304, 768]⟩
abbrev S3x6x128x768 : Shape := ⟨4, ![3, 6, 128, 768]⟩
abbrev S6x3x128x768 : Shape := ⟨4, ![6, 3, 128, 768]⟩
abbrev S768x1 : Shape := ⟨2, ![768, 1]⟩
abbrev S768x128 : Shape := ⟨2, ![768, 128]⟩
abbrev S24x1 : Shape := ⟨2, ![24, 1]⟩
abbrev S24x128 : Shape := ⟨2, ![24, 128]⟩
abbrev S24x8x8x8x8 : Shape := ⟨5, ![24, 8, 8, 8, 8]⟩
abbrev S24x64x128 : Shape := ⟨3, ![24, 64, 128]⟩
abbrev S80x6x8x768 : Shape := ⟨4, ![80, 6, 8, 768]⟩
abbrev S256x768 : Shape := ⟨2, ![256, 768]⟩
abbrev S2304x256 : Shape := ⟨2, ![2304, 256]⟩
abbrev S1x128 : Shape := ⟨2, ![1, 128]⟩
abbrev S1x1 : Shape := ⟨2, ![1, 1]⟩
abbrev S64x128 : Shape := ⟨2, ![64, 128]⟩
abbrev S1x1x8x768 : Shape := ⟨4, ![1, 1, 8, 768]⟩
abbrev S8x768 : Shape := ⟨2, ![8, 768]⟩
abbrev S64x768 : Shape := ⟨2, ![64, 768]⟩
abbrev S32x128 : Shape := ⟨2, ![32, 128]⟩
abbrev S128 : Shape := ⟨1, ![128]⟩
abbrev S192x128 : Shape := ⟨2, ![192, 128]⟩
abbrev S128x128 : Shape := ⟨2, ![128, 128]⟩
abbrev S1x64x128 : Shape := ⟨3, ![1, 64, 128]⟩
abbrev S8x128 : Shape := ⟨2, ![8, 128]⟩
abbrev S1x1x8x128 : Shape := ⟨4, ![1, 1, 8, 128]⟩

abbrev nBuf : Space → Nat
  | .hbm => 26
  | .vmem => 14
  | .smem => 3
  | _ => 0

abbrev bufTy : (tb : Table) → Fin (tcTables nBuf tb) → BufTy
  | .hbm, ⟨0, _⟩ => ⟨S10x40x48x768, .bf16⟩
  | .hbm, ⟨1, _⟩ => ⟨S768x2304, .fp8e4m3⟩
  | .hbm, ⟨2, _⟩ => ⟨S1, .f32⟩
  | .hbm, ⟨3, _⟩ => ⟨S1, .f32⟩
  | .hbm, ⟨4, _⟩ => ⟨S768, .f32⟩
  | .hbm, ⟨5, _⟩ => ⟨S768, .f32⟩
  | .hbm, ⟨6, _⟩ => ⟨S24, .f32⟩
  | .hbm, ⟨7, _⟩ => ⟨S24x64x64, .f32⟩
  | .hbm, ⟨8, _⟩ => ⟨S1, .f32⟩
  | .hbm, ⟨9, _⟩ => ⟨S400x6x8x768, .bf16⟩
  | .hbm, ⟨10, _⟩ => ⟨S2304x768, .fp8e4m3⟩
  | .hbm, ⟨11, _⟩ => ⟨S3x6x128x768, .fp8e4m3⟩
  | .hbm, ⟨12, _⟩ => ⟨S6x3x128x768, .fp8e4m3⟩
  | .hbm, ⟨13, _⟩ => ⟨S2304x768, .fp8e4m3⟩
  | .hbm, ⟨14, _⟩ => ⟨S768x1, .f32⟩
  | .hbm, ⟨15, _⟩ => ⟨S768x128, .f32⟩
  | .hbm, ⟨16, _⟩ => ⟨S768x1, .f32⟩
  | .hbm, ⟨17, _⟩ => ⟨S768x128, .f32⟩
  | .hbm, ⟨18, _⟩ => ⟨S24x1, .f32⟩
  | .hbm, ⟨19, _⟩ => ⟨S24x128, .f32⟩
  | .hbm, ⟨20, _⟩ => ⟨S24x8x8x8x8, .f32⟩
  | .hbm, ⟨21, _⟩ => ⟨S24x64x64, .f32⟩
  | .hbm, ⟨22, _⟩ => ⟨S24x64x64, .f32⟩
  | .hbm, ⟨23, _⟩ => ⟨S24x64x128, .f32⟩
  | .hbm, ⟨24, _⟩ => ⟨S400x6x8x768, .fp8e4m3⟩
  | .hbm, ⟨25, _⟩ => ⟨S400x6x8x768, .fp8e4m3⟩
  | .local _ .vmem, ⟨0, _⟩ => ⟨S80x6x8x768, .bf16⟩
  | .local _ .vmem, ⟨1, _⟩ => ⟨S80x6x8x768, .bf16⟩
  | .local _ .vmem, ⟨2, _⟩ => ⟨S2304x768, .fp8e4m3⟩
  | .local _ .vmem, ⟨3, _⟩ => ⟨S768x128, .f32⟩
  | .local _ .vmem, ⟨4, _⟩ => ⟨S768x128, .f32⟩
  | .local _ .vmem, ⟨5, _⟩ => ⟨S24x128, .f32⟩
  | .local _ .vmem, ⟨6, _⟩ => ⟨S24x64x128, .f32⟩
  | .local _ .vmem, ⟨7, _⟩ => ⟨S80x6x8x768, .fp8e4m3⟩
  | .local _ .vmem, ⟨8, _⟩ => ⟨S80x6x8x768, .fp8e4m3⟩
  | .local _ .vmem, ⟨9, _⟩ => ⟨S80x6x8x768, .fp8e4m3⟩
  | .local _ .vmem, ⟨10, _⟩ => ⟨S80x6x8x768, .fp8e4m3⟩
  | .local _ .vmem, ⟨11, _⟩ => ⟨S24x64x128, .f32⟩
  | .local _ .vmem, ⟨12, _⟩ => ⟨S256x768, .fp8e4m3⟩
  | .local _ .vmem, ⟨13, _⟩ => ⟨S2304x256, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S10x40x48x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg9_0 : Ref sig .tc := ⟨.vmem, 7, rfl⟩
abbrev cc0_stg9_1 : Ref sig .tc := ⟨.vmem, 8, rfl⟩
abbrev cc0_stg10_0 : Ref sig .tc := ⟨.vmem, 9, rfl⟩
abbrev cc0_stg10_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg6_0 : Ref sig .tc := ⟨.smem, 0, rfl⟩
abbrev cc0_stg7_0 : Ref sig .tc := ⟨.smem, 1, rfl⟩
abbrev cc0_stg8_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32_5 : BitVec 32 := 0#32
  let c15_i32 : BitVec 32 := 15#32
  let v19 : BitVec 32 := Scalar.addi c0_i32_5 c15_i32
  let c1_i32 : BitVec 32 := 1#32
  ⟨c0_i32_5, v19, c1_i32⟩
def k0_off1 (k0_t1 : Fin k0_t1_loop.trips) (c0_i32_7 : BitVec 32) (c0_i32_32 : BitVec 32) : Fin 4 → Nat :=
  let c0_i32_5 : BitVec 32 := 0#32
  let c1_i32 : BitVec 32 := 1#32
  let arg15 : BitVec 32 := Scf.iv c0_i32_5 c1_i32 k0_t1
  let c4_i32 : BitVec 32 := 4#32
  let v20 : BitVec 32 := Scalar.muli arg15 c4_i32
  let v21 : BitVec 32 := Scalar.addi v20 c0_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c30_i32 : BitVec 32 := 30#32
  let c0_i32_10 : BitVec 32 := 0#32
  let v28 : BitVec 1 := Scalar.cmpi .sgt c30_i32 c0_i32_10
  let v29 : BitVec 32 := Scalar.extui v28
  let c0_i32_11 : BitVec 32 := 0#32
  let v30 : BitVec 1 := Scalar.cmpi .slt c30_i32 c0_i32_11
  let v31 : BitVec 32 := Scalar.extui v30
  let v32 : BitVec 32 := Scalar.subi v29 v31
  let v33 : BitVec 1 := Scalar.cmpi .ne v27 v32
  let v34 : BitVec 32 := Scalar.remsi v21 c30_i32
  let c0_i32_12 : BitVec 32 := 0#32
  let v35 : BitVec 1 := Scalar.cmpi .ne v34 c0_i32_12
  let v36 : BitVec 1 := Scalar.andi v33 v35
  let v22 : BitVec 32 := Scalar.divsi v21 c30_i32
  let c1_i32_13 : BitVec 32 := 1#32
  let v37 : BitVec 32 := Scalar.subi v22 c1_i32_13
  let v38 : BitVec 32 := Scalar.select v36 v37 v22
  let c40_i32 : BitVec 32 := 40#32
  let v49 : BitVec 32 := Scalar.muli v38 c40_i32
  let c30_i32_14 : BitVec 32 := 30#32
  let c0_i32_15 : BitVec 32 := 0#32
  let v39 : BitVec 1 := Scalar.cmpi .eq c30_i32_14 c0_i32_15
  let c1_i32_16 : BitVec 32 := 1#32
  let v40 : BitVec 32 := Scalar.select v39 c1_i32_16 c30_i32_14
  let v41 : BitVec 32 := Scalar.remsi v21 v40
  let c0_i32_18 : BitVec 32 := 0#32
  let v43 : BitVec 1 := Scalar.cmpi .slt v41 c0_i32_18
  let c0_i32_19 : BitVec 32 := 0#32
  let v44 : BitVec 1 := Scalar.cmpi .slt v40 c0_i32_19
  let v45 : BitVec 1 := Scalar.xori v43 v44
  let c0_i32_17 : BitVec 32 := 0#32
  let v42 : BitVec 1 := Scalar.cmpi .ne v41 c0_i32_17
  let v46 : BitVec 1 := Scalar.andi v45 v42
  let v47 : BitVec 32 := Scalar.addi v41 v40
  let v48 : BitVec 32 := Scalar.select v46 v47 v41
  let c0_i32_20 : BitVec 32 := 0#32
  let v51 : BitVec 1 := Scalar.cmpi .sgt v48 c0_i32_20
  let v52 : BitVec 32 := Scalar.extui v51
  let c0_i32_21 : BitVec 32 := 0#32
  let v53 : BitVec 1 := Scalar.cmpi .slt v48 c0_i32_21
  let v54 : BitVec 32 := Scalar.extui v53
  let v55 : BitVec 32 := Scalar.subi v52 v54
  let c6_i32 : BitVec 32 := 6#32
  let c0_i32_22 : BitVec 32 := 0#32
  let v56 : BitVec 1 := Scalar.cmpi .sgt c6_i32 c0_i32_22
  let v57 : BitVec 32 := Scalar.extui v56
  let c0_i32_23 : BitVec 32 := 0#32
  let v58 : BitVec 1 := Scalar.cmpi .slt c6_i32 c0_i32_23
  let v59 : BitVec 32 := Scalar.extui v58
  let v60 : BitVec 32 := Scalar.subi v57 v59
  let v61 : BitVec 1 := Scalar.cmpi .ne v55 v60
  let v62 : BitVec 32 := Scalar.remsi v48 c6_i32
  let c0_i32_24 : BitVec 32 := 0#32
  let v63 : BitVec 1 := Scalar.cmpi .ne v62 c0_i32_24
  let v64 : BitVec 1 := Scalar.andi v61 v63
  let v50 : BitVec 32 := Scalar.divsi v48 c6_i32
  let c1_i32_25 : BitVec 32 := 1#32
  let v65 : BitVec 32 := Scalar.subi v50 c1_i32_25
  let v66 : BitVec 32 := Scalar.select v64 v65 v50
  let c8_i32 : BitVec 32 := 8#32
  let v77 : BitVec 32 := Scalar.muli v66 c8_i32
  let v78 : BitVec 32 := Scalar.addi v49 v77
  let v79 : BitVec 32 := Scalar.addi v78 c0_i32_32
  let v80 : Index := Scalar.indexCast v79
  let c6_i32_26 : BitVec 32 := 6#32
  let c0_i32_27 : BitVec 32 := 0#32
  let v67 : BitVec 1 := Scalar.cmpi .eq c6_i32_26 c0_i32_27
  let c1_i32_28 : BitVec 32 := 1#32
  let v68 : BitVec 32 := Scalar.select v67 c1_i32_28 c6_i32_26
  let v69 : BitVec 32 := Scalar.remsi v48 v68
  let c0_i32_30 : BitVec 32 := 0#32
  let v71 : BitVec 1 := Scalar.cmpi .slt v69 c0_i32_30
  let c0_i32_31 : BitVec 32 := 0#32
  let v72 : BitVec 1 := Scalar.cmpi .slt v68 c0_i32_31
  let v73 : BitVec 1 := Scalar.xori v71 v72
  let c0_i32_29 : BitVec 32 := 0#32
  let v70 : BitVec 1 := Scalar.cmpi .ne v69 c0_i32_29
  let v74 : BitVec 1 := Scalar.andi v73 v70
  let v75 : BitVec 32 := Scalar.addi v69 v68
  let v76 : BitVec 32 := Scalar.select v74 v75 v69
  let v81 : Index := Scalar.indexCast v76
  let c0_33 : Index := 0#32
  let c0_34 : Index := 0#32
  ![v80.toNat, v81.toNat, 0, 0]
def k0_off2 (k0_t1 : Fin k0_t1_loop.trips) (c0_i32_486 : BitVec 32) (c0_i32_487 : BitVec 32) (c0_i32_516 : BitVec 32) : Fin 4 → Nat :=
  let c0_i32_5 : BitVec 32 := 0#32
  let c1_i32 : BitVec 32 := 1#32
  let arg15 : BitVec 32 := Scf.iv c0_i32_5 c1_i32 k0_t1
  let c4_i32_485 : BitVec 32 := 4#32
  let v1251 : BitVec 32 := Scalar.muli arg15 c4_i32_485
  let v1252 : BitVec 32 := Scalar.addi v1251 c0_i32_486
  let v1253 : BitVec 32 := Scalar.addi v1252 c0_i32_487
  let c0_i32_489 : BitVec 32 := 0#32
  let v1255 : BitVec 1 := Scalar.cmpi .sgt v1253 c0_i32_489
  let v1256 : BitVec 32 := Scalar.extui v1255
  let c0_i32_490 : BitVec 32 := 0#32
  let v1257 : BitVec 1 := Scalar.cmpi .slt v1253 c0_i32_490
  let v1258 : BitVec 32 := Scalar.extui v1257
  let v1259 : BitVec 32 := Scalar.subi v1256 v1258
  let c30_i32_488 : BitVec 32 := 30#32
  let c0_i32_491 : BitVec 32 := 0#32
  let v1260 : BitVec 1 := Scalar.cmpi .sgt c30_i32_488 c0_i32_491
  let v1261 : BitVec 32 := Scalar.extui v1260
  let c0_i32_492 : BitVec 32 := 0#32
  let v1262 : BitVec 1 := Scalar.cmpi .slt c30_i32_488 c0_i32_492
  let v1263 : BitVec 32 := Scalar.extui v1262
  let v1264 : BitVec 32 := Scalar.subi v1261 v1263
  let v1265 : BitVec 1 := Scalar.cmpi .ne v1259 v1264
  let v1266 : BitVec 32 := Scalar.remsi v1253 c30_i32_488
  let c0_i32_493 : BitVec 32 := 0#32
  let v1267 : BitVec 1 := Scalar.cmpi .ne v1266 c0_i32_493
  let v1268 : BitVec 1 := Scalar.andi v1265 v1267
  let v1254 : BitVec 32 := Scalar.divsi v1253 c30_i32_488
  let c1_i32_494 : BitVec 32 := 1#32
  let v1269 : BitVec 32 := Scalar.subi v1254 c1_i32_494
  let v1270 : BitVec 32 := Scalar.select v1268 v1269 v1254
  let c40_i32_501 : BitVec 32 := 40#32
  let v1281 : BitVec 32 := Scalar.muli v1270 c40_i32_501
  let c30_i32_495 : BitVec 32 := 30#32
  let c0_i32_496 : BitVec 32 := 0#32
  let v1271 : BitVec 1 := Scalar.cmpi .eq c30_i32_495 c0_i32_496
  let c1_i32_497 : BitVec 32 := 1#32
  let v1272 : BitVec 32 := Scalar.select v1271 c1_i32_497 c30_i32_495
  let v1273 : BitVec 32 := Scalar.remsi v1253 v1272
  let c0_i32_499 : BitVec 32 := 0#32
  let v1275 : BitVec 1 := Scalar.cmpi .slt v1273 c0_i32_499
  let c0_i32_500 : BitVec 32 := 0#32
  let v1276 : BitVec 1 := Scalar.cmpi .slt v1272 c0_i32_500
  let v1277 : BitVec 1 := Scalar.xori v1275 v1276
  let c0_i32_498 : BitVec 32 := 0#32
  let v1274 : BitVec 1 := Scalar.cmpi .ne v1273 c0_i32_498
  let v1278 : BitVec 1 := Scalar.andi v1277 v1274
  let v1279 : BitVec 32 := Scalar.addi v1273 v1272
  let v1280 : BitVec 32 := Scalar.select v1278 v1279 v1273
  let c0_i32_503 : BitVec 32 := 0#32
  let v1283 : BitVec 1 := Scalar.cmpi .sgt v1280 c0_i32_503
  let v1284 : BitVec 32 := Scalar.extui v1283
  let c0_i32_504 : BitVec 32 := 0#32
  let v1285 : BitVec 1 := Scalar.cmpi .slt v1280 c0_i32_504
  let v1286 : BitVec 32 := Scalar.extui v1285
  let v1287 : BitVec 32 := Scalar.subi v1284 v1286
  let c6_i32_502 : BitVec 32 := 6#32
  let c0_i32_505 : BitVec 32 := 0#32
  let v1288 : BitVec 1 := Scalar.cmpi .sgt c6_i32_502 c0_i32_505
  let v1289 : BitVec 32 := Scalar.extui v1288
  let c0_i32_506 : BitVec 32 := 0#32
  let v1290 : BitVec 1 := Scalar.cmpi .slt c6_i32_502 c0_i32_506
  let v1291 : BitVec 32 := Scalar.extui v1290
  let v1292 : BitVec 32 := Scalar.subi v1289 v1291
  let v1293 : BitVec 1 := Scalar.cmpi .ne v1287 v1292
  let v1294 : BitVec 32 := Scalar.remsi v1280 c6_i32_502
  let c0_i32_507 : BitVec 32 := 0#32
  let v1295 : BitVec 1 := Scalar.cmpi .ne v1294 c0_i32_507
  let v1296 : BitVec 1 := Scalar.andi v1293 v1295
  let v1282 : BitVec 32 := Scalar.divsi v1280 c6_i32_502
  let c1_i32_508 : BitVec 32 := 1#32
  let v1297 : BitVec 32 := Scalar.subi v1282 c1_i32_508
  let v1298 : BitVec 32 := Scalar.select v1296 v1297 v1282
  let c8_i32_515 : BitVec 32 := 8#32
  let v1309 : BitVec 32 := Scalar.muli v1298 c8_i32_515
  let v1310 : BitVec 32 := Scalar.addi v1281 v1309
  let v1311 : BitVec 32 := Scalar.addi v1310 c0_i32_516
  let v1314 : Index := Scalar.indexCast v1311
  let c6_i32_509 : BitVec 32 := 6#32
  let c0_i32_510 : BitVec 32 := 0#32
  let v1299 : BitVec 1 := Scalar.cmpi .eq c6_i32_509 c0_i32_510
  let c1_i32_511 : BitVec 32 := 1#32
  let v1300 : BitVec 32 := Scalar.select v1299 c1_i32_511 c6_i32_509
  let v1301 : BitVec 32 := Scalar.remsi v1280 v1300
  let c0_i32_513 : BitVec 32 := 0#32
  let v1303 : BitVec 1 := Scalar.cmpi .slt v1301 c0_i32_513
  let c0_i32_514 : BitVec 32 := 0#32
  let v1304 : BitVec 1 := Scalar.cmpi .slt v1300 c0_i32_514
  let v1305 : BitVec 1 := Scalar.xori v1303 v1304
  let c0_i32_512 : BitVec 32 := 0#32
  let v1302 : BitVec 1 := Scalar.cmpi .ne v1301 c0_i32_512
  let v1306 : BitVec 1 := Scalar.andi v1305 v1302
  let v1307 : BitVec 32 := Scalar.addi v1301 v1300
  let v1308 : BitVec 32 := Scalar.select v1306 v1307 v1301
  let v1315 : Index := Scalar.indexCast v1308
  let c0_517 : Index := 0#32
  let c0_518 : Index := 0#32
  ![v1314.toNat, v1315.toNat, 0, 0]
def k0_off3 (k0_t1 : Fin k0_t1_loop.trips) (c0_i32_708 : BitVec 32) (c0_i32_709 : BitVec 32) (c0_i32_738 : BitVec 32) : Fin 4 → Nat :=
  let c0_i32_5 : BitVec 32 := 0#32
  let c1_i32 : BitVec 32 := 1#32
  let arg15 : BitVec 32 := Scf.iv c0_i32_5 c1_i32 k0_t1
  let c4_i32_707 : BitVec 32 := 4#32
  let v1863 : BitVec 32 := Scalar.muli arg15 c4_i32_707
  let v1864 : BitVec 32 := Scalar.addi v1863 c0_i32_708
  let v1865 : BitVec 32 := Scalar.addi v1864 c0_i32_709
  let c0_i32_711 : BitVec 32 := 0#32
  let v1867 : BitVec 1 := Scalar.cmpi .sgt v1865 c0_i32_711
  let v1868 : BitVec 32 := Scalar.extui v1867
  let c0_i32_712 : BitVec 32 := 0#32
  let v1869 : BitVec 1 := Scalar.cmpi .slt v1865 c0_i32_712
  let v1870 : BitVec 32 := Scalar.extui v1869
  let v1871 : BitVec 32 := Scalar.subi v1868 v1870
  let c30_i32_710 : BitVec 32 := 30#32
  let c0_i32_713 : BitVec 32 := 0#32
  let v1872 : BitVec 1 := Scalar.cmpi .sgt c30_i32_710 c0_i32_713
  let v1873 : BitVec 32 := Scalar.extui v1872
  let c0_i32_714 : BitVec 32 := 0#32
  let v1874 : BitVec 1 := Scalar.cmpi .slt c30_i32_710 c0_i32_714
  let v1875 : BitVec 32 := Scalar.extui v1874
  let v1876 : BitVec 32 := Scalar.subi v1873 v1875
  let v1877 : BitVec 1 := Scalar.cmpi .ne v1871 v1876
  let v1878 : BitVec 32 := Scalar.remsi v1865 c30_i32_710
  let c0_i32_715 : BitVec 32 := 0#32
  let v1879 : BitVec 1 := Scalar.cmpi .ne v1878 c0_i32_715
  let v1880 : BitVec 1 := Scalar.andi v1877 v1879
  let v1866 : BitVec 32 := Scalar.divsi v1865 c30_i32_710
  let c1_i32_716 : BitVec 32 := 1#32
  let v1881 : BitVec 32 := Scalar.subi v1866 c1_i32_716
  let v1882 : BitVec 32 := Scalar.select v1880 v1881 v1866
  let c40_i32_723 : BitVec 32 := 40#32
  let v1893 : BitVec 32 := Scalar.muli v1882 c40_i32_723
  let c30_i32_717 : BitVec 32 := 30#32
  let c0_i32_718 : BitVec 32 := 0#32
  let v1883 : BitVec 1 := Scalar.cmpi .eq c30_i32_717 c0_i32_718
  let c1_i32_719 : BitVec 32 := 1#32
  let v1884 : BitVec 32 := Scalar.select v1883 c1_i32_719 c30_i32_717
  let v1885 : BitVec 32 := Scalar.remsi v1865 v1884
  let c0_i32_721 : BitVec 32 := 0#32
  let v1887 : BitVec 1 := Scalar.cmpi .slt v1885 c0_i32_721
  let c0_i32_722 : BitVec 32 := 0#32
  let v1888 : BitVec 1 := Scalar.cmpi .slt v1884 c0_i32_722
  let v1889 : BitVec 1 := Scalar.xori v1887 v1888
  let c0_i32_720 : BitVec 32 := 0#32
  let v1886 : BitVec 1 := Scalar.cmpi .ne v1885 c0_i32_720
  let v1890 : BitVec 1 := Scalar.andi v1889 v1886
  let v1891 : BitVec 32 := Scalar.addi v1885 v1884
  let v1892 : BitVec 32 := Scalar.select v1890 v1891 v1885
  let c0_i32_725 : BitVec 32 := 0#32
  let v1895 : BitVec 1 := Scalar.cmpi .sgt v1892 c0_i32_725
  let v1896 : BitVec 32 := Scalar.extui v1895
  let c0_i32_726 : BitVec 32 := 0#32
  let v1897 : BitVec 1 := Scalar.cmpi .slt v1892 c0_i32_726
  let v1898 : BitVec 32 := Scalar.extui v1897
  let v1899 : BitVec 32 := Scalar.subi v1896 v1898
  let c6_i32_724 : BitVec 32 := 6#32
  let c0_i32_727 : BitVec 32 := 0#32
  let v1900 : BitVec 1 := Scalar.cmpi .sgt c6_i32_724 c0_i32_727
  let v1901 : BitVec 32 := Scalar.extui v1900
  let c0_i32_728 : BitVec 32 := 0#32
  let v1902 : BitVec 1 := Scalar.cmpi .slt c6_i32_724 c0_i32_728
  let v1903 : BitVec 32 := Scalar.extui v1902
  let v1904 : BitVec 32 := Scalar.subi v1901 v1903
  let v1905 : BitVec 1 := Scalar.cmpi .ne v1899 v1904
  let v1906 : BitVec 32 := Scalar.remsi v1892 c6_i32_724
  let c0_i32_729 : BitVec 32 := 0#32
  let v1907 : BitVec 1 := Scalar.cmpi .ne v1906 c0_i32_729
  let v1908 : BitVec 1 := Scalar.andi v1905 v1907
  let v1894 : BitVec 32 := Scalar.divsi v1892 c6_i32_724
  let c1_i32_730 : BitVec 32 := 1#32
  let v1909 : BitVec 32 := Scalar.subi v1894 c1_i32_730
  let v1910 : BitVec 32 := Scalar.select v1908 v1909 v1894
  let c8_i32_737 : BitVec 32 := 8#32
  let v1921 : BitVec 32 := Scalar.muli v1910 c8_i32_737
  let v1922 : BitVec 32 := Scalar.addi v1893 v1921
  let v1923 : BitVec 32 := Scalar.addi v1922 c0_i32_738
  let v1926 : Index := Scalar.indexCast v1923
  let c6_i32_731 : BitVec 32 := 6#32
  let c0_i32_732 : BitVec 32 := 0#32
  let v1911 : BitVec 1 := Scalar.cmpi .eq c6_i32_731 c0_i32_732
  let c1_i32_733 : BitVec 32 := 1#32
  let v1912 : BitVec 32 := Scalar.select v1911 c1_i32_733 c6_i32_731
  let v1913 : BitVec 32 := Scalar.remsi v1892 v1912
  let c0_i32_735 : BitVec 32 := 0#32
  let v1915 : BitVec 1 := Scalar.cmpi .slt v1913 c0_i32_735
  let c0_i32_736 : BitVec 32 := 0#32
  let v1916 : BitVec 1 := Scalar.cmpi .slt v1912 c0_i32_736
  let v1917 : BitVec 1 := Scalar.xori v1915 v1916
  let c0_i32_734 : BitVec 32 := 0#32
  let v1914 : BitVec 1 := Scalar.cmpi .ne v1913 c0_i32_734
  let v1918 : BitVec 1 := Scalar.andi v1917 v1914
  let v1919 : BitVec 32 := Scalar.addi v1913 v1912
  let v1920 : BitVec 32 := Scalar.select v1918 v1919 v1913
  let v1927 : Index := Scalar.indexCast v1920
  let c0_739 : Index := 0#32
  let c128_740 : Index := 128#32
  ![v1926.toNat, v1927.toNat, 0, 128]
def k0_off4 (k0_t1 : Fin k0_t1_loop.trips) (c0_i32_930 : BitVec 32) (c0_i32_931 : BitVec 32) (c0_i32_960 : BitVec 32) : Fin 4 → Nat :=
  let c0_i32_5 : BitVec 32 := 0#32
  let c1_i32 : BitVec 32 := 1#32
  let arg15 : BitVec 32 := Scf.iv c0_i32_5 c1_i32 k0_t1
  let c4_i32_929 : BitVec 32 := 4#32
  let v2475 : BitVec 32 := Scalar.muli arg15 c4_i32_929
  let v2476 : BitVec 32 := Scalar.addi v2475 c0_i32_930
  let v2477 : BitVec 32 := Scalar.addi v2476 c0_i32_931
  let c0_i32_933 : BitVec 32 := 0#32
  let v2479 : BitVec 1 := Scalar.cmpi .sgt v2477 c0_i32_933
  let v2480 : BitVec 32 := Scalar.extui v2479
  let c0_i32_934 : BitVec 32 := 0#32
  let v2481 : BitVec 1 := Scalar.cmpi .slt v2477 c0_i32_934
  let v2482 : BitVec 32 := Scalar.extui v2481
  let v2483 : BitVec 32 := Scalar.subi v2480 v2482
  let c30_i32_932 : BitVec 32 := 30#32
  let c0_i32_935 : BitVec 32 := 0#32
  let v2484 : BitVec 1 := Scalar.cmpi .sgt c30_i32_932 c0_i32_935
  let v2485 : BitVec 32 := Scalar.extui v2484
  let c0_i32_936 : BitVec 32 := 0#32
  let v2486 : BitVec 1 := Scalar.cmpi .slt c30_i32_932 c0_i32_936
  let v2487 : BitVec 32 := Scalar.extui v2486
  let v2488 : BitVec 32 := Scalar.subi v2485 v2487
  let v2489 : BitVec 1 := Scalar.cmpi .ne v2483 v2488
  let v2490 : BitVec 32 := Scalar.remsi v2477 c30_i32_932
  let c0_i32_937 : BitVec 32 := 0#32
  let v2491 : BitVec 1 := Scalar.cmpi .ne v2490 c0_i32_937
  let v2492 : BitVec 1 := Scalar.andi v2489 v2491
  let v2478 : BitVec 32 := Scalar.divsi v2477 c30_i32_932
  let c1_i32_938 : BitVec 32 := 1#32
  let v2493 : BitVec 32 := Scalar.subi v2478 c1_i32_938
  let v2494 : BitVec 32 := Scalar.select v2492 v2493 v2478
  let c40_i32_945 : BitVec 32 := 40#32
  let v2505 : BitVec 32 := Scalar.muli v2494 c40_i32_945
  let c30_i32_939 : BitVec 32 := 30#32
  let c0_i32_940 : BitVec 32 := 0#32
  let v2495 : BitVec 1 := Scalar.cmpi .eq c30_i32_939 c0_i32_940
  let c1_i32_941 : BitVec 32 := 1#32
  let v2496 : BitVec 32 := Scalar.select v2495 c1_i32_941 c30_i32_939
  let v2497 : BitVec 32 := Scalar.remsi v2477 v2496
  let c0_i32_943 : BitVec 32 := 0#32
  let v2499 : BitVec 1 := Scalar.cmpi .slt v2497 c0_i32_943
  let c0_i32_944 : BitVec 32 := 0#32
  let v2500 : BitVec 1 := Scalar.cmpi .slt v2496 c0_i32_944
  let v2501 : BitVec 1 := Scalar.xori v2499 v2500
  let c0_i32_942 : BitVec 32 := 0#32
  let v2498 : BitVec 1 := Scalar.cmpi .ne v2497 c0_i32_942
  let v2502 : BitVec 1 := Scalar.andi v2501 v2498
  let v2503 : BitVec 32 := Scalar.addi v2497 v2496
  let v2504 : BitVec 32 := Scalar.select v2502 v2503 v2497
  let c0_i32_947 : BitVec 32 := 0#32
  let v2507 : BitVec 1 := Scalar.cmpi .sgt v2504 c0_i32_947
  let v2508 : BitVec 32 := Scalar.extui v2507
  let c0_i32_948 : BitVec 32 := 0#32
  let v2509 : BitVec 1 := Scalar.cmpi .slt v2504 c0_i32_948
  let v2510 : BitVec 32 := Scalar.extui v2509
  let v2511 : BitVec 32 := Scalar.subi v2508 v2510
  let c6_i32_946 : BitVec 32 := 6#32
  let c0_i32_949 : BitVec 32 := 0#32
  let v2512 : BitVec 1 := Scalar.cmpi .sgt c6_i32_946 c0_i32_949
  let v2513 : BitVec 32 := Scalar.extui v2512
  let c0_i32_950 : BitVec 32 := 0#32
  let v2514 : BitVec 1 := Scalar.cmpi .slt c6_i32_946 c0_i32_950
  let v2515 : BitVec 32 := Scalar.extui v2514
  let v2516 : BitVec 32 := Scalar.subi v2513 v2515
  let v2517 : BitVec 1 := Scalar.cmpi .ne v2511 v2516
  let v2518 : BitVec 32 := Scalar.remsi v2504 c6_i32_946
  let c0_i32_951 : BitVec 32 := 0#32
  let v2519 : BitVec 1 := Scalar.cmpi .ne v2518 c0_i32_951
  let v2520 : BitVec 1 := Scalar.andi v2517 v2519
  let v2506 : BitVec 32 := Scalar.divsi v2504 c6_i32_946
  let c1_i32_952 : BitVec 32 := 1#32
  let v2521 : BitVec 32 := Scalar.subi v2506 c1_i32_952
  let v2522 : BitVec 32 := Scalar.select v2520 v2521 v2506
  let c8_i32_959 : BitVec 32 := 8#32
  let v2533 : BitVec 32 := Scalar.muli v2522 c8_i32_959
  let v2534 : BitVec 32 := Scalar.addi v2505 v2533
  let v2535 : BitVec 32 := Scalar.addi v2534 c0_i32_960
  let v2538 : Index := Scalar.indexCast v2535
  let c6_i32_953 : BitVec 32 := 6#32
  let c0_i32_954 : BitVec 32 := 0#32
  let v2523 : BitVec 1 := Scalar.cmpi .eq c6_i32_953 c0_i32_954
  let c1_i32_955 : BitVec 32 := 1#32
  let v2524 : BitVec 32 := Scalar.select v2523 c1_i32_955 c6_i32_953
  let v2525 : BitVec 32 := Scalar.remsi v2504 v2524
  let c0_i32_957 : BitVec 32 := 0#32
  let v2527 : BitVec 1 := Scalar.cmpi .slt v2525 c0_i32_957
  let c0_i32_958 : BitVec 32 := 0#32
  let v2528 : BitVec 1 := Scalar.cmpi .slt v2524 c0_i32_958
  let v2529 : BitVec 1 := Scalar.xori v2527 v2528
  let c0_i32_956 : BitVec 32 := 0#32
  let v2526 : BitVec 1 := Scalar.cmpi .ne v2525 c0_i32_956
  let v2530 : BitVec 1 := Scalar.andi v2529 v2526
  let v2531 : BitVec 32 := Scalar.addi v2525 v2524
  let v2532 : BitVec 32 := Scalar.select v2530 v2531 v2525
  let v2539 : Index := Scalar.indexCast v2532
  let c0_961 : Index := 0#32
  let c256_962 : Index := 256#32
  ![v2538.toNat, v2539.toNat, 0, 256]
def k0_off5 (k0_t1 : Fin k0_t1_loop.trips) (c0_i32_1152 : BitVec 32) (c0_i32_1153 : BitVec 32) (c0_i32_1182 : BitVec 32) : Fin 4 → Nat :=
  let c0_i32_5 : BitVec 32 := 0#32
  let c1_i32 : BitVec 32 := 1#32
  let arg15 : BitVec 32 := Scf.iv c0_i32_5 c1_i32 k0_t1
  let c4_i32_1151 : BitVec 32 := 4#32
  let v3087 : BitVec 32 := Scalar.muli arg15 c4_i32_1151
  let v3088 : BitVec 32 := Scalar.addi v3087 c0_i32_1152
  let v3089 : BitVec 32 := Scalar.addi v3088 c0_i32_1153
  let c0_i32_1155 : BitVec 32 := 0#32
  let v3091 : BitVec 1 := Scalar.cmpi .sgt v3089 c0_i32_1155
  let v3092 : BitVec 32 := Scalar.extui v3091
  let c0_i32_1156 : BitVec 32 := 0#32
  let v3093 : BitVec 1 := Scalar.cmpi .slt v3089 c0_i32_1156
  let v3094 : BitVec 32 := Scalar.extui v3093
  let v3095 : BitVec 32 := Scalar.subi v3092 v3094
  let c30_i32_1154 : BitVec 32 := 30#32
  let c0_i32_1157 : BitVec 32 := 0#32
  let v3096 : BitVec 1 := Scalar.cmpi .sgt c30_i32_1154 c0_i32_1157
  let v3097 : BitVec 32 := Scalar.extui v3096
  let c0_i32_1158 : BitVec 32 := 0#32
  let v3098 : BitVec 1 := Scalar.cmpi .slt c30_i32_1154 c0_i32_1158
  let v3099 : BitVec 32 := Scalar.extui v3098
  let v3100 : BitVec 32 := Scalar.subi v3097 v3099
  let v3101 : BitVec 1 := Scalar.cmpi .ne v3095 v3100
  let v3102 : BitVec 32 := Scalar.remsi v3089 c30_i32_1154
  let c0_i32_1159 : BitVec 32 := 0#32
  let v3103 : BitVec 1 := Scalar.cmpi .ne v3102 c0_i32_1159
  let v3104 : BitVec 1 := Scalar.andi v3101 v3103
  let v3090 : BitVec 32 := Scalar.divsi v3089 c30_i32_1154
  let c1_i32_1160 : BitVec 32 := 1#32
  let v3105 : BitVec 32 := Scalar.subi v3090 c1_i32_1160
  let v3106 : BitVec 32 := Scalar.select v3104 v3105 v3090
  let c40_i32_1167 : BitVec 32 := 40#32
  let v3117 : BitVec 32 := Scalar.muli v3106 c40_i32_1167
  let c30_i32_1161 : BitVec 32 := 30#32
  let c0_i32_1162 : BitVec 32 := 0#32
  let v3107 : BitVec 1 := Scalar.cmpi .eq c30_i32_1161 c0_i32_1162
  let c1_i32_1163 : BitVec 32 := 1#32
  let v3108 : BitVec 32 := Scalar.select v3107 c1_i32_1163 c30_i32_1161
  let v3109 : BitVec 32 := Scalar.remsi v3089 v3108
  let c0_i32_1165 : BitVec 32 := 0#32
  let v3111 : BitVec 1 := Scalar.cmpi .slt v3109 c0_i32_1165
  let c0_i32_1166 : BitVec 32 := 0#32
  let v3112 : BitVec 1 := Scalar.cmpi .slt v3108 c0_i32_1166
  let v3113 : BitVec 1 := Scalar.xori v3111 v3112
  let c0_i32_1164 : BitVec 32 := 0#32
  let v3110 : BitVec 1 := Scalar.cmpi .ne v3109 c0_i32_1164
  let v3114 : BitVec 1 := Scalar.andi v3113 v3110
  let v3115 : BitVec 32 := Scalar.addi v3109 v3108
  let v3116 : BitVec 32 := Scalar.select v3114 v3115 v3109
  let c0_i32_1169 : BitVec 32 := 0#32
  let v3119 : BitVec 1 := Scalar.cmpi .sgt v3116 c0_i32_1169
  let v3120 : BitVec 32 := Scalar.extui v3119
  let c0_i32_1170 : BitVec 32 := 0#32
  let v3121 : BitVec 1 := Scalar.cmpi .slt v3116 c0_i32_1170
  let v3122 : BitVec 32 := Scalar.extui v3121
  let v3123 : BitVec 32 := Scalar.subi v3120 v3122
  let c6_i32_1168 : BitVec 32 := 6#32
  let c0_i32_1171 : BitVec 32 := 0#32
  let v3124 : BitVec 1 := Scalar.cmpi .sgt c6_i32_1168 c0_i32_1171
  let v3125 : BitVec 32 := Scalar.extui v3124
  let c0_i32_1172 : BitVec 32 := 0#32
  let v3126 : BitVec 1 := Scalar.cmpi .slt c6_i32_1168 c0_i32_1172
  let v3127 : BitVec 32 := Scalar.extui v3126
  let v3128 : BitVec 32 := Scalar.subi v3125 v3127
  let v3129 : BitVec 1 := Scalar.cmpi .ne v3123 v3128
  let v3130 : BitVec 32 := Scalar.remsi v3116 c6_i32_1168
  let c0_i32_1173 : BitVec 32 := 0#32
  let v3131 : BitVec 1 := Scalar.cmpi .ne v3130 c0_i32_1173
  let v3132 : BitVec 1 := Scalar.andi v3129 v3131
  let v3118 : BitVec 32 := Scalar.divsi v3116 c6_i32_1168
  let c1_i32_1174 : BitVec 32 := 1#32
  let v3133 : BitVec 32 := Scalar.subi v3118 c1_i32_1174
  let v3134 : BitVec 32 := Scalar.select v3132 v3133 v3118
  let c8_i32_1181 : BitVec 32 := 8#32
  let v3145 : BitVec 32 := Scalar.muli v3134 c8_i32_1181
  let v3146 : BitVec 32 := Scalar.addi v3117 v3145
  let v3147 : BitVec 32 := Scalar.addi v3146 c0_i32_1182
  let v3150 : Index := Scalar.indexCast v3147
  let c6_i32_1175 : BitVec 32 := 6#32
  let c0_i32_1176 : BitVec 32 := 0#32
  let v3135 : BitVec 1 := Scalar.cmpi .eq c6_i32_1175 c0_i32_1176
  let c1_i32_1177 : BitVec 32 := 1#32
  let v3136 : BitVec 32 := Scalar.select v3135 c1_i32_1177 c6_i32_1175
  let v3137 : BitVec 32 := Scalar.remsi v3116 v3136
  let c0_i32_1179 : BitVec 32 := 0#32
  let v3139 : BitVec 1 := Scalar.cmpi .slt v3137 c0_i32_1179
  let c0_i32_1180 : BitVec 32 := 0#32
  let v3140 : BitVec 1 := Scalar.cmpi .slt v3136 c0_i32_1180
  let v3141 : BitVec 1 := Scalar.xori v3139 v3140
  let c0_i32_1178 : BitVec 32 := 0#32
  let v3138 : BitVec 1 := Scalar.cmpi .ne v3137 c0_i32_1178
  let v3142 : BitVec 1 := Scalar.andi v3141 v3138
  let v3143 : BitVec 32 := Scalar.addi v3137 v3136
  let v3144 : BitVec 32 := Scalar.select v3142 v3143 v3137
  let v3151 : Index := Scalar.indexCast v3144
  let c0_1183 : Index := 0#32
  let c384_1184 : Index := 384#32
  ![v3150.toNat, v3151.toNat, 0, 384]
def k0_off6 (k0_t1 : Fin k0_t1_loop.trips) (c0_i32_1374 : BitVec 32) (c0_i32_1375 : BitVec 32) (c0_i32_1404 : BitVec 32) : Fin 4 → Nat :=
  let c0_i32_5 : BitVec 32 := 0#32
  let c1_i32 : BitVec 32 := 1#32
  let arg15 : BitVec 32 := Scf.iv c0_i32_5 c1_i32 k0_t1
  let c4_i32_1373 : BitVec 32 := 4#32
  let v3699 : BitVec 32 := Scalar.muli arg15 c4_i32_1373
  let v3700 : BitVec 32 := Scalar.addi v3699 c0_i32_1374
  let v3701 : BitVec 32 := Scalar.addi v3700 c0_i32_1375
  let c0_i32_1377 : BitVec 32 := 0#32
  let v3703 : BitVec 1 := Scalar.cmpi .sgt v3701 c0_i32_1377
  let v3704 : BitVec 32 := Scalar.extui v3703
  let c0_i32_1378 : BitVec 32 := 0#32
  let v3705 : BitVec 1 := Scalar.cmpi .slt v3701 c0_i32_1378
  let v3706 : BitVec 32 := Scalar.extui v3705
  let v3707 : BitVec 32 := Scalar.subi v3704 v3706
  let c30_i32_1376 : BitVec 32 := 30#32
  let c0_i32_1379 : BitVec 32 := 0#32
  let v3708 : BitVec 1 := Scalar.cmpi .sgt c30_i32_1376 c0_i32_1379
  let v3709 : BitVec 32 := Scalar.extui v3708
  let c0_i32_1380 : BitVec 32 := 0#32
  let v3710 : BitVec 1 := Scalar.cmpi .slt c30_i32_1376 c0_i32_1380
  let v3711 : BitVec 32 := Scalar.extui v3710
  let v3712 : BitVec 32 := Scalar.subi v3709 v3711
  let v3713 : BitVec 1 := Scalar.cmpi .ne v3707 v3712
  let v3714 : BitVec 32 := Scalar.remsi v3701 c30_i32_1376
  let c0_i32_1381 : BitVec 32 := 0#32
  let v3715 : BitVec 1 := Scalar.cmpi .ne v3714 c0_i32_1381
  let v3716 : BitVec 1 := Scalar.andi v3713 v3715
  let v3702 : BitVec 32 := Scalar.divsi v3701 c30_i32_1376
  let c1_i32_1382 : BitVec 32 := 1#32
  let v3717 : BitVec 32 := Scalar.subi v3702 c1_i32_1382
  let v3718 : BitVec 32 := Scalar.select v3716 v3717 v3702
  let c40_i32_1389 : BitVec 32 := 40#32
  let v3729 : BitVec 32 := Scalar.muli v3718 c40_i32_1389
  let c30_i32_1383 : BitVec 32 := 30#32
  let c0_i32_1384 : BitVec 32 := 0#32
  let v3719 : BitVec 1 := Scalar.cmpi .eq c30_i32_1383 c0_i32_1384
  let c1_i32_1385 : BitVec 32 := 1#32
  let v3720 : BitVec 32 := Scalar.select v3719 c1_i32_1385 c30_i32_1383
  let v3721 : BitVec 32 := Scalar.remsi v3701 v3720
  let c0_i32_1387 : BitVec 32 := 0#32
  let v3723 : BitVec 1 := Scalar.cmpi .slt v3721 c0_i32_1387
  let c0_i32_1388 : BitVec 32 := 0#32
  let v3724 : BitVec 1 := Scalar.cmpi .slt v3720 c0_i32_1388
  let v3725 : BitVec 1 := Scalar.xori v3723 v3724
  let c0_i32_1386 : BitVec 32 := 0#32
  let v3722 : BitVec 1 := Scalar.cmpi .ne v3721 c0_i32_1386
  let v3726 : BitVec 1 := Scalar.andi v3725 v3722
  let v3727 : BitVec 32 := Scalar.addi v3721 v3720
  let v3728 : BitVec 32 := Scalar.select v3726 v3727 v3721
  let c0_i32_1391 : BitVec 32 := 0#32
  let v3731 : BitVec 1 := Scalar.cmpi .sgt v3728 c0_i32_1391
  let v3732 : BitVec 32 := Scalar.extui v3731
  let c0_i32_1392 : BitVec 32 := 0#32
  let v3733 : BitVec 1 := Scalar.cmpi .slt v3728 c0_i32_1392
  let v3734 : BitVec 32 := Scalar.extui v3733
  let v3735 : BitVec 32 := Scalar.subi v3732 v3734
  let c6_i32_1390 : BitVec 32 := 6#32
  let c0_i32_1393 : BitVec 32 := 0#32
  let v3736 : BitVec 1 := Scalar.cmpi .sgt c6_i32_1390 c0_i32_1393
  let v3737 : BitVec 32 := Scalar.extui v3736
  let c0_i32_1394 : BitVec 32 := 0#32
  let v3738 : BitVec 1 := Scalar.cmpi .slt c6_i32_1390 c0_i32_1394
  let v3739 : BitVec 32 := Scalar.extui v3738
  let v3740 : BitVec 32 := Scalar.subi v3737 v3739
  let v3741 : BitVec 1 := Scalar.cmpi .ne v3735 v3740
  let v3742 : BitVec 32 := Scalar.remsi v3728 c6_i32_1390
  let c0_i32_1395 : BitVec 32 := 0#32
  let v3743 : BitVec 1 := Scalar.cmpi .ne v3742 c0_i32_1395
  let v3744 : BitVec 1 := Scalar.andi v3741 v3743
  let v3730 : BitVec 32 := Scalar.divsi v3728 c6_i32_1390
  let c1_i32_1396 : BitVec 32 := 1#32
  let v3745 : BitVec 32 := Scalar.subi v3730 c1_i32_1396
  let v3746 : BitVec 32 := Scalar.select v3744 v3745 v3730
  let c8_i32_1403 : BitVec 32 := 8#32
  let v3757 : BitVec 32 := Scalar.muli v3746 c8_i32_1403
  let v3758 : BitVec 32 := Scalar.addi v3729 v3757
  let v3759 : BitVec 32 := Scalar.addi v3758 c0_i32_1404
  let v3762 : Index := Scalar.indexCast v3759
  let c6_i32_1397 : BitVec 32 := 6#32
  let c0_i32_1398 : BitVec 32 := 0#32
  let v3747 : BitVec 1 := Scalar.cmpi .eq c6_i32_1397 c0_i32_1398
  let c1_i32_1399 : BitVec 32 := 1#32
  let v3748 : BitVec 32 := Scalar.select v3747 c1_i32_1399 c6_i32_1397
  let v3749 : BitVec 32 := Scalar.remsi v3728 v3748
  let c0_i32_1401 : BitVec 32 := 0#32
  let v3751 : BitVec 1 := Scalar.cmpi .slt v3749 c0_i32_1401
  let c0_i32_1402 : BitVec 32 := 0#32
  let v3752 : BitVec 1 := Scalar.cmpi .slt v3748 c0_i32_1402
  let v3753 : BitVec 1 := Scalar.xori v3751 v3752
  let c0_i32_1400 : BitVec 32 := 0#32
  let v3750 : BitVec 1 := Scalar.cmpi .ne v3749 c0_i32_1400
  let v3754 : BitVec 1 := Scalar.andi v3753 v3750
  let v3755 : BitVec 32 := Scalar.addi v3749 v3748
  let v3756 : BitVec 32 := Scalar.select v3754 v3755 v3749
  let v3763 : Index := Scalar.indexCast v3756
  let c0_1405 : Index := 0#32
  let c512_1406 : Index := 512#32
  ![v3762.toNat, v3763.toNat, 0, 512]
def k0_off7 (k0_t1 : Fin k0_t1_loop.trips) (c0_i32_1596 : BitVec 32) (c0_i32_1597 : BitVec 32) (c0_i32_1626 : BitVec 32) : Fin 4 → Nat :=
  let c0_i32_5 : BitVec 32 := 0#32
  let c1_i32 : BitVec 32 := 1#32
  let arg15 : BitVec 32 := Scf.iv c0_i32_5 c1_i32 k0_t1
  let c4_i32_1595 : BitVec 32 := 4#32
  let v4311 : BitVec 32 := Scalar.muli arg15 c4_i32_1595
  let v4312 : BitVec 32 := Scalar.addi v4311 c0_i32_1596
  let v4313 : BitVec 32 := Scalar.addi v4312 c0_i32_1597
  let c0_i32_1599 : BitVec 32 := 0#32
  let v4315 : BitVec 1 := Scalar.cmpi .sgt v4313 c0_i32_1599
  let v4316 : BitVec 32 := Scalar.extui v4315
  let c0_i32_1600 : BitVec 32 := 0#32
  let v4317 : BitVec 1 := Scalar.cmpi .slt v4313 c0_i32_1600
  let v4318 : BitVec 32 := Scalar.extui v4317
  let v4319 : BitVec 32 := Scalar.subi v4316 v4318
  let c30_i32_1598 : BitVec 32 := 30#32
  let c0_i32_1601 : BitVec 32 := 0#32
  let v4320 : BitVec 1 := Scalar.cmpi .sgt c30_i32_1598 c0_i32_1601
  let v4321 : BitVec 32 := Scalar.extui v4320
  let c0_i32_1602 : BitVec 32 := 0#32
  let v4322 : BitVec 1 := Scalar.cmpi .slt c30_i32_1598 c0_i32_1602
  let v4323 : BitVec 32 := Scalar.extui v4322
  let v4324 : BitVec 32 := Scalar.subi v4321 v4323
  let v4325 : BitVec 1 := Scalar.cmpi .ne v4319 v4324
  let v4326 : BitVec 32 := Scalar.remsi v4313 c30_i32_1598
  let c0_i32_1603 : BitVec 32 := 0#32
  let v4327 : BitVec 1 := Scalar.cmpi .ne v4326 c0_i32_1603
  let v4328 : BitVec 1 := Scalar.andi v4325 v4327
  let v4314 : BitVec 32 := Scalar.divsi v4313 c30_i32_1598
  let c1_i32_1604 : BitVec 32 := 1#32
  let v4329 : BitVec 32 := Scalar.subi v4314 c1_i32_1604
  let v4330 : BitVec 32 := Scalar.select v4328 v4329 v4314
  let c40_i32_1611 : BitVec 32 := 40#32
  let v4341 : BitVec 32 := Scalar.muli v4330 c40_i32_1611
  let c30_i32_1605 : BitVec 32 := 30#32
  let c0_i32_1606 : BitVec 32 := 0#32
  let v4331 : BitVec 1 := Scalar.cmpi .eq c30_i32_1605 c0_i32_1606
  let c1_i32_1607 : BitVec 32 := 1#32
  let v4332 : BitVec 32 := Scalar.select v4331 c1_i32_1607 c30_i32_1605
  let v4333 : BitVec 32 := Scalar.remsi v4313 v4332
  let c0_i32_1609 : BitVec 32 := 0#32
  let v4335 : BitVec 1 := Scalar.cmpi .slt v4333 c0_i32_1609
  let c0_i32_1610 : BitVec 32 := 0#32
  let v4336 : BitVec 1 := Scalar.cmpi .slt v4332 c0_i32_1610
  let v4337 : BitVec 1 := Scalar.xori v4335 v4336
  let c0_i32_1608 : BitVec 32 := 0#32
  let v4334 : BitVec 1 := Scalar.cmpi .ne v4333 c0_i32_1608
  let v4338 : BitVec 1 := Scalar.andi v4337 v4334
  let v4339 : BitVec 32 := Scalar.addi v4333 v4332
  let v4340 : BitVec 32 := Scalar.select v4338 v4339 v4333
  let c0_i32_1613 : BitVec 32 := 0#32
  let v4343 : BitVec 1 := Scalar.cmpi .sgt v4340 c0_i32_1613
  let v4344 : BitVec 32 := Scalar.extui v4343
  let c0_i32_1614 : BitVec 32 := 0#32
  let v4345 : BitVec 1 := Scalar.cmpi .slt v4340 c0_i32_1614
  let v4346 : BitVec 32 := Scalar.extui v4345
  let v4347 : BitVec 32 := Scalar.subi v4344 v4346
  let c6_i32_1612 : BitVec 32 := 6#32
  let c0_i32_1615 : BitVec 32 := 0#32
  let v4348 : BitVec 1 := Scalar.cmpi .sgt c6_i32_1612 c0_i32_1615
  let v4349 : BitVec 32 := Scalar.extui v4348
  let c0_i32_1616 : BitVec 32 := 0#32
  let v4350 : BitVec 1 := Scalar.cmpi .slt c6_i32_1612 c0_i32_1616
  let v4351 : BitVec 32 := Scalar.extui v4350
  let v4352 : BitVec 32 := Scalar.subi v4349 v4351
  let v4353 : BitVec 1 := Scalar.cmpi .ne v4347 v4352
  let v4354 : BitVec 32 := Scalar.remsi v4340 c6_i32_1612
  let c0_i32_1617 : BitVec 32 := 0#32
  let v4355 : BitVec 1 := Scalar.cmpi .ne v4354 c0_i32_1617
  let v4356 : BitVec 1 := Scalar.andi v4353 v4355
  let v4342 : BitVec 32 := Scalar.divsi v4340 c6_i32_1612
  let c1_i32_1618 : BitVec 32 := 1#32
  let v4357 : BitVec 32 := Scalar.subi v4342 c1_i32_1618
  let v4358 : BitVec 32 := Scalar.select v4356 v4357 v4342
  let c8_i32_1625 : BitVec 32 := 8#32
  let v4369 : BitVec 32 := Scalar.muli v4358 c8_i32_1625
  let v4370 : BitVec 32 := Scalar.addi v4341 v4369
  let v4371 : BitVec 32 := Scalar.addi v4370 c0_i32_1626
  let v4374 : Index := Scalar.indexCast v4371
  let c6_i32_1619 : BitVec 32 := 6#32
  let c0_i32_1620 : BitVec 32 := 0#32
  let v4359 : BitVec 1 := Scalar.cmpi .eq c6_i32_1619 c0_i32_1620
  let c1_i32_1621 : BitVec 32 := 1#32
  let v4360 : BitVec 32 := Scalar.select v4359 c1_i32_1621 c6_i32_1619
  let v4361 : BitVec 32 := Scalar.remsi v4340 v4360
  let c0_i32_1623 : BitVec 32 := 0#32
  let v4363 : BitVec 1 := Scalar.cmpi .slt v4361 c0_i32_1623
  let c0_i32_1624 : BitVec 32 := 0#32
  let v4364 : BitVec 1 := Scalar.cmpi .slt v4360 c0_i32_1624
  let v4365 : BitVec 1 := Scalar.xori v4363 v4364
  let c0_i32_1622 : BitVec 32 := 0#32
  let v4362 : BitVec 1 := Scalar.cmpi .ne v4361 c0_i32_1622
  let v4366 : BitVec 1 := Scalar.andi v4365 v4362
  let v4367 : BitVec 32 := Scalar.addi v4361 v4360
  let v4368 : BitVec 32 := Scalar.select v4366 v4367 v4361
  let v4375 : Index := Scalar.indexCast v4368
  let c0_1627 : Index := 0#32
  let c640_1628 : Index := 640#32
  ![v4374.toNat, v4375.toNat, 0, 640]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S80x6x8x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S80x6x8x768 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S80x6x8x768 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlpRefIdeal.lean ====
abbrev S10x40x48x768 : Shape := ⟨4, ![10, 40, 48, 768]⟩
abbrev S400x6x8x768 : Shape := ⟨4, ![400, 6, 8, 768]⟩
abbrev S768x768 : Shape := ⟨2, ![768, 768]⟩
abbrev S1 : Shape := ⟨1, ![1]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S1x1 : Shape := ⟨2, ![1, 1]⟩
abbrev S1x768 : Shape := ⟨2, ![1, 768]⟩
abbrev S1x3072 : Shape := ⟨2, ![1, 3072]⟩
abbrev S19200x768 : Shape := ⟨2, ![19200, 768]⟩
abbrev S400x6x8x3072 : Shape := ⟨4, ![400, 6, 8, 3072]⟩
abbrev S19200 : Shape := ⟨1, ![19200]⟩
abbrev S19200x1 : Shape := ⟨2, ![19200, 1]⟩
abbrev S19200x3072 : Shape := ⟨2, ![19200, 3072]⟩

abbrev nBuf : Space → Nat
  | .hbm => 39
  | .vmem => 23
  | .smem => 0
  | _ => 0

abbrev bufTy : (tb : Table) → Fin (tcTables nBuf tb) → BufTy
  | .hbm, ⟨0, _⟩ => ⟨S10x40x48x768, .bf16⟩
  | .hbm, ⟨1, _⟩ => ⟨S400x6x8x768, .fp8e4m3⟩
  | .hbm, ⟨2, _⟩ => ⟨S768x768, .fp8e4m3⟩
  | .hbm, ⟨3, _⟩ => ⟨S1, .f32⟩
  | .hbm, ⟨4, _⟩ => ⟨S1, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768x3072, .fp8e4m3⟩
  | .hbm, ⟨9, _⟩ => ⟨S1, .f32⟩
  | .hbm, ⟨10, _⟩ => ⟨S1, .f32⟩
  | .hbm, ⟨11, _⟩ => ⟨S3072, .f32⟩
  | .hbm, ⟨12, _⟩ => ⟨S3072x768, .fp8e4m3⟩
  | .hbm, ⟨13, _⟩ => ⟨S1, .f32⟩
  | .hbm, ⟨14, _⟩ => ⟨S1, .f32⟩
  | .hbm, ⟨15, _⟩ => ⟨S768, .f32⟩
  | .hbm, ⟨16, _⟩ => ⟨S768, .f32⟩
  | .hbm, ⟨17, _⟩ => ⟨S768, .f32⟩
  | .hbm, ⟨18, _⟩ => ⟨S1, .f32⟩
  | .hbm, ⟨19, _⟩ => ⟨S1x1, .f32⟩
  | .hbm, ⟨20, _⟩ => ⟨S1x1, .f32⟩
  | .hbm, ⟨21, _⟩ => ⟨S1x768, .f32⟩
  | .hbm, ⟨22, _⟩ => ⟨S1x768, .f32⟩
  | .hbm, ⟨23, _⟩ => ⟨S1x768, .f32⟩
  | .hbm, ⟨24, _⟩ => ⟨S1x1, .f32⟩
  | .hbm, ⟨25, _⟩ => ⟨S1x1, .f32⟩
  | .hbm, ⟨26, _⟩ => ⟨S1x3072, .f32⟩
  | .hbm, ⟨27, _⟩ => ⟨S1x1, .f32⟩
  | .hbm, ⟨28, _⟩ => ⟨S1x1, .f32⟩
  | .hbm, ⟨29, _⟩ => ⟨S1x768, .f32⟩
  | .hbm, ⟨30, _⟩ => ⟨S1x768, .f32⟩
  | .hbm, ⟨31, _⟩ => ⟨S1x768, .f32⟩
  | .hbm, ⟨32, _⟩ => ⟨S1x1, .f32⟩
  | .hbm, ⟨33, _⟩ => ⟨S19200x768, .bf16⟩
  | .hbm, ⟨34, _⟩ => ⟨S19200x768, .fp8e4m3⟩
  | .hbm, ⟨35, _⟩ => ⟨S400x6x8x768, .f32⟩
  | .hbm, ⟨36, _⟩ => ⟨S400x6x8x768, .fp8e4m3⟩
  | .hbm, ⟨37, _⟩ => ⟨S400x6x8x3072, .fp8e4m3⟩
  | .hbm, ⟨38, _⟩ => ⟨S400x6x8x768, .fp8e4m3⟩
  | .local _ .vmem, ⟨0, _⟩ => ⟨S19200x768, .bf16⟩
  | .local _ .vmem, ⟨1, _⟩ => ⟨S19200x768, .fp8e4m3⟩
  | .local _ .vmem, ⟨2, _⟩ => ⟨S768x768, .fp8e4m3⟩
  | .local _ .vmem, ⟨3, _⟩ => ⟨S1x1, .f32⟩
  | .local _ .vmem, ⟨4, _⟩ => ⟨S1x1, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S768x3072, .fp8e4m3⟩
  | .local _ .vmem, ⟨9, _⟩ => ⟨S1x1, .f32⟩
  | .local _ .vmem, ⟨10, _⟩ => ⟨S1x1, .f32⟩
  | .local _ .vmem, ⟨11, _⟩ => ⟨S1x3072, .f32⟩
  | .local _ .vmem, ⟨12, _⟩ => ⟨S3072x768, .fp8e4m3⟩
  | .local _ .vmem, ⟨13, _⟩ => ⟨S1x1, .f32⟩
  | .local _ .vmem, ⟨14, _⟩ => ⟨S1x1, .f32⟩
  | .local _ .vmem, ⟨15, _⟩ => ⟨S1x768, .f32⟩
  | .local _ .vmem, ⟨16, _⟩ => ⟨S1x768, .f32⟩
  | .local _ .vmem, ⟨17, _⟩ => ⟨S1x768, .f32⟩
  | .local _ .vmem, ⟨18, _⟩ => ⟨S1x1, .f32⟩
  | .local _ .vmem, ⟨19, _⟩ => ⟨S400x6x8x768, .f32⟩
  | .local _ .vmem, ⟨20, _⟩ => ⟨S400x6x8x768, .fp8e4m3⟩
  | .local _ .vmem, ⟨21, _⟩ => ⟨S400x6x8x3072, .fp8e4m3⟩
  | .local _ .vmem, ⟨22, _⟩ => ⟨S400x6x8x768, .fp8e4m3⟩
  | _, _ => ⟨S10x40x48x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev main_v16_2 : Ref sig .tc := ⟨.hbm, 37, rfl⟩
abbrev main_v16_3 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := .none

abbrev stage0_0 : Fin 1 → Memref sig .tc .vmem S19200x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S19200x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x3072 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3072x768 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S400x6x8x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S400x6x8x768 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S400x6x8x3072 .fp8e4m3 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S400x6x8x768 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
-- ==== MlpLastRefIdeal.lean ====
abbrev S400x6x8x768 : Shape := ⟨4, ![400, 6, 8, 768]⟩
abbrev S768x768 : Shape := ⟨2, ![768, 768]⟩
abbrev S1 : Shape := ⟨1, ![1]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S1x1 : Shape := ⟨2, ![1, 1]⟩
abbrev S1x768 : Shape := ⟨2, ![1, 768]⟩
abbrev S1x3072 : Shape := ⟨2, ![1, 3072]⟩
abbrev S19200x768 : Shape := ⟨2, ![19200, 768]⟩
abbrev S400x6x8x3072 : Shape := ⟨4, ![400, 6, 8, 3072]⟩
abbrev S19200 : Shape := ⟨1, ![19200]⟩
abbrev S19200x1 : Shape := ⟨2, ![19200, 1]⟩
abbrev S19200x3072 : Shape := ⟨2, ![19200, 3072]⟩

abbrev nBuf : Space → Nat
  | .hbm => 36
  | .vmem => 21
  | .smem => 0
  | _ => 0

abbrev bufTy : (tb : Table) → Fin (tcTables nBuf tb) → BufTy
  | .hbm, ⟨0, _⟩ => ⟨S400x6x8x768, .f32⟩
  | .hbm, ⟨1, _⟩ => ⟨S400x6x8x768, .fp8e4m3⟩
  | .hbm, ⟨2, _⟩ => ⟨S768x768, .fp8e4m3⟩
  | .hbm, ⟨3, _⟩ => ⟨S1, .f32⟩
  | .hbm, ⟨4, _⟩ => ⟨S1, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768x3072, .fp8e4m3⟩
  | .hbm, ⟨9, _⟩ => ⟨S1, .f32⟩
  | .hbm, ⟨10, _⟩ => ⟨S1, .f32⟩
  | .hbm, ⟨11, _⟩ => ⟨S3072, .f32⟩
  | .hbm, ⟨12, _⟩ => ⟨S3072x768, .fp8e4m3⟩
  | .hbm, ⟨13, _⟩ => ⟨S1, .f32⟩
  | .hbm, ⟨14, _⟩ => ⟨S1, .f32⟩
  | .hbm, ⟨15, _⟩ => ⟨S768, .f32⟩
  | .hbm, ⟨16, _⟩ => ⟨S768, .f32⟩
  | .hbm, ⟨17, _⟩ => ⟨S768, .f32⟩
  | .hbm, ⟨18, _⟩ => ⟨S1x1, .f32⟩
  | .hbm, ⟨19, _⟩ => ⟨S1x1, .f32⟩
  | .hbm, ⟨20, _⟩ => ⟨S1x768, .f32⟩
  | .hbm, ⟨21, _⟩ => ⟨S1x768, .f32⟩
  | .hbm, ⟨22, _⟩ => ⟨S1x768, .f32⟩
  | .hbm, ⟨23, _⟩ => ⟨S1x1, .f32⟩
  | .hbm, ⟨24, _⟩ => ⟨S1x1, .f32⟩
  | .hbm, ⟨25, _⟩ => ⟨S1x3072, .f32⟩
  | .hbm, ⟨26, _⟩ => ⟨S1x1, .f32⟩
  | .hbm, ⟨27, _⟩ => ⟨S1x1, .f32⟩
  | .hbm, ⟨28, _⟩ => ⟨S1x768, .f32⟩
  | .hbm, ⟨29, _⟩ => ⟨S1x768, .f32⟩
  | .hbm, ⟨30, _⟩ => ⟨S1x768, .f32⟩
  | .hbm, ⟨31, _⟩ => ⟨S19200x768, .f32⟩
  | .hbm, ⟨32, _⟩ => ⟨S19200x768, .fp8e4m3⟩
  | .hbm, ⟨33, _⟩ => ⟨S400x6x8x768, .bf16⟩
  | .hbm, ⟨34, _⟩ => ⟨S400x6x8x768, .fp8e4m3⟩
  | .hbm, ⟨35, _⟩ => ⟨S400x6x8x3072, .fp8e4m3⟩
  | .local _ .vmem, ⟨0, _⟩ => ⟨S19200x768, .f32⟩
  | .local _ .vmem, ⟨1, _⟩ => ⟨S19200x768, .fp8e4m3⟩
  | .local _ .vmem, ⟨2, _⟩ => ⟨S768x768, .fp8e4m3⟩
  | .local _ .vmem, ⟨3, _⟩ => ⟨S1x1, .f32⟩
  | .local _ .vmem, ⟨4, _⟩ => ⟨S1x1, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S768x3072, .fp8e4m3⟩
  | .local _ .vmem, ⟨9, _⟩ => ⟨S1x1, .f32⟩
  | .local _ .vmem, ⟨10, _⟩ => ⟨S1x1, .f32⟩
  | .local _ .vmem, ⟨11, _⟩ => ⟨S1x3072, .f32⟩
  | .local _ .vmem, ⟨12, _⟩ => ⟨S3072x768, .fp8e4m3⟩
  | .local _ .vmem, ⟨13, _⟩ => ⟨S1x1, .f32⟩
  | .local _ .vmem, ⟨14, _⟩ => ⟨S1x1, .f32⟩
  | .local _ .vmem, ⟨15, _⟩ => ⟨S1x768, .f32⟩
  | .local _ .vmem, ⟨16, _⟩ => ⟨S1x768, .f32⟩
  | .local _ .vmem, ⟨17, _⟩ => ⟨S1x768, .f32⟩
  | .local _ .vmem, ⟨18, _⟩ => ⟨S400x6x8x768, .bf16⟩
  | .local _ .vmem, ⟨19, _⟩ => ⟨S400x6x8x768, .fp8e4m3⟩
  | .local _ .vmem, ⟨20, _⟩ => ⟨S400x6x8x3072, .fp8e4m3⟩
  | _, _ => ⟨S400x6x8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S19200x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S19200x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x3072 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3072x768 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S400x6x8x768 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S400x6x8x768 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S400x6x8x3072 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AttnRefIdeal.lean ====
abbrev S10x40x48x768 : Shape := ⟨4, ![10, 40, 48, 768]⟩
abbrev S768x2304 : Shape := ⟨2, ![768, 2304]⟩
abbrev S1 : Shape := ⟨1, ![1]⟩
abbrev S768 : Shape := ⟨1, ![768]⟩
abbrev S24 : Shape := ⟨1, ![24]⟩
abbrev S24x64x64 : Shape := ⟨3, ![24, 64, 64]⟩
abbrev S19200x768 : Shape := ⟨2, ![19200, 768]⟩
abbrev S1x1 : Shape := ⟨2, ![1, 1]⟩
abbrev S400x6x8x768 : Shape := ⟨4, ![400, 6, 8, 768]⟩

abbrev nBuf : Space → Nat
  | .hbm => 12
  | .vmem => 3
  | .smem => 0
  | _ => 0

abbrev bufTy : (tb : Table) → Fin (tcTables nBuf tb) → BufTy
  | .hbm, ⟨0, _⟩ => ⟨S10x40x48x768, .bf16⟩
  | .hbm, ⟨1, _⟩ => ⟨S768x2304, .fp8e4m3⟩
  | .hbm, ⟨2, _⟩ => ⟨S1, .f32⟩
  | .hbm, ⟨3, _⟩ => ⟨S1, .f32⟩
  | .hbm, ⟨4, _⟩ => ⟨S768, .f32⟩
  | .hbm, ⟨5, _⟩ => ⟨S768, .f32⟩
  | .hbm, ⟨6, _⟩ => ⟨S24, .f32⟩
  | .hbm, ⟨7, _⟩ => ⟨S24x64x64, .f32⟩
  | .hbm, ⟨8, _⟩ => ⟨S1, .f32⟩
  | .hbm, ⟨9, _⟩ => ⟨S19200x768, .bf16⟩
  | .hbm, ⟨10, _⟩ => ⟨S1x1, .f32⟩
  | .hbm, ⟨11, _⟩ => ⟨S400x6x8x768, .fp8e4m3⟩
  | .local _ .vmem, ⟨0, _⟩ => ⟨S19200x768, .bf16⟩
  | .local _ .vmem, ⟨1, _⟩ => ⟨S1x1, .f32⟩
  | .local _ .vmem, ⟨2, _⟩ => ⟨S400x6x8x768, .fp8e4m3⟩
  | _, _ => ⟨S10x40x48x768, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S19200x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S400x6x8x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Rows.lean ====
/-
  Hand-written. The mathematics of one token's row at the exact instance, where a float is an extended real: the scaled
  linear layer, the normalisation, the quantiser and the activation, as the reference states them, and the half block that
  they make. Two equations carry the kernel's own spelling to the reference's: the kernel multiplies by the reciprocal of a
  scale where the reference divides by the scale, and it multiplies by a reciprocal square root where the reference divides
  by a square root.
-/
module

public import Idealize.ShloMosaic.PureOps.Ideal
public import Idealize.ShloMosaic.Lib.IdealHost

@[expose] public section

noncomputable section

namespace Cert.Rows

open Idealize.ShloMosaic

/-- One token's numbers along the last axis. -/
abbrev Row (n : Nat) := Fin n → EReal

/-- The row length 768 as the programs write it, the small constant under the root, and the bounds of the quantiser. -/
abbrev c768 : EReal := Ideal.ofBits .f32 0x44400000#32
abbrev ceps : EReal := Ideal.ofBits .f32 0x3727C5AC#32
abbrev clo : EReal := Ideal.ofBits .f32 0xC3E00000#32
abbrev chi : EReal := Ideal.ofBits .f32 0x43E00000#32
abbrev chalf : EReal := Ideal.ofBits .f32 0x3F000000#32
abbrev croot : EReal := Ideal.ofBits .f32 0x3F3504F3#32

/-- A scaled linear layer: the exact product of the codes, times the product of the two scales, plus the bias. -/
def linear {K N : Nat} (x : Row K) (w : Fin K → Fin N → EReal) (a s : EReal) (b : Row N) : Row N :=
  fun n => (∑ k, x k * w k n) * (a * s) + b n

/-- The row less its mean. -/
def centred (v : Row 768) : Row 768 := fun k => v k - Ideal.div (∑ j, v j) c768

/-- The mean square of the centred row, plus the small constant. -/
def spread (v : Row 768) : EReal := Ideal.div (∑ j, centred v j * centred v j) c768 + ceps

/-- Layer normalisation as the reference has it: divided by the square root. -/
def layerNorm (v g b : Row 768) : Row 768 :=
  fun k => Ideal.div (centred v k) (Ideal.sqrt (spread v)) * g k + b k

/-- The quantiser: divided by the scale and clipped. -/
def code (v a : EReal) : EReal := min chi (max clo (Ideal.div v a))

/-- The activation. -/
def gelu (v : EReal) : EReal := chalf * v * (1 + Ideal.erf (v * croot))

/-- The parameters of the second half of a block: its three linear layers with their scales, and its two normalisations. -/
structure Half where
  wp : Fin 768 → Fin 768 → EReal
  sp : EReal
  ap : EReal
  bp : Row 768
  g1 : Row 768
  c1 : Row 768
  w1 : Fin 768 → Fin 3072 → EReal
  s1 : EReal
  a1 : EReal
  b1 : Row 3072
  w2 : Fin 3072 → Fin 768 → EReal
  s2 : EReal
  a2 : EReal
  b2 : Row 768
  g2 : Row 768
  c2 : Row 768

/-- The stream after the attention branch, its codes, the hidden codes, and the stream after the feed-forward branch. -/
def Half.mid (p : Half) (x at' : Row 768) : Row 768 :=
  fun k => x k + layerNorm (linear at' p.wp p.ap p.sp p.bp) p.g1 p.c1 k
def Half.codes (p : Half) (x at' : Row 768) : Row 768 := fun k => code (p.mid x at' k) p.a1
def Half.hidden (p : Half) (x at' : Row 768) : Row 3072 :=
  fun n => code (gelu (linear (p.codes x at') p.w1 p.a1 p.s1 p.b1 n)) p.a2
def Half.out (p : Half) (x at' : Row 768) : Row 768 :=
  fun k => p.mid x at' k + layerNorm (linear (p.hidden x at') p.w2 p.a2 p.s2 p.b2) p.g2 p.c2 k

/-! ## The kernel's spelling -/

/-- Multiplying by the reciprocal of a scale that is not zero is dividing by it. -/
theorem mul_recip (v a : EReal) (h : a ≠ 0) : v * Ideal.div 1 a = Ideal.div v a := by
  rw [Ideal.div, Ideal.div, if_neg h, if_neg h, one_mul]

/-- The number one as the programs write it. -/
theorem one_eq : (Ideal.ofBits .f32 0x3F800000#32 : EReal) = 1 := by
  simp [Ideal.ofBits, Ideal.ieee, -EReal.coe_mul]; norm_num

/-- A comparison with zero that holds says that the number is not zero. -/
theorem ne_of_une (x : EReal) (h : BitVec.ofBool (decide (x ≠ 0)) = 1#1) : x ≠ 0 := by
  intro hx
  simp [hx] at h

theorem mul_self_nonneg' (x : EReal) : 0 ≤ x * x := by
  induction x with
  | bot => simp
  | top => simp
  | coe r => exact_mod_cast mul_self_nonneg r

theorem c768_eq : c768 = ((768 : ℝ) : EReal) := by
  simp [c768, Ideal.ofBits, Ideal.ieee, -EReal.coe_mul]; norm_num

theorem ceps_pos : 0 < ceps := by
  have : ceps = ((10995116 * (2 : ℝ) ^ (-40 : Int) : ℝ) : EReal) := by
    simp [ceps, Ideal.ofBits, Ideal.ieee, -EReal.coe_mul]
  rw [this]; exact_mod_cast (by positivity : (0 : ℝ) < 10995116 * (2 : ℝ) ^ (-40 : Int))

theorem spread_pos (v : Row 768) : 0 < spread v := by
  unfold spread
  refine lt_of_lt_of_le ceps_pos (le_add_of_nonneg_left ?_)
  rw [c768_eq, Ideal.div_coe (by norm_num)]
  refine mul_nonneg (Finset.sum_nonneg fun _ _ => mul_self_nonneg' _) ?_
  exact_mod_cast (by norm_num : (0 : ℝ) ≤ 1 / 768)

/-- Multiplying by the reciprocal root of a positive number is dividing by its root. -/
theorem mul_rsqrt (x w : EReal) (h : 0 < w) : x * Ideal.rsqrt w = Ideal.div x (Ideal.sqrt w) := by
  induction w with
  | bot => exact absurd h (by simp)
  | top => rw [Ideal.rsqrt_top, Ideal.sqrt_top, Ideal.div, if_neg EReal.top_ne_zero, EReal.inv_top]
  | coe r =>
    have hr : 0 < r := by exact_mod_cast h
    have hs : Real.sqrt r ≠ 0 := (Real.sqrt_pos.mpr hr).ne'
    rw [Ideal.rsqrt_coe, Ideal.sqrt_coe, if_neg hr.le.not_gt, if_neg hr.ne', if_neg hr.le.not_gt, Ideal.div,
      if_neg (by exact_mod_cast hs), EReal.coe_inv]

/-- The kernel's normalisation is the reference's. -/
theorem layerNorm_rsqrt (v g b : Row 768) (k : Fin 768) :
    centred v k * Ideal.rsqrt (spread v) * g k + b k = layerNorm v g b k := by
  rw [mul_rsqrt _ _ (spread_pos v)]; rfl

end Cert.Rows

end
-- ==== Proof.MlpBlock.lean ====
/-
  Hand-written. The values one grid step of the first block's kernel stores, row by row: the stream after the attention
  branch, its codes, the hidden codes in their six column chunks, and the outputs.
-/
module

public import proofs.«01_k».proof.Proof.Gen.MlpIdeal.Value
public import proofs.«01_k».proof.Proof.Rows
public import Idealize.ShloMosaic.Lib.Pipeline.ValueKit
public import Idealize.ShloMosaic.Lib.Pointwise

@[expose] public section

set_option maxRecDepth 16384

noncomputable section

namespace Cert.MlpIdeal.Block

open Cert.MlpIdeal Cert.MlpIdeal.Gen Idealize.ShloMosaic Idealize.ShloMosaic.TcCoe Idealize.SL.Sem Cert.Rows

/-- The row of a parameter vector, and the matrix of a weight. -/
abbrev row {n : Nat} {e : EltTy} (v : Vec Ideal ⟨2, ![1, n]⟩ e) : Fin n → Elt Ideal e := fun k => v (ix2 0 k)
abbrev mat {m n : Nat} {e : EltTy} (v : Vec Ideal ⟨2, ![m, n]⟩ e) : Fin m → Fin n → Elt Ideal e := fun k n => v (ix2 k n)

/-! ## The stream after the attention branch, and its codes -/

section Mid
variable (X : Vec Ideal S8x6x8x768 .bf16) (A : Vec Ideal S8x6x8x768 .fp8e4m3) (wp : Vec Ideal S768x768 .fp8e4m3)
  (ap sp a1 : Elt Ideal .f32) (bp g1 c1 : Vec Ideal S1x768 .f32)

/-- The row of the token at place `r` of the block. -/
def tokRow {e : EltTy} (v : Vec Ideal S8x6x8x768 e) (r : Fin 384) : Fin 768 → Elt Ideal e :=
  fun k => v (ix4 ⟨r.val / 48, by omega⟩ ⟨r.val / 8 % 6, by omega⟩ ⟨r.val % 8, by omega⟩ k)

theorem pay5_apply (r : Fin 384) (k : Fin 768) :
    k0_pay5 A wp ap sp bp (ix2 r k) = centred (linear (tokRow A r) (mat wp) ap sp (row bp)) k := by
  pointwise [k0_pay5]
  rfl

theorem pay6_apply (r : Fin 384) :
    k0_pay6 A wp ap sp bp (ix2 r 0) = Ideal.rsqrt (spread (linear (tokRow A r) (mat wp) ap sp (row bp))) := by
  pointwise [k0_pay6]
  simp only [pay5_apply]
  rfl

theorem mid_apply (r : Fin 384) (k : Fin 768) :
    k0_pay7 (k0_pay2 X) (k0_pay3 g1) (k0_pay4 c1) (k0_pay5 A wp ap sp bp) (k0_pay6 A wp ap sp bp) (ix2 r k) =
      tokRow X r k + layerNorm (linear (tokRow A r) (mat wp) ap sp (row bp)) (row g1) (row c1) k := by
  rw [← layerNorm_rsqrt, ← pay5_apply, ← pay6_apply]
  pointwise [k0_pay7, k0_pay2, k0_pay3, k0_pay4]
  rfl

theorem codes_apply (v3 v18 v20 v26 v34) (ha : a1 ≠ 0) (r : Fin 384) (k : Fin 768) :
    k0_pay8 v3 v18 v20 v26 v34 a1 (ix2 r k) = code (k0_pay7 v3 v18 v20 v26 v34 (ix2 r k)) a1 := by
  unfold code
  rw [← mul_recip _ _ ha]
  pointwise [k0_pay8]
  try rfl
end Mid

/-! ## The six column chunks of the hidden codes -/

section Chunks
variable (U : Vec Ideal S384x768 .fp8e4m3) (w : Vec Ideal S768x512 .fp8e4m3) (a1 s1 a2 : Elt Ideal .f32) (b : Vec Ideal S1x512 .f32)

/-- One entry of a chunk: the activation of the linear layer, quantised. -/
def chunk (x : Row 768) (n : Fin 512) : EReal := code (gelu (linear x (mat w) a1 s1 (row b) n)) a2

theorem chunk_recip (h : a2 ≠ 0) (x : Row 768) (n : Fin 512) :
    chunk w a1 s1 a2 b x n =
      min chi (max clo (gelu (linear x (mat w) a1 s1 (row b) n) * Ideal.div (Ideal.ofBits .f32 0x3F800000#32) a2)) := by
  rw [one_eq, mul_recip _ _ h]; rfl

theorem lin0 (v3 v18 v20 v26 v34 v42) (r : Fin 384) (n : Fin 512) :
    k0_pay11 v3 v18 v20 v26 v34 v42 w a1 s1 b (ix2 r n) =
      linear (fun k => k0_pay8 v3 v18 v20 v26 v34 v42 (ix2 r k)) (mat w) a1 s1 (row b) n := by
  pointwise [k0_pay11]
  rfl

theorem chunk0 (v3 v18 v20 v26 v34 v42) (h : a2 ≠ 0) (r : Fin 384) (n : Fin 512) :
    k0_pay14 (k0_pay10 a2) (k0_pay11 v3 v18 v20 v26 v34 v42 w a1 s1 b) (k0_pay12 v3 v18 v20 v26 v34 v42 w a1 s1 b) k0_pay13 (ix2 r n) =
      chunk w a1 s1 a2 b (fun k => k0_pay8 v3 v18 v20 v26 v34 v42 (ix2 r k)) n := by
  rw [chunk_recip _ _ _ _ _ h, ← lin0]
  pointwise [k0_pay14, k0_pay10, k0_pay12, k0_pay13]
  simp only [Ideal.erf_def]
  rfl
theorem chunk1 (h : a2 ≠ 0) (r : Fin 384) (n : Fin 512) :
    k0_pay18 (k0_pay17 U (k0_pay10 a2) w a1 s1 b) (Scalar.ofBits .f32 0xC3E00000#32) (ix2 r n) =
      chunk w a1 s1 a2 b (fun k => U (ix2 r k)) n := by
  rw [chunk_recip _ _ _ _ _ h]
  pointwise [k0_pay18, k0_pay17, k0_pay10]
  simp only [Ideal.erf_def]
  rfl
theorem chunk2 (h : a2 ≠ 0) (r : Fin 384) (n : Fin 512) :
    k0_pay21 U (k0_pay10 a2) w a1 s1 b (ix2 r n) = chunk w a1 s1 a2 b (fun k => U (ix2 r k)) n := by
  rw [chunk_recip _ _ _ _ _ h]
  pointwise [k0_pay21, k0_pay10]
  simp only [Ideal.erf_def]
  rfl
theorem chunk3 (h : a2 ≠ 0) (r : Fin 384) (n : Fin 512) :
    k0_pay24 U (k0_pay10 a2) w a1 s1 b (ix2 r n) = chunk w a1 s1 a2 b (fun k => U (ix2 r k)) n := by
  rw [chunk_recip _ _ _ _ _ h]
  pointwise [k0_pay24, k0_pay10]
  simp only [Ideal.erf_def]
  rfl
theorem chunk4 (h : a2 ≠ 0) (r : Fin 384) (n : Fin 512) :
    k0_pay27 U (k0_pay10 a2) w a1 s1 b (ix2 r n) = chunk w a1 s1 a2 b (fun k => U (ix2 r k)) n := by
  rw [chunk_recip _ _ _ _ _ h]
  pointwise [k0_pay27, k0_pay10]
  simp only [Ideal.erf_def]
  rfl
theorem chunk5 (h : a2 ≠ 0) (r : Fin 384) (n : Fin 512) :
    k0_pay31 (k0_pay10 a2) (k0_pay30 U w) a1 s1 b (ix2 r n) = chunk w a1 s1 a2 b (fun k => U (ix2 r k)) n := by
  rw [chunk_recip _ _ _ _ _ h]
  pointwise [k0_pay31, k0_pay30, k0_pay10]
  simp only [Ideal.erf_def]
  rfl

/-! The same entry as the scratch stores it, and as the block of hidden codes does. -/

theorem chunk0s (v3 v18 v20 v26 v34 v42) (h : a2 ≠ 0) (r : Fin 384) (n : Fin 512) :
    k0_pay15 (k0_pay10 a2) (k0_pay11 v3 v18 v20 v26 v34 v42 w a1 s1 b) (k0_pay12 v3 v18 v20 v26 v34 v42 w a1 s1 b) k0_pay13 (ix2 r n) = chunk w a1 s1 a2 b (fun k => k0_pay8 v3 v18 v20 v26 v34 v42 (ix2 r k)) n := by
  rw [← chunk0 _ _ _ _ _ _ _ _ _ _ _ h]
  pointwise [k0_pay15]
theorem chunk0h (v3 v18 v20 v26 v34 v42) (h : a2 ≠ 0) (c : Fin 8) (d : Fin 6) (e : Fin 8) (n : Fin 512) :
    k0_pay16 (k0_pay10 a2) (k0_pay11 v3 v18 v20 v26 v34 v42 w a1 s1 b) (k0_pay12 v3 v18 v20 v26 v34 v42 w a1 s1 b) k0_pay13 (ix4 c d e n) =
      chunk w a1 s1 a2 b (fun k => k0_pay8 v3 v18 v20 v26 v34 v42 (ix2 (⟨c.val * 48 + d.val * 8 + e.val, by omega⟩ : Fin 384) k)) n := by
  rw [← chunk0 _ _ _ _ _ _ _ _ _ _ _ h]
  pointwise [k0_pay16]
theorem chunk1s (h : a2 ≠ 0) (r : Fin 384) (n : Fin 512) :
    k0_pay19 (k0_pay17 U (k0_pay10 a2) w a1 s1 b) (Scalar.ofBits .f32 0xC3E00000#32) (ix2 r n) = chunk w a1 s1 a2 b (fun k => U (ix2 r k)) n := by
  rw [← chunk1 _ _ _ _ _ _ h]
  pointwise [k0_pay19]
theorem chunk1h (h : a2 ≠ 0) (c : Fin 8) (d : Fin 6) (e : Fin 8) (n : Fin 512) :
    k0_pay20 (k0_pay17 U (k0_pay10 a2) w a1 s1 b) (Scalar.ofBits .f32 0xC3E00000#32) (ix4 c d e n) =
      chunk w a1 s1 a2 b (fun k => U (ix2 (⟨c.val * 48 + d.val * 8 + e.val, by omega⟩ : Fin 384) k)) n := by
  rw [← chunk1 _ _ _ _ _ _ h]
  pointwise [k0_pay20]
theorem chunk2s (h : a2 ≠ 0) (r : Fin 384) (n : Fin 512) :
    k0_pay22 (k0_pay21 U (k0_pay10 a2) w a1 s1 b) (ix2 r n) = chunk w a1 s1 a2 b (fun k => U (ix2 r k)) n := by
  rw [← chunk2 _ _ _ _ _ _ h]
  pointwise [k0_pay22]
theorem chunk2h (h : a2 ≠ 0) (c : Fin 8) (d : Fin 6) (e : Fin 8) (n : Fin 512) :
    k0_pay23 (k0_pay21 U (k0_pay10 a2) w a1 s1 b) (ix4 c d e n) =
      chunk w a1 s1 a2 b (fun k => U (ix2 (⟨c.val * 48 + d.val * 8 + e.val, by omega⟩ : Fin 384) k)) n := by
  rw [← chunk2 _ _ _ _ _ _ h]
  pointwise [k0_pay23]
theorem chunk3s (h : a2 ≠ 0) (r : Fin 384) (n : Fin 512) :
    k0_pay25 U (k0_pay10 a2) w a1 s1 b (ix2 r n) = chunk w a1 s1 a2 b (fun k => U (ix2 r k)) n := by
  rw [← chunk3 _ _ _ _ _ _ h]
  pointwise [k0_pay25]
theorem chunk3h (h : a2 ≠ 0) (c : Fin 8) (d : Fin 6) (e : Fin 8) (n : Fin 512) :
    k0_pay26 U (k0_pay10 a2) w a1 s1 b (ix4 c d e n) =
      chunk w a1 s1 a2 b (fun k => U (ix2 (⟨c.val * 48 + d.val * 8 + e.val, by omega⟩ : Fin 384) k)) n := by
  rw [← chunk3 _ _ _ _ _ _ h]
  pointwise [k0_pay26]
theorem chunk4s (h : a2 ≠ 0) (r : Fin 384) (n : Fin 512) :
    k0_pay28 U (k0_pay10 a2) w a1 s1 b (ix2 r n) = chunk w a1 s1 a2 b (fun k => U (ix2 r k)) n := by
  rw [← chunk4 _ _ _ _ _ _ h]
  pointwise [k0_pay28]
theorem chunk4h (h : a2 ≠ 0) (c : Fin 8) (d : Fin 6) (e : Fin 8) (n : Fin 512) :
    k0_pay29 U (k0_pay10 a2) w a1 s1 b (ix4 c d e n) =
      chunk w a1 s1 a2 b (fun k => U (ix2 (⟨c.val * 48 + d.val * 8 + e.val, by omega⟩ : Fin 384) k)) n := by
  rw [← chunk4 _ _ _ _ _ _ h]
  pointwise [k0_pay29]
theorem chunk5s (h : a2 ≠ 0) (r : Fin 384) (n : Fin 512) :
    k0_pay32 (k0_pay10 a2) (k0_pay30 U w) a1 s1 b (ix2 r n) = chunk w a1 s1 a2 b (fun k => U (ix2 r k)) n := by
  rw [← chunk5 _ _ _ _ _ _ h]
  pointwise [k0_pay32]
theorem chunk5h (h : a2 ≠ 0) (c : Fin 8) (d : Fin 6) (e : Fin 8) (n : Fin 512) :
    k0_pay33 (k0_pay10 a2) (k0_pay30 U w) a1 s1 b (ix4 c d e n) =
      chunk w a1 s1 a2 b (fun k => U (ix2 (⟨c.val * 48 + d.val * 8 + e.val, by omega⟩ : Fin 384) k)) n := by
  rw [← chunk5 _ _ _ _ _ _ h]
  pointwise [k0_pay33]
end Chunks

/-! ## The hidden codes, put together from the chunks -/

section Hidden
variable (v3 : Vec Ideal S384x768 .f32) (v18 v20 : Vec Ideal S1x768 .f32) (v26 : Vec Ideal S384x768 .f32) (v34 : Vec Ideal S384x1 .f32)
  (w1 : Vec Ideal S768x3072 .fp8e4m3) (a1 s1 a2 : Elt Ideal .f32) (b1 : Vec Ideal S1x3072 .f32)

/-- The hidden codes of a row of codes. -/
def hid (x : Row 768) : Row 3072 := fun n => code (gelu (linear x (mat w1) a1 s1 (row b1) n)) a2

/-- A chunk loaded at column `off` is the hidden codes there. -/
theorem chunk_ld (w : Vec Ideal S768x512 .fp8e4m3) (b : Vec Ideal S1x512 .f32) (x x' : Row 768) (n : Fin 512) (N : Fin 3072)
    (hx : x = x') (hw : ∀ k, w (ix2 k n) = w1 (ix2 k N)) (hb : b (ix2 0 n) = b1 (ix2 0 N)) :
    chunk w a1 s1 a2 b x n = hid w1 a1 s1 a2 b1 x' N := by
  subst hx
  unfold chunk hid linear
  simp only [mat, row, hw, hb]

/-- The scratch the six stores fill, -/
def scratch : List (View.Piece (Elt Ideal) S384x3072 .fp8e4m3) := [
    ⟨Rect.unit ![0, 2560] ![384, 512] inb_S384x3072_S384x512_0_2560,
      k0_pay32 (k0_pay10 a2) (k0_pay30 (k0_pay8 v3 v18 v20 v26 v34 a1) (View.ld w1 (Rect.unit ![0, 2560] ![768, 512] inb_S768x3072_S768x512_0_2560))) a1 s1 (View.ld b1 (Rect.unit ![0, 2560] ![1, 512] inb_S1x3072_S1x512_0_2560))⟩,
    ⟨Rect.unit ![0, 2048] ![384, 512] inb_S384x3072_S384x512_0_2048,
      k0_pay28 (k0_pay8 v3 v18 v20 v26 v34 a1) (k0_pay10 a2) (View.ld w1 (Rect.unit ![0, 2048] ![768, 512] inb_S768x3072_S768x512_0_2048)) a1 s1 (View.ld b1 (Rect.unit ![0, 2048] ![1, 512] inb_S1x3072_S1x512_0_2048))⟩,
    ⟨Rect.unit ![0, 1536] ![384, 512] inb_S384x3072_S384x512_0_1536,
      k0_pay25 (k0_pay8 v3 v18 v20 v26 v34 a1) (k0_pay10 a2) (View.ld w1 (Rect.unit ![0, 1536] ![768, 512] inb_S768x3072_S768x512_0_1536)) a1 s1 (View.ld b1 (Rect.unit ![0, 1536] ![1, 512] inb_S1x3072_S1x512_0_1536))⟩,
    ⟨Rect.unit ![0, 1024] ![384, 512] inb_S384x3072_S384x512_0_1024,
      k0_pay22 (k0_pay21 (k0_pay8 v3 v18 v20 v26 v34 a1) (k0_pay10 a2) (View.ld w1 (Rect.unit ![0, 1024] ![768, 512] inb_S768x3072_S768x512_0_1024)) a1 s1 (View.ld b1 (Rect.unit ![0, 1024] ![1, 512] inb_S1x3072_S1x512_0_1024)))⟩,
    ⟨Rect.unit ![0, 512] ![384, 512] inb_S384x3072_S384x512_0_512,
      k0_pay19 (k0_pay17 (k0_pay8 v3 v18 v20 v26 v34 a1) (k0_pay10 a2) (View.ld w1 (Rect.unit ![0, 512] ![768, 512] inb_S768x3072_S768x512_0_512)) a1 s1 (View.ld b1 (Rect.unit ![0, 512] ![1, 512] inb_S1x3072_S1x512_0_512))) (Scalar.ofBits .f32 0xC3E00000#32)⟩,
    ⟨Rect.unit ![0, 0] ![384, 512] inb_S384x3072_S384x512_0_0,
      k0_pay15 (k0_pay10 a2) (k0_pay11 v3 v18 v20 v26 v34 a1 (View.ld w1 (Rect.unit ![0, 0] ![768, 512] inb_S768x3072_S768x512_0_0)) a1 s1 (View.ld b1 (Rect.unit ![0, 0] ![1, 512] inb_S1x3072_S1x512_0_0))) (k0_pay12 v3 v18 v20 v26 v34 a1 (View.ld w1 (Rect.unit ![0, 0] ![768, 512] inb_S768x3072_S768x512_0_0)) a1 s1 (View.ld b1 (Rect.unit ![0, 0] ![1, 512] inb_S1x3072_S1x512_0_0))) k0_pay13⟩]
/-- and the block of hidden codes they store. -/
def block : List (View.Piece (Elt Ideal) S8x6x8x3072 .fp8e4m3) := [
    ⟨Rect.unit ![0, 0, 0, 2560] ![8, 6, 8, 512] inb_S8x6x8x3072_S8x6x8x512_0_0_0_2560,
      k0_pay33 (k0_pay10 a2) (k0_pay30 (k0_pay8 v3 v18 v20 v26 v34 a1) (View.ld w1 (Rect.unit ![0, 2560] ![768, 512] inb_S768x3072_S768x512_0_2560))) a1 s1 (View.ld b1 (Rect.unit ![0, 2560] ![1, 512] inb_S1x3072_S1x512_0_2560))⟩,
    ⟨Rect.unit ![0, 0, 0, 2048] ![8, 6, 8, 512] inb_S8x6x8x3072_S8x6x8x512_0_0_0_2048,
      k0_pay29 (k0_pay8 v3 v18 v20 v26 v34 a1) (k0_pay10 a2) (View.ld w1 (Rect.unit ![0, 2048] ![768, 512] inb_S768x3072_S768x512_0_2048)) a1 s1 (View.ld b1 (Rect.unit ![0, 2048] ![1, 512] inb_S1x3072_S1x512_0_2048))⟩,
    ⟨Rect.unit ![0, 0, 0, 1536] ![8, 6, 8, 512] inb_S8x6x8x3072_S8x6x8x512_0_0_0_1536,
      k0_pay26 (k0_pay8 v3 v18 v20 v26 v34 a1) (k0_pay10 a2) (View.ld w1 (Rect.unit ![0, 1536] ![768, 512] inb_S768x3072_S768x512_0_1536)) a1 s1 (View.ld b1 (Rect.unit ![0, 1536] ![1, 512] inb_S1x3072_S1x512_0_1536))⟩,
    ⟨Rect.unit ![0, 0, 0, 1024] ![8, 6, 8, 512] inb_S8x6x8x3072_S8x6x8x512_0_0_0_1024,
      k0_pay23 (k0_pay21 (k0_pay8 v3 v18 v20 v26 v34 a1) (k0_pay10 a2) (View.ld w1 (Rect.unit ![0, 1024] ![768, 512] inb_S768x3072_S768x512_0_1024)) a1 s1 (View.ld b1 (Rect.unit ![0, 1024] ![1, 512] inb_S1x3072_S1x512_0_1024)))⟩,
    ⟨Rect.unit ![0, 0, 0, 512] ![8, 6, 8, 512] inb_S8x6x8x3072_S8x6x8x512_0_0_0_512,
      k0_pay20 (k0_pay17 (k0_pay8 v3 v18 v20 v26 v34 a1) (k0_pay10 a2) (View.ld w1 (Rect.unit ![0, 512] ![768, 512] inb_S768x3072_S768x512_0_512)) a1 s1 (View.ld b1 (Rect.unit ![0, 512] ![1, 512] inb_S1x3072_S1x512_0_512))) (Scalar.ofBits .f32 0xC3E00000#32)⟩,
    ⟨Rect.unit ![0, 0, 0, 0] ![8, 6, 8, 512] inb_S8x6x8x3072_S8x6x8x512_0_0_0_0,
      k0_pay16 (k0_pay10 a2) (k0_pay11 v3 v18 v20 v26 v34 a1 (View.ld w1 (Rect.unit ![0, 0] ![768, 512] inb_S768x3072_S768x512_0_0)) a1 s1 (View.ld b1 (Rect.unit ![0, 0] ![1, 512] inb_S1x3072_S1x512_0_0))) (k0_pay12 v3 v18 v20 v26 v34 a1 (View.ld w1 (Rect.unit ![0, 0] ![768, 512] inb_S768x3072_S768x512_0_0)) a1 s1 (View.ld b1 (Rect.unit ![0, 0] ![1, 512] inb_S1x3072_S1x512_0_0))) k0_pay13⟩]

theorem ldw (off : Nat) (inb) (k : Fin 768) (n : Fin 512) (N : Fin 3072) (h : N.val = off + n.val) :
    View.ld w1 (Rect.unit ![0, off] ![768, 512] inb) (ix2 k n) = w1 (ix2 k N) := by
  refine congrArg w1 (funext fun a => Fin.ext ?_)
  fin_cases a
  · simp [Rect.emb, Rect.unit]
  · simp [Rect.emb, Rect.unit, h]
theorem ldb (off : Nat) (inb) (n : Fin 512) (N : Fin 3072) (h : N.val = off + n.val) :
    View.ld b1 (Rect.unit ![0, off] ![1, 512] inb) (ix2 0 n) = b1 (ix2 0 N) := by
  refine congrArg b1 (funext fun a => Fin.ext ?_)
  fin_cases a
  · simp [Rect.emb, Rect.unit]
  · simp [Rect.emb, Rect.unit, h]

theorem scratch_apply (h : a2 ≠ 0) (r : Fin 384) (n : Fin 3072) :
    View.canon (scratch v3 v18 v20 v26 v34 w1 a1 s1 a2 b1) (ix2 r n) =
      hid w1 a1 s1 a2 b1 (fun k => k0_pay8 v3 v18 v20 v26 v34 a1 (ix2 r k)) n := by
  generalize hy : ix2 r n = y
  have e0 : (y 0).val = r.val := by subst hy; rfl
  have e1 : (y 1).val = n.val := by subst hy; rfl
  clear hy
  unfold scratch
  canon_tiles x h
  all_goals idx_vars x
  all_goals have er : x0 = r := Fin.ext (by omega)
  all_goals subst er
  · exact (chunk5s _ _ _ _ _ _ h _ _).trans (chunk_ld _ _ _ _ _ _ _ _ _ _ _ rfl (fun k => ldw _ _ _ _ _ _ (by omega)) (ldb _ _ _ _ _ (by omega)))
  · exact (chunk4s _ _ _ _ _ _ h _ _).trans (chunk_ld _ _ _ _ _ _ _ _ _ _ _ rfl (fun k => ldw _ _ _ _ _ _ (by omega)) (ldb _ _ _ _ _ (by omega)))
  · exact (chunk3s _ _ _ _ _ _ h _ _).trans (chunk_ld _ _ _ _ _ _ _ _ _ _ _ rfl (fun k => ldw _ _ _ _ _ _ (by omega)) (ldb _ _ _ _ _ (by omega)))
  · exact (chunk2s _ _ _ _ _ _ h _ _).trans (chunk_ld _ _ _ _ _ _ _ _ _ _ _ rfl (fun k => ldw _ _ _ _ _ _ (by omega)) (ldb _ _ _ _ _ (by omega)))
  · exact (chunk1s _ _ _ _ _ _ h _ _).trans (chunk_ld _ _ _ _ _ _ _ _ _ _ _ rfl (fun k => ldw _ _ _ _ _ _ (by omega)) (ldb _ _ _ _ _ (by omega)))
  · exact (chunk0s _ _ _ _ _ _ _ _ _ _ _ h _ _).trans (chunk_ld _ _ _ _ _ _ _ _ _ _ _ rfl (fun k => ldw _ _ _ _ _ _ (by omega)) (ldb _ _ _ _ _ (by omega)))

theorem block_apply (h : a2 ≠ 0) (c : Fin 8) (d : Fin 6) (e : Fin 8) (n : Fin 3072) :
    View.canon (block v3 v18 v20 v26 v34 w1 a1 s1 a2 b1) (ix4 c d e n) =
      hid w1 a1 s1 a2 b1
        (fun k => k0_pay8 v3 v18 v20 v26 v34 a1 (ix2 (⟨c.val * 48 + d.val * 8 + e.val, by omega⟩ : Fin 384) k)) n := by
  generalize hy : ix4 c d e n = y
  have e0 : (y 0).val = c.val := by subst hy; rfl
  have e1 : (y 1).val = d.val := by subst hy; rfl
  have e2 : (y 2).val = e.val := by subst hy; rfl
  have e3 : (y 3).val = n.val := by subst hy; rfl
  clear hy
  unfold block
  canon_tiles x h
  all_goals idx_vars x
  all_goals have er : x0 = c := Fin.ext (by omega)
  all_goals have es : x1 = d := Fin.ext (by omega)
  all_goals have et : x2 = e := Fin.ext (by omega)
  all_goals subst er es et
  · exact (chunk5h _ _ _ _ _ _ h _ _ _ _).trans (chunk_ld _ _ _ _ _ _ _ _ _ _ _ rfl (fun k => ldw _ _ _ _ _ _ (by omega)) (ldb _ _ _ _ _ (by omega)))
  · exact (chunk4h _ _ _ _ _ _ h _ _ _ _).trans (chunk_ld _ _ _ _ _ _ _ _ _ _ _ rfl (fun k => ldw _ _ _ _ _ _ (by omega)) (ldb _ _ _ _ _ (by omega)))
  · exact (chunk3h _ _ _ _ _ _ h _ _ _ _).trans (chunk_ld _ _ _ _ _ _ _ _ _ _ _ rfl (fun k => ldw _ _ _ _ _ _ (by omega)) (ldb _ _ _ _ _ (by omega)))
  · exact (chunk2h _ _ _ _ _ _ h _ _ _ _).trans (chunk_ld _ _ _ _ _ _ _ _ _ _ _ rfl (fun k => ldw _ _ _ _ _ _ (by omega)) (ldb _ _ _ _ _ (by omega)))
  · exact (chunk1h _ _ _ _ _ _ h _ _ _ _).trans (chunk_ld _ _ _ _ _ _ _ _ _ _ _ rfl (fun k => ldw _ _ _ _ _ _ (by omega)) (ldb _ _ _ _ _ (by omega)))
  · exact (chunk0h _ _ _ _ _ _ _ _ _ _ _ h _ _ _ _).trans (chunk_ld _ _ _ _ _ _ _ _ _ _ _ rfl (fun k => ldw _ _ _ _ _ _ (by omega)) (ldb _ _ _ _ _ (by omega)))

/-- The whole scratch, and what a load of it reads back. -/
abbrev full : Rect S384x3072 := Rect.unit (s := S384x3072) ![0, 0] ![384, 3072] inb_S384x3072_S384x3072_0_0
abbrev readBack (L : List (View.Piece (Elt Ideal) S384x3072 .fp8e4m3)) : Vec Ideal S384x3072 .fp8e4m3 :=
  (View.whole cc0_scratch0).readCov L full.toLoadRect

theorem scratch_read (h : a2 ≠ 0) (r : Fin 384) (n : Fin 3072) :
    readBack (scratch v3 v18 v20 v26 v34 w1 a1 s1 a2 b1) (ix2 r n) =
      hid w1 a1 s1 a2 b1 (fun k => k0_pay8 v3 v18 v20 v26 v34 a1 (ix2 r k)) n := by
  rw [readBack, View.readCov_eq_canon', ← scratch_apply _ _ _ _ _ _ _ _ _ _ h]
  refine congrArg (View.canon _) (funext fun a => Fin.ext ?_)
  fin_cases a <;> simp [Rect.toLoadRect, LoadRect.idx, Rect.unit]
end Hidden

/-! ## The feed-forward branch -/

section Out
variable (M : Vec Ideal S384x768 .f32) (H : Vec Ideal S384x3072 .fp8e4m3) (w2 : Vec Ideal S3072x768 .fp8e4m3)
  (a2 s2 an : Elt Ideal .f32) (b2 g2 c2 : Vec Ideal S1x768 .f32)

theorem out_apply (r : Fin 384) (k : Fin 768) :
    k0_pay35 M (k0_pay34 H w2 a2 s2) b2 g2 c2 (ix2 r k) =
      M (ix2 r k) + layerNorm (linear (fun n => H (ix2 r n)) (mat w2) a2 s2 (row b2)) (row g2) (row c2) k := by
  rw [← layerNorm_rsqrt]
  pointwise [k0_pay35, k0_pay34]
  rfl

theorem next_apply (V : Vec Ideal S384x768 .f32) (h : an ≠ 0) (r : Fin 384) (k : Fin 768) :
    k0_pay37 M V b2 g2 c2 an (ix2 r k) = code (k0_pay35 M V b2 g2 c2 (ix2 r k)) an := by
  unfold code
  rw [← mul_recip _ _ h]
  pointwise [k0_pay37]
end Out

/-! ## One grid step, over the contents of its windows -/

section Step
variable (X : Vec Ideal S8x6x8x768 .bf16) (A : Vec Ideal S8x6x8x768 .fp8e4m3) (wp : Vec Ideal S768x768 .fp8e4m3)
  (w1 : Vec Ideal S768x3072 .fp8e4m3) (w2 : Vec Ideal S3072x768 .fp8e4m3)
  (bp g1 c1 : Vec Ideal S1x768 .f32) (b1 : Vec Ideal S1x3072 .f32) (b2 g2 c2 : Vec Ideal S1x768 .f32)
  (ap sp a1 s1 a2 s2 an : Elt Ideal .f32)

/-- The parameters as the mathematics has them. -/
def half : Half where
  wp := mat wp
  sp := sp
  ap := ap
  bp := row bp
  g1 := row g1
  c1 := row c1
  w1 := mat w1
  s1 := s1
  a1 := a1
  b1 := row b1
  w2 := mat w2
  s2 := s2
  a2 := a2
  b2 := row b2
  g2 := row g2
  c2 := row c2

/-- The stream after the attention branch, the codes of it, and the hidden codes the scratch holds. -/
abbrev kMid : Vec Ideal S384x768 .f32 :=
  k0_pay7 (k0_pay2 X) (k0_pay3 g1) (k0_pay4 c1) (k0_pay5 A wp ap sp bp) (k0_pay6 A wp ap sp bp)
abbrev kScratch : Vec Ideal S384x3072 .fp8e4m3 :=
  readBack (scratch (k0_pay2 X) (k0_pay3 g1) (k0_pay4 c1) (k0_pay5 A wp ap sp bp) (k0_pay6 A wp ap sp bp) w1 a1 s1 a2 b1)

/-- The row of the token at place `(c, d, e)` of the block. -/
def tok {e : EltTy} (v : Vec Ideal S8x6x8x768 e) (a : Fin 8) (b : Fin 6) (c : Fin 8) : Fin 768 → Elt Ideal e :=
  fun k => v (ix4 a b c k)

theorem tokRow_eq {e : EltTy} (v : Vec Ideal S8x6x8x768 e) (a : Fin 8) (b : Fin 6) (c : Fin 8) :
    tokRow v ⟨a.val * 48 + b.val * 8 + c.val, by omega⟩ = tok v a b c := by
  funext k
  unfold tokRow tok
  congr 1
  congr 1 <;> exact Fin.ext (by dsimp only; omega)

theorem mid_half (r : Fin 384) (k : Fin 768) :
    kMid X A wp bp g1 c1 ap sp (ix2 r k) =
      (half wp w1 w2 bp g1 c1 b1 b2 g2 c2 ap sp a1 s1 a2 s2).mid (tokRow X r) (tokRow A r) k :=
  mid_apply X A wp ap sp bp g1 c1 r k

theorem codes_half (h1 : a1 ≠ 0) (r : Fin 384) (k : Fin 768) :
    k0_pay8 (k0_pay2 X) (k0_pay3 g1) (k0_pay4 c1) (k0_pay5 A wp ap sp bp) (k0_pay6 A wp ap sp bp) a1 (ix2 r k) =
      (half wp w1 w2 bp g1 c1 b1 b2 g2 c2 ap sp a1 s1 a2 s2).codes (tokRow X r) (tokRow A r) k :=
  (codes_apply a1 _ _ _ _ _ h1 r k).trans
    (congrArg (code · a1) (mid_half X A wp w1 w2 bp g1 c1 b1 b2 g2 c2 ap sp a1 s1 a2 s2 r k))

theorem scratch_half (h1 : a1 ≠ 0) (h2 : a2 ≠ 0) (r : Fin 384) (n : Fin 3072) :
    kScratch X A wp w1 bp g1 c1 b1 ap sp a1 s1 a2 (ix2 r n) =
      (half wp w1 w2 bp g1 c1 b1 b2 g2 c2 ap sp a1 s1 a2 s2).hidden (tokRow X r) (tokRow A r) n := by
  refine (scratch_read _ _ _ _ _ _ _ _ _ _ h2 r n).trans ?_
  simp only [codes_half X A wp w1 w2 bp g1 c1 b1 b2 g2 c2 ap sp a1 s1 a2 s2 h1]
  rfl

theorem out_half (h1 : a1 ≠ 0) (h2 : a2 ≠ 0) (r : Fin 384) (k : Fin 768) :
    k0_pay35 (kMid X A wp bp g1 c1 ap sp) (k0_pay34 (kScratch X A wp w1 bp g1 c1 b1 ap sp a1 s1 a2) w2 a2 s2) b2 g2 c2 (ix2 r k) =
      (half wp w1 w2 bp g1 c1 b1 b2 g2 c2 ap sp a1 s1 a2 s2).out (tokRow X r) (tokRow A r) k := by
  rw [out_apply, mid_half X A wp w1 w2 bp g1 c1 b1 b2 g2 c2 ap sp a1 s1 a2 s2]
  simp only [scratch_half X A wp w1 w2 bp g1 c1 b1 b2 g2 c2 ap sp a1 s1 a2 s2 h1 h2]
  rfl

/-! What the four output windows hold. -/

theorem step19 (h1 : a1 ≠ 0) (h2 : a2 ≠ 0) (a : Fin 8) (b : Fin 6) (c : Fin 8) (k : Fin 768) :
    k0_pay36 (kMid X A wp bp g1 c1 ap sp) (k0_pay34 (kScratch X A wp w1 bp g1 c1 b1 ap sp a1 s1 a2) w2 a2 s2) b2 g2 c2 (ix4 a b c k) =
      (half wp w1 w2 bp g1 c1 b1 b2 g2 c2 ap sp a1 s1 a2 s2).out (tok X a b c) (tok A a b c) k := by
  rw [← tokRow_eq, ← tokRow_eq, ← out_half X A wp w1 w2 bp g1 c1 b1 b2 g2 c2 ap sp a1 s1 a2 s2 h1 h2]
  pointwise [k0_pay36]

theorem step20 (h1 : a1 ≠ 0) (a : Fin 8) (b : Fin 6) (c : Fin 8) (k : Fin 768) :
    k0_pay9 (k0_pay2 X) (k0_pay3 g1) (k0_pay4 c1) (k0_pay5 A wp ap sp bp) (k0_pay6 A wp ap sp bp) a1 (ix4 a b c k) =
      (half wp w1 w2 bp g1 c1 b1 b2 g2 c2 ap sp a1 s1 a2 s2).codes (tok X a b c) (tok A a b c) k := by
  rw [← tokRow_eq, ← tokRow_eq, ← codes_half X A wp w1 w2 bp g1 c1 b1 b2 g2 c2 ap sp a1 s1 a2 s2 h1]
  pointwise [k0_pay9]

theorem step21 (h1 : a1 ≠ 0) (h2 : a2 ≠ 0) (a : Fin 8) (b : Fin 6) (c : Fin 8) (n : Fin 3072) :
    View.canon (block (k0_pay2 X) (k0_pay3 g1) (k0_pay4 c1) (k0_pay5 A wp ap sp bp) (k0_pay6 A wp ap sp bp) w1 a1 s1 a2 b1) (ix4 a b c n) =
      (half wp w1 w2 bp g1 c1 b1 b2 g2 c2 ap sp a1 s1 a2 s2).hidden (tok X a b c) (tok A a b c) n := by
  rw [block_apply _ _ _ _ _ _ _ _ _ _ h2, ← tokRow_eq, ← tokRow_eq]
  simp only [codes_half X A wp w1 w2 bp g1 c1 b1 b2 g2 c2 ap sp a1 s1 a2 s2 h1]
  rfl

theorem step22 (h1 : a1 ≠ 0) (h2 : a2 ≠ 0) (hn : an ≠ 0) (a : Fin 8) (b : Fin 6) (c : Fin 8) (k : Fin 768) :
    k0_pay1 (k0_pay37 (kMid X A wp bp g1 c1 ap sp) (k0_pay34 (kScratch X A wp w1 bp g1 c1 b1 ap sp a1 s1 a2) w2 a2 s2) b2 g2 c2 an)
        (ix4 a b c k) =
      code ((half wp w1 w2 bp g1 c1 b1 b2 g2 c2 ap sp a1 s1 a2 s2).out (tok X a b c) (tok A a b c) k) an := by
  rw [← tokRow_eq, ← tokRow_eq, ← out_half X A wp w1 w2 bp g1 c1 b1 b2 g2 c2 ap sp a1 s1 a2 s2 h1 h2,
    ← next_apply _ _ _ _ _ _ hn]
  pointwise [k0_pay1]
end Step

end Cert.MlpIdeal.Block

end
-- ==== Proof.Spec.lean ====
/-
  Hand-written. What each call leaves in its result arrays, as a function of its argument arrays alone: at a token's place,
  the row mathematics applied to that token's rows of the arguments.
-/
module

public import proofs.«01_k».proof.Proof.Rows
public import Idealize.ShloMosaic.Lib.Pipeline.ValueKit
public import Idealize.ShloMosaic.Lib.Pointwise

@[expose] public section

noncomputable section

namespace Cert.Spec

open Idealize.ShloMosaic Cert.Rows

/-- The shapes of the arguments and results. -/
abbrev V1 : Shape := ⟨1, ![1]⟩
abbrev V768 : Shape := ⟨1, ![768]⟩
abbrev V3072 : Shape := ⟨1, ![3072]⟩
abbrev Tok : Shape := ⟨4, ![400, 6, 8, 768]⟩
abbrev TokH : Shape := ⟨4, ![400, 6, 8, 3072]⟩
abbrev Img : Shape := ⟨4, ![10, 40, 48, 768]⟩

/-- The parameters of a half block, from the argument arrays in the order the call takes them. -/
def params (wp : Vec Ideal ⟨2, ![768, 768]⟩ .fp8e4m3) (sp ap : Vec Ideal V1 .f32) (bp g1 c1 : Vec Ideal V768 .f32)
    (w1 : Vec Ideal ⟨2, ![768, 3072]⟩ .fp8e4m3) (s1 a1 : Vec Ideal V1 .f32) (b1 : Vec Ideal V3072 .f32)
    (w2 : Vec Ideal ⟨2, ![3072, 768]⟩ .fp8e4m3) (s2 a2 : Vec Ideal V1 .f32) (b2 g2 c2 : Vec Ideal V768 .f32) : Half where
  wp := fun k n => wp (ix2 k n)
  sp := sp (ix1 0)
  ap := ap (ix1 0)
  bp := fun k => bp (ix1 k)
  g1 := fun k => g1 (ix1 k)
  c1 := fun k => c1 (ix1 k)
  w1 := fun k n => w1 (ix2 k n)
  s1 := s1 (ix1 0)
  a1 := a1 (ix1 0)
  b1 := fun k => b1 (ix1 k)
  w2 := fun k n => w2 (ix2 k n)
  s2 := s2 (ix1 0)
  a2 := a2 (ix1 0)
  b2 := fun k => b2 (ix1 k)
  g2 := fun k => g2 (ix1 k)
  c2 := fun k => c2 (ix1 k)

/-- The row of the token at a place of a windowed array, and its row in the image the windows cut up: 40 rows of an image
    are 40 leading indices, and a window's row of 48 is 6 groups of 8. -/
def rowTok {e : EltTy} (v : Vec Ideal Tok e) (a : Fin 400) (b : Fin 6) (c : Fin 8) : Fin 768 → Elt Ideal e :=
  fun k => v (ix4 a b c k)
def rowImg {e : EltTy} (v : Vec Ideal Img e) (a : Fin 400) (b : Fin 6) (c : Fin 8) : Fin 768 → Elt Ideal e :=
  fun k => v (ix4 ⟨a.val / 40, by omega⟩ ⟨a.val % 40, by omega⟩ ⟨b.val * 8 + c.val, by omega⟩ k)

section
variable (p : Half) (an : EReal) (x at' : Fin 400 → Fin 6 → Fin 8 → Row 768)

/-- The results: the stream, its codes for the next block, the codes after the attention branch, the hidden codes. -/
def out (i : Tok.Idx) : EReal := p.out (x (i 0) (i 1) (i 2)) (at' (i 0) (i 1) (i 2)) (i 3)
def next (i : Tok.Idx) : EReal := code (p.out (x (i 0) (i 1) (i 2)) (at' (i 0) (i 1) (i 2)) (i 3)) an
def codes (i : Tok.Idx) : EReal := p.codes (x (i 0) (i 1) (i 2)) (at' (i 0) (i 1) (i 2)) (i 3)
def hidden (i : TokH.Idx) : EReal := p.hidden (x (i 0) (i 1) (i 2)) (at' (i 0) (i 1) (i 2)) (i 3)
/-- The codes of the input, for the first block. -/
def first (i : Tok.Idx) : EReal := code (x (i 0) (i 1) (i 2) (i 3)) an
end

end Cert.Spec

end
-- ==== Proof.MlpArray.lean ====
/-
  Hand-written. The result arrays of the first block's kernel as functions of its argument arrays: each grid step's windows
  read the arguments, and the steps' blocks cover the results.
-/
module

public import proofs.«01_k».proof.Proof.MlpBlock
public import proofs.«01_k».proof.Proof.Spec

@[expose] public section

set_option maxRecDepth 16384

noncomputable section

namespace Cert.MlpIdeal.Array

open Cert.MlpIdeal Cert.MlpIdeal.Gen Cert.MlpIdeal.Block Idealize.ShloMosaic Idealize.ShloMosaic.TcCoe Idealize.SL.Sem Cert.Rows

variable (m : (ℓ : Loc nD τ sig) → Buf (Elt Ideal) ℓ)

/-- The parameters and the token rows, from the launched memory. -/
def P (c : Dev nD) : Half :=
  Spec.params (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17))
def xs (c : Dev nD) := Spec.rowImg (m ((c : Thread nD τ).loc main_arg0))
def ats (c : Dev nD) := Spec.rowTok (m ((c : Thread nD τ).loc main_arg1))
def an (c : Dev nD) : EReal := (m ((c : Thread nD τ).loc main_arg18) : Vec Ideal S1 .f32) (ix1 0)

/-- Where each window's block lies. -/
theorem idx : ∀ t : Fin cfg0.N, win0_0.index t = ![t.val, 0, 0, 0] ∧ win0_1.index t = ![t.val, 0, 0, 0] ∧
    win0_2.index t = ![0, 0] ∧ win0_3.index t = ![0, 0] ∧ win0_4.index t = ![0, 0] ∧ win0_5.index t = ![0, 0] ∧
    win0_6.index t = ![0, 0] ∧ win0_7.index t = ![0, 0] ∧ win0_8.index t = ![0, 0] ∧ win0_9.index t = ![0, 0] ∧
    win0_10.index t = ![0, 0] ∧ win0_11.index t = ![0, 0] ∧ win0_12.index t = ![0] ∧ win0_13.index t = ![0] ∧
    win0_14.index t = ![0] ∧ win0_15.index t = ![0] ∧ win0_16.index t = ![0] ∧ win0_17.index t = ![0] ∧ win0_18.index t = ![0] ∧
    win0_19.index t = ![t.val, 0, 0, 0] ∧ win0_20.index t = ![t.val, 0, 0, 0] ∧ win0_21.index t = ![t.val, 0, 0, 0] ∧
    win0_22.index t = ![t.val, 0, 0, 0] := by decide +kernel

/-- A scale as a grid step loads it. -/
abbrev sc (v : Vec Ideal S1 .f32) : Elt Ideal .f32 := View.ld v (Rect.unit (s := S1) ![0] ![1] inb_S1_S1_0) (Shape.Idx.first (by decide))

/-- The parameters a grid step sees. -/
abbrev B (c : Dev nD) (t : Fin cfg0.N) : Half :=
  half (iblk m c 2 t) (iblk m c 3 t) (iblk m c 4 t) (iblk m c 5 t) (iblk m c 6 t) (iblk m c 7 t) (iblk m c 8 t) (iblk m c 9 t)
    (iblk m c 10 t) (iblk m c 11 t) (sc (iblk m c 12 t)) (sc (iblk m c 13 t)) (sc (iblk m c 14 t)) (sc (iblk m c 15 t))
    (sc (iblk m c 16 t)) (sc (iblk m c 17 t))

/-! What each window reads. -/

theorem r2 (c : Dev nD) (t : Fin cfg0.N) (k n) : (iblk m c 2 t : Vec Ideal S768x768 .fp8e4m3) (ix2 k n) =
    (m ((c : Thread nD τ).loc main_arg2) : Vec Ideal S768x768 .fp8e4m3) (ix2 k n) := by blk_ext [iblk, V, idx t]
theorem r3 (c : Dev nD) (t : Fin cfg0.N) (k n) : (iblk m c 3 t : Vec Ideal S768x3072 .fp8e4m3) (ix2 k n) =
    (m ((c : Thread nD τ).loc main_arg8) : Vec Ideal S768x3072 .fp8e4m3) (ix2 k n) := by blk_ext [iblk, V, idx t]
theorem r4 (c : Dev nD) (t : Fin cfg0.N) (k n) : (iblk m c 4 t : Vec Ideal S3072x768 .fp8e4m3) (ix2 k n) =
    (m ((c : Thread nD τ).loc main_arg12) : Vec Ideal S3072x768 .fp8e4m3) (ix2 k n) := by blk_ext [iblk, V, idx t]
theorem r5 (c : Dev nD) (t : Fin cfg0.N) (k) : (iblk m c 5 t : Vec Ideal S1x768 .f32) (ix2 0 k) =
    (m ((c : Thread nD τ).loc main_arg5) : Vec Ideal S768 .f32) (ix1 k) := by blk_ext! [iblk, V, idx t]
theorem r6 (c : Dev nD) (t : Fin cfg0.N) (k) : (iblk m c 6 t : Vec Ideal S1x768 .f32) (ix2 0 k) =
    (m ((c : Thread nD τ).loc main_arg6) : Vec Ideal S768 .f32) (ix1 k) := by blk_ext! [iblk, V, idx t]
theorem r7 (c : Dev nD) (t : Fin cfg0.N) (k) : (iblk m c 7 t : Vec Ideal S1x768 .f32) (ix2 0 k) =
    (m ((c : Thread nD τ).loc main_arg7) : Vec Ideal S768 .f32) (ix1 k) := by blk_ext! [iblk, V, idx t]
theorem r8 (c : Dev nD) (t : Fin cfg0.N) (k) : (iblk m c 8 t : Vec Ideal S1x3072 .f32) (ix2 0 k) =
    (m ((c : Thread nD τ).loc main_arg11) : Vec Ideal S3072 .f32) (ix1 k) := by blk_ext! [iblk, V, idx t]
theorem r9 (c : Dev nD) (t : Fin cfg0.N) (k) : (iblk m c 9 t : Vec Ideal S1x768 .f32) (ix2 0 k) =
    (m ((c : Thread nD τ).loc main_arg15) : Vec Ideal S768 .f32) (ix1 k) := by blk_ext! [iblk, V, idx t]
theorem r10 (c : Dev nD) (t : Fin cfg0.N) (k) : (iblk m c 10 t : Vec Ideal S1x768 .f32) (ix2 0 k) =
    (m ((c : Thread nD τ).loc main_arg16) : Vec Ideal S768 .f32) (ix1 k) := by blk_ext! [iblk, V, idx t]
theorem r11 (c : Dev nD) (t : Fin cfg0.N) (k) : (iblk m c 11 t : Vec Ideal S1x768 .f32) (ix2 0 k) =
    (m ((c : Thread nD τ).loc main_arg17) : Vec Ideal S768 .f32) (ix1 k) := by blk_ext! [iblk, V, idx t]
theorem r12 (c : Dev nD) (t : Fin cfg0.N) : sc (iblk m c 12 t) =
    (m ((c : Thread nD τ).loc main_arg4) : Vec Ideal S1 .f32) (ix1 0) := by
  unfold sc View.ld
  blk_ext [iblk, V, idx t]
theorem r13 (c : Dev nD) (t : Fin cfg0.N) : sc (iblk m c 13 t) =
    (m ((c : Thread nD τ).loc main_arg3) : Vec Ideal S1 .f32) (ix1 0) := by
  unfold sc View.ld
  blk_ext [iblk, V, idx t]
theorem r14 (c : Dev nD) (t : Fin cfg0.N) : sc (iblk m c 14 t) =
    (m ((c : Thread nD τ).loc main_arg10) : Vec Ideal S1 .f32) (ix1 0) := by
  unfold sc View.ld
  blk_ext [iblk, V, idx t]
theorem r15 (c : Dev nD) (t : Fin cfg0.N) : sc (iblk m c 15 t) =
    (m ((c : Thread nD τ).loc main_arg9) : Vec Ideal S1 .f32) (ix1 0) := by
  unfold sc View.ld
  blk_ext [iblk, V, idx t]
theorem r16 (c : Dev nD) (t : Fin cfg0.N) : sc (iblk m c 16 t) =
    (m ((c : Thread nD τ).loc main_arg14) : Vec Ideal S1 .f32) (ix1 0) := by
  unfold sc View.ld
  blk_ext [iblk, V, idx t]
theorem r17 (c : Dev nD) (t : Fin cfg0.N) : sc (iblk m c 17 t) =
    (m ((c : Thread nD τ).loc main_arg13) : Vec Ideal S1 .f32) (ix1 0) := by
  unfold sc View.ld
  blk_ext [iblk, V, idx t]
theorem r18 (c : Dev nD) (t : Fin cfg0.N) : sc (iblk m c 18 t) =
    (m ((c : Thread nD τ).loc main_arg18) : Vec Ideal S1 .f32) (ix1 0) := by
  unfold sc View.ld
  blk_ext [iblk, V, idx t]
theorem r1 (c : Dev nD) (t : Fin cfg0.N) (h : t.val < 50) (a b e) : tok (iblk m c 1 t : Vec Ideal S8x6x8x768 .fp8e4m3) a b e =
    ats m c ⟨t.val * 8 + a.val, by omega⟩ b e := by
  funext k
  unfold tok ats Spec.rowTok
  blk_ext! [iblk, V, idx t]
theorem r0 (c : Dev nD) (t : Fin cfg0.N) (h : t.val < 50) (a b e) : tok (iblk m c 0 t : Vec Ideal S8x6x8x768 .bf16) a b e =
    xs m c ⟨t.val * 8 + a.val, by omega⟩ b e := by
  funext k
  unfold tok xs Spec.rowImg
  blk_ext! [iblk, V, idx t]

theorem B_eq (c : Dev nD) (t : Fin cfg0.N) : B m c t = P m c := by
  unfold B P half Spec.params
  congr 1
  · exact funext fun k => funext fun n => r2 m c t k n
  · exact r13 m c t
  · exact r12 m c t
  · exact funext fun k => r5 m c t k
  · exact funext fun k => r6 m c t k
  · exact funext fun k => r7 m c t k
  · exact funext fun k => funext fun n => r3 m c t k n
  · exact r15 m c t
  · exact r14 m c t
  · exact funext fun k => r8 m c t k
  · exact funext fun k => funext fun n => r4 m c t k n
  · exact r17 m c t
  · exact r16 m c t
  · exact funext fun k => r9 m c t k
  · exact funext fun k => r10 m c t k
  · exact funext fun k => r11 m c t k

section
variable (c : Dev nD) (h1 : (P m c).a1 ≠ 0) (h2 : (P m c).a2 ≠ 0)
include h1 h2

theorem h1t (t : Fin cfg0.N) : sc (iblk m c 14 t) ≠ 0 := (r14 m c t).trans_ne h1
theorem h2t (t : Fin cfg0.N) : sc (iblk m c 16 t) ≠ 0 := (r16 m c t).trans_ne h2

theorem final19 : (dats m 0 c).arrAt 19 cfg0.N = Spec.out (P m c) (xs m c) (ats m c) := by
  refine (dats m 0 c).arrAt_eq_of_covers 19 _ (by decide +kernel) fun t hf y => ?_
  have ht : t.val < 50 := t.isLt
  have hB := B_eq m c t
  unfold B at hB
  blk_simp
  rw [after0_19]
  unfold outsAt0
  dsimp only
  frame_out
  idx_vars y
  have e : ((View.whole main_v8_0).slice (win0_19.rect t)).emb (ix4 y0 y1 y2 y3) =
      (ix4 ⟨t.val * 8 + y0.val, by omega⟩ y1 y2 y3 : Shape.Idx ⟨4, ![400, 6, 8, 768]⟩) := by
    blk_ext [idx t]
  rw [e]
  refine (step19 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (sc (iblk m c 12 t)) (sc (iblk m c 13 t)) (sc (iblk m c 14 t))
    (sc (iblk m c 15 t)) (sc (iblk m c 16 t)) (sc (iblk m c 17 t)) (h1t m c h1 h2 t) (h2t m c h1 h2 t) _ _ _ _).trans ?_
  rw [hB, r0 m c t ht, r1 m c t ht]
  rfl

theorem final20 : (dats m 0 c).arrAt 20 cfg0.N = Spec.codes (P m c) (xs m c) (ats m c) := by
  refine (dats m 0 c).arrAt_eq_of_covers 20 _ (by decide +kernel) fun t hf y => ?_
  have ht : t.val < 50 := t.isLt
  have hB := B_eq m c t
  unfold B at hB
  blk_simp
  rw [after0_20]
  frame_out
  idx_vars y
  have e : ((View.whole main_v8_1).slice (win0_20.rect t)).emb (ix4 y0 y1 y2 y3) =
      (ix4 ⟨t.val * 8 + y0.val, by omega⟩ y1 y2 y3 : Shape.Idx ⟨4, ![400, 6, 8, 768]⟩) := by
    blk_ext [idx t]
  rw [e]
  refine (step20 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (sc (iblk m c 12 t)) (sc (iblk m c 13 t)) (sc (iblk m c 14 t))
    (sc (iblk m c 15 t)) (sc (iblk m c 16 t)) (sc (iblk m c 17 t)) (h1t m c h1 h2 t) _ _ _ _).trans ?_
  rw [hB, r0 m c t ht, r1 m c t ht]
  rfl

theorem final21 : (dats m 0 c).arrAt 21 cfg0.N = Spec.hidden (P m c) (xs m c) (ats m c) := by
  refine (dats m 0 c).arrAt_eq_of_covers 21 _ (by decide +kernel) fun t hf y => ?_
  have ht : t.val < 50 := t.isLt
  have hB := B_eq m c t
  unfold B at hB
  blk_simp
  rw [after0_21]
  frame_out
  idx_vars y
  have e : ((View.whole main_v8_2).slice (win0_21.rect t)).emb (ix4 y0 y1 y2 y3) =
      (ix4 ⟨t.val * 8 + y0.val, by omega⟩ y1 y2 y3 : Shape.Idx ⟨4, ![400, 6, 8, 3072]⟩) := by
    blk_ext [idx t]
  rw [e]
  refine (step21 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (sc (iblk m c 12 t)) (sc (iblk m c 13 t)) (sc (iblk m c 14 t))
    (sc (iblk m c 15 t)) (sc (iblk m c 16 t)) (sc (iblk m c 17 t)) (h1t m c h1 h2 t) (h2t m c h1 h2 t) _ _ _ _).trans ?_
  rw [hB, r0 m c t ht, r1 m c t ht]
  rfl

theorem hnt (hn : an m c ≠ 0) (t : Fin cfg0.N) : sc (iblk m c 18 t) ≠ 0 := (r18 m c t).trans_ne hn

theorem final22 (hn : an m c ≠ 0) : (dats m 0 c).arrAt 22 cfg0.N = Spec.next (P m c) (an m c) (xs m c) (ats m c) := by
  refine (dats m 0 c).arrAt_eq_of_covers 22 _ (by decide +kernel) fun t hf y => ?_
  have ht : t.val < 50 := t.isLt
  have hB := B_eq m c t
  unfold B at hB
  blk_simp
  rw [after0_22]
  frame_out
  idx_vars y
  have e : ((View.whole main_v8_3).slice (win0_22.rect t)).emb (ix4 y0 y1 y2 y3) =
      (ix4 ⟨t.val * 8 + y0.val, by omega⟩ y1 y2 y3 : Shape.Idx ⟨4, ![400, 6, 8, 768]⟩) := by
    blk_ext [idx t]
  rw [e]
  refine (step22 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (sc (iblk m c 12 t)) (sc (iblk m c 13 t)) (sc (iblk m c 14 t))
    (sc (iblk m c 15 t)) (sc (iblk m c 16 t)) (sc (iblk m c 17 t)) (sc (iblk m c 18 t)) (h1t m c h1 h2 t) (h2t m c h1 h2 t) (hnt m c h1 h2 hn t) _ _ _ _).trans ?_
  rw [hB, r0 m c t ht, r1 m c t ht]
  rw [r18]
  rfl

end

end Cert.MlpIdeal.Array

end
-- ==== Proof.MlpRef.lean ====
/-
  Hand-written. The reference of the first block's second half, row by row, and its result arrays as functions of its
  argument arrays.
-/
module

public import proofs.«01_k».proof.Proof.Gen.MlpRefIdeal.Value
public import proofs.«01_k».proof.Proof.Spec

@[expose] public section

set_option maxRecDepth 16384

noncomputable section

namespace Cert.MlpRefIdeal.Array

open Cert.MlpRefIdeal Cert.MlpRefIdeal.Gen Idealize.ShloMosaic Idealize.ShloMosaic.TcCoe Idealize.SL.Sem Cert.Rows

section Rows
variable (X : Vec Ideal S19200x768 .bf16) (A : Vec Ideal S19200x768 .fp8e4m3) (wp : Vec Ideal S768x768 .fp8e4m3)
  (sp ap : Vec Ideal S1x1 .f32) (bp g1 c1 : Vec Ideal S1x768 .f32)
  (w1 : Vec Ideal S768x3072 .fp8e4m3) (s1 a1 : Vec Ideal S1x1 .f32) (b1 : Vec Ideal S1x3072 .f32)
  (w2 : Vec Ideal S3072x768 .fp8e4m3) (s2 a2 : Vec Ideal S1x1 .f32) (b2 g2 c2 : Vec Ideal S1x768 .f32) (an : Vec Ideal S1x1 .f32)

/-- The parameters, as the mathematics has them, and a token's row. -/
def half : Half where
  wp := fun k n => wp (ix2 k n)
  sp := sp (ix2 0 0)
  ap := ap (ix2 0 0)
  bp := fun k => bp (ix2 0 k)
  g1 := fun k => g1 (ix2 0 k)
  c1 := fun k => c1 (ix2 0 k)
  w1 := fun k n => w1 (ix2 k n)
  s1 := s1 (ix2 0 0)
  a1 := a1 (ix2 0 0)
  b1 := fun k => b1 (ix2 0 k)
  w2 := fun k n => w2 (ix2 k n)
  s2 := s2 (ix2 0 0)
  a2 := a2 (ix2 0 0)
  b2 := fun k => b2 (ix2 0 k)
  g2 := fun k => g2 (ix2 0 k)
  c2 := fun k => c2 (ix2 0 k)
abbrev rowAt {e : EltTy} (v : Vec Ideal S19200x768 e) (r : Fin 19200) : Fin 768 → Elt Ideal e := fun k => v (ix2 r k)

theorem mid_row (r : Fin 19200) (k : Fin 768) :
    k0_pay21 (k0_pay5 X) (k0_pay6 A) wp (k0_pay7 sp) (k0_pay8 ap) (k0_pay9 bp) (k0_pay10 g1) (k0_pay11 c1) (ix2 r k) =
      (half wp sp ap bp g1 c1 w1 s1 a1 b1 w2 s2 a2 b2 g2 c2).mid (rowAt X r) (rowAt A r) k := by
  pointwise [k0_pay21, k0_pay5, k0_pay6, k0_pay7, k0_pay8, k0_pay9, k0_pay10, k0_pay11]
  rfl

theorem codes_row (r : Fin 19200) (k : Fin 768) :
    k0_pay22 (k0_pay5 X) (k0_pay6 A) wp (k0_pay7 sp) (k0_pay8 ap) (k0_pay9 bp) (k0_pay10 g1) (k0_pay11 c1) (k0_pay13 a1) (ix2 r k) =
      (half wp sp ap bp g1 c1 w1 s1 a1 b1 w2 s2 a2 b2 g2 c2).codes (rowAt X r) (rowAt A r) k := by
  show _ = code _ _
  rw [← mid_row]
  pointwise [k0_pay22, k0_pay13]
  rfl

theorem hidden_row (r : Fin 19200) (n : Fin 3072) :
    k0_pay25 (k0_pay14 b1) (k0_pay16 a2) (k0_pay23 (k0_pay5 X) (k0_pay6 A) wp (k0_pay7 sp) (k0_pay8 ap) (k0_pay9 bp) (k0_pay10 g1) (k0_pay11 c1) w1 (k0_pay13 a1)) (k0_pay24 (k0_pay12 s1) (k0_pay13 a1)) (ix2 r n) =
      (half wp sp ap bp g1 c1 w1 s1 a1 b1 w2 s2 a2 b2 g2 c2).hidden (rowAt X r) (rowAt A r) n := by
  show _ = code (gelu (linear _ _ _ _ _ _)) _
  simp only [linear, ← codes_row]
  pointwise [k0_pay25, k0_pay14, k0_pay16, k0_pay23, k0_pay24, k0_pay12, k0_pay13]
  simp only [Ideal.erf_def]
  rfl

/-- The stream after the feed-forward branch. -/
abbrev rOut : Vec Ideal S19200x768 .f32 :=
  k0_pay26 (k0_pay14 b1) w2 (k0_pay15 s2) (k0_pay16 a2) (k0_pay17 b2) (k0_pay18 g2) (k0_pay19 c2)
    (k0_pay21 (k0_pay5 X) (k0_pay6 A) wp (k0_pay7 sp) (k0_pay8 ap) (k0_pay9 bp) (k0_pay10 g1) (k0_pay11 c1)) (k0_pay23 (k0_pay5 X) (k0_pay6 A) wp (k0_pay7 sp) (k0_pay8 ap) (k0_pay9 bp) (k0_pay10 g1) (k0_pay11 c1) w1 (k0_pay13 a1)) (k0_pay24 (k0_pay12 s1) (k0_pay13 a1))

theorem out_row (r : Fin 19200) (k : Fin 768) :
    rOut X A wp sp ap bp g1 c1 w1 s1 a1 b1 w2 s2 a2 b2 g2 c2 (ix2 r k) =
      (half wp sp ap bp g1 c1 w1 s1 a1 b1 w2 s2 a2 b2 g2 c2).out (rowAt X r) (rowAt A r) k := by
  show _ = Half.mid _ _ _ _ + layerNorm (linear _ _ _ _ _) _ _ _
  rw [← mid_row]
  rw [show Half.hidden (half wp sp ap bp g1 c1 w1 s1 a1 b1 w2 s2 a2 b2 g2 c2) (rowAt X r) (rowAt A r) = fun n => k0_pay25 (k0_pay14 b1) (k0_pay16 a2) (k0_pay23 (k0_pay5 X) (k0_pay6 A) wp (k0_pay7 sp) (k0_pay8 ap) (k0_pay9 bp) (k0_pay10 g1) (k0_pay11 c1) w1 (k0_pay13 a1)) (k0_pay24 (k0_pay12 s1) (k0_pay13 a1)) (ix2 r n)
    from funext fun n => (hidden_row X A wp sp ap bp g1 c1 w1 s1 a1 b1 w2 s2 a2 b2 g2 c2 r n).symm]
  pointwise [k0_pay26, k0_pay15, k0_pay16, k0_pay17, k0_pay18, k0_pay19]
  rfl

theorem next_row (r : Fin 19200) (k : Fin 768) :
    code (rOut X A wp sp ap bp g1 c1 w1 s1 a1 b1 w2 s2 a2 b2 g2 c2 (ix2 r k)) (an (ix2 0 0)) =
      min chi (max clo (k0_pay27 (k0_pay14 b1) w2 (k0_pay15 s2) (k0_pay16 a2) (k0_pay17 b2) (k0_pay18 g2) (k0_pay19 c2) (k0_pay20 an)
        (k0_pay21 (k0_pay5 X) (k0_pay6 A) wp (k0_pay7 sp) (k0_pay8 ap) (k0_pay9 bp) (k0_pay10 g1) (k0_pay11 c1)) (k0_pay23 (k0_pay5 X) (k0_pay6 A) wp (k0_pay7 sp) (k0_pay8 ap) (k0_pay9 bp) (k0_pay10 g1) (k0_pay11 c1) w1 (k0_pay13 a1)) (k0_pay24 (k0_pay12 s1) (k0_pay13 a1)) (ix2 r k))) := by
  pointwise [k0_pay27, k0_pay20]
  rfl
/-! The named intermediate values, over the whole arrays. -/

theorem e28 : k0_pay28 (F := Ideal) X A wp sp ap bp g1 c1 w1 s1 a1 b1 w2 s2 a2 b2 g2 c2 an = k0_pay5 X := by
  simp (disch := decide) only [k0_pay28, View.ld_unit_lit]
theorem e29 : k0_pay29 (F := Ideal) X A wp sp ap bp g1 c1 w1 s1 a1 b1 w2 s2 a2 b2 g2 c2 an = k0_pay6 A := by
  simp (disch := decide) only [k0_pay29, View.ld_unit_lit]
theorem e30 : k0_pay30 (F := Ideal) X A wp sp ap bp g1 c1 w1 s1 a1 b1 w2 s2 a2 b2 g2 c2 an = k0_pay7 sp := by
  simp (disch := decide) only [k0_pay30, View.ld_unit_lit]
theorem e31 : k0_pay31 (F := Ideal) X A wp sp ap bp g1 c1 w1 s1 a1 b1 w2 s2 a2 b2 g2 c2 an = k0_pay8 ap := by
  simp (disch := decide) only [k0_pay31, View.ld_unit_lit]
theorem e32 : k0_pay32 (F := Ideal) X A wp sp ap bp g1 c1 w1 s1 a1 b1 w2 s2 a2 b2 g2 c2 an = k0_pay9 bp := by
  simp (disch := decide) only [k0_pay32, View.ld_unit_lit]
theorem e33 : k0_pay33 (F := Ideal) X A wp sp ap bp g1 c1 w1 s1 a1 b1 w2 s2 a2 b2 g2 c2 an = k0_pay10 g1 := by
  simp (disch := decide) only [k0_pay33, View.ld_unit_lit]
theorem e34 : k0_pay34 (F := Ideal) X A wp sp ap bp g1 c1 w1 s1 a1 b1 w2 s2 a2 b2 g2 c2 an = k0_pay11 c1 := by
  simp (disch := decide) only [k0_pay34, View.ld_unit_lit]
theorem e35 : k0_pay35 (F := Ideal) X A wp sp ap bp g1 c1 w1 s1 a1 b1 w2 s2 a2 b2 g2 c2 an = k0_pay13 a1 := by
  simp (disch := decide) only [k0_pay35, View.ld_unit_lit]
theorem e36 : k0_pay36 (F := Ideal) X A wp sp ap bp g1 c1 w1 s1 a1 b1 w2 s2 a2 b2 g2 c2 an = k0_pay14 b1 := by
  simp (disch := decide) only [k0_pay36, View.ld_unit_lit]
theorem e37 : k0_pay37 (F := Ideal) X A wp sp ap bp g1 c1 w1 s1 a1 b1 w2 s2 a2 b2 g2 c2 an = k0_pay15 s2 := by
  simp (disch := decide) only [k0_pay37, View.ld_unit_lit]
theorem e38 : k0_pay38 (F := Ideal) X A wp sp ap bp g1 c1 w1 s1 a1 b1 w2 s2 a2 b2 g2 c2 an = k0_pay16 a2 := by
  simp (disch := decide) only [k0_pay38, View.ld_unit_lit]
theorem e39 : k0_pay39 (F := Ideal) X A wp sp ap bp g1 c1 w1 s1 a1 b1 w2 s2 a2 b2 g2 c2 an = k0_pay17 b2 := by
  simp (disch := decide) only [k0_pay39, View.ld_unit_lit]
theorem e40 : k0_pay40 (F := Ideal) X A wp sp ap bp g1 c1 w1 s1 a1 b1 w2 s2 a2 b2 g2 c2 an = k0_pay18 g2 := by
  simp (disch := decide) only [k0_pay40, View.ld_unit_lit]
theorem e41 : k0_pay41 (F := Ideal) X A wp sp ap bp g1 c1 w1 s1 a1 b1 w2 s2 a2 b2 g2 c2 an = k0_pay19 c2 := by
  simp (disch := decide) only [k0_pay41, View.ld_unit_lit]
theorem e42 : k0_pay42 (F := Ideal) X A wp sp ap bp g1 c1 w1 s1 a1 b1 w2 s2 a2 b2 g2 c2 an = k0_pay21 (k0_pay5 X) (k0_pay6 A) wp (k0_pay7 sp) (k0_pay8 ap) (k0_pay9 bp) (k0_pay10 g1) (k0_pay11 c1) := by
  simp (disch := decide) only [k0_pay42, View.ld_unit_lit, e28, e29, e30, e31, e32, e33, e34]
theorem e43 : k0_pay43 (F := Ideal) X A wp sp ap bp g1 c1 w1 s1 a1 b1 w2 s2 a2 b2 g2 c2 an = k0_pay23 (k0_pay5 X) (k0_pay6 A) wp (k0_pay7 sp) (k0_pay8 ap) (k0_pay9 bp) (k0_pay10 g1) (k0_pay11 c1) w1 (k0_pay13 a1) := by
  simp (disch := decide) only [k0_pay43, View.ld_unit_lit, e28, e29, e30, e31, e32, e33, e34, e35]
theorem e44 : k0_pay44 (F := Ideal) X A wp sp ap bp g1 c1 w1 s1 a1 b1 w2 s2 a2 b2 g2 c2 an = k0_pay24 (k0_pay12 s1) (k0_pay13 a1) := by
  simp (disch := decide) only [k0_pay44, View.ld_unit_lit, e35]

/-! What the four outputs hold. -/

theorem step19 (a : Fin 400) (b : Fin 6) (e : Fin 8) (k : Fin 768) :
    k0_pay1 (F := Ideal) (rOut X A wp sp ap bp g1 c1 w1 s1 a1 b1 w2 s2 a2 b2 g2 c2) (ix4 a b e k) =
      (half wp sp ap bp g1 c1 w1 s1 a1 b1 w2 s2 a2 b2 g2 c2).out (rowAt X ⟨a.val * 48 + b.val * 8 + e.val, by omega⟩) (rowAt A ⟨a.val * 48 + b.val * 8 + e.val, by omega⟩) k := by
  rw [← out_row]
  pointwise [k0_pay1]

theorem step20 (a : Fin 400) (b : Fin 6) (e : Fin 8) (k : Fin 768) :
    k0_pay2 (k0_pay22 (k0_pay5 X) (k0_pay6 A) wp (k0_pay7 sp) (k0_pay8 ap) (k0_pay9 bp) (k0_pay10 g1) (k0_pay11 c1) (k0_pay13 a1)) (ix4 a b e k) =
      (half wp sp ap bp g1 c1 w1 s1 a1 b1 w2 s2 a2 b2 g2 c2).codes (rowAt X ⟨a.val * 48 + b.val * 8 + e.val, by omega⟩) (rowAt A ⟨a.val * 48 + b.val * 8 + e.val, by omega⟩) k := by
  rw [← codes_row]
  pointwise [k0_pay2]

theorem step21 (a : Fin 400) (b : Fin 6) (e : Fin 8) (n : Fin 3072) :
    k0_pay3 (k0_pay25 (k0_pay14 b1) (k0_pay16 a2) (k0_pay23 (k0_pay5 X) (k0_pay6 A) wp (k0_pay7 sp) (k0_pay8 ap) (k0_pay9 bp) (k0_pay10 g1) (k0_pay11 c1) w1 (k0_pay13 a1)) (k0_pay24 (k0_pay12 s1) (k0_pay13 a1))) (ix4 a b e n) =
      (half wp sp ap bp g1 c1 w1 s1 a1 b1 w2 s2 a2 b2 g2 c2).hidden (rowAt X ⟨a.val * 48 + b.val * 8 + e.val, by omega⟩) (rowAt A ⟨a.val * 48 + b.val * 8 + e.val, by omega⟩) n := by
  rw [← hidden_row]
  pointwise [k0_pay3]

theorem step22 (a : Fin 400) (b : Fin 6) (e : Fin 8) (k : Fin 768) :
    k0_pay4 (k0_pay27 (k0_pay14 b1) w2 (k0_pay15 s2) (k0_pay16 a2) (k0_pay17 b2) (k0_pay18 g2) (k0_pay19 c2) (k0_pay20 an)
        (k0_pay21 (k0_pay5 X) (k0_pay6 A) wp (k0_pay7 sp) (k0_pay8 ap) (k0_pay9 bp) (k0_pay10 g1) (k0_pay11 c1)) (k0_pay23 (k0_pay5 X) (k0_pay6 A) wp (k0_pay7 sp) (k0_pay8 ap) (k0_pay9 bp) (k0_pay10 g1) (k0_pay11 c1) w1 (k0_pay13 a1)) (k0_pay24 (k0_pay12 s1) (k0_pay13 a1)))
        (Scalar.ofBits .f32 0xC3E00000#32) (Scalar.ofBits .f32 0x43E00000#32) (ix4 a b e k) =
      code ((half wp sp ap bp g1 c1 w1 s1 a1 b1 w2 s2 a2 b2 g2 c2).out (rowAt X ⟨a.val * 48 + b.val * 8 + e.val, by omega⟩) (rowAt A ⟨a.val * 48 + b.val * 8 + e.val, by omega⟩) k) (an (ix2 0 0)) := by
  rw [← out_row, next_row]
  pointwise [k0_pay4]
end Rows

section Arrays
variable (m : (ℓ : Loc nD τ sig) → Buf (Elt Ideal) ℓ)

/-- The parameters and the token rows, from the launched memory. -/
def P (c : Dev nD) : Half :=
  Spec.params (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17))
def xs (c : Dev nD) := Spec.rowImg (m ((c : Thread nD τ).loc main_arg0))
def ats (c : Dev nD) := Spec.rowTok (m ((c : Thread nD τ).loc main_arg1))
def an (c : Dev nD) : EReal := (m ((c : Thread nD τ).loc main_arg18) : Vec Ideal S1 .f32) (ix1 0)

/-- The one grid step's windows are the whole arrays. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧
    win0_19.index t = ![0, 0, 0, 0] ∧ win0_20.index t = ![0, 0, 0, 0] ∧ win0_21.index t = ![0, 0, 0, 0] ∧ win0_22.index t = ![0, 0, 0, 0] := by decide +kernel

/-! What each window reads. -/

theorem r2 (c : Dev nD) (t : Fin cfg0.N) (k n) : (iblk m c 2 t : Vec Ideal S768x768 .fp8e4m3) (ix2 k n) =
    (m ((c : Thread nD τ).loc main_arg2) : Vec Ideal S768x768 .fp8e4m3) (ix2 k n) := by blk_ext! [iblk, V, idx t]
theorem r8 (c : Dev nD) (t : Fin cfg0.N) (k n) : (iblk m c 8 t : Vec Ideal S768x3072 .fp8e4m3) (ix2 k n) =
    (m ((c : Thread nD τ).loc main_arg8) : Vec Ideal S768x3072 .fp8e4m3) (ix2 k n) := by blk_ext! [iblk, V, idx t]
theorem r12 (c : Dev nD) (t : Fin cfg0.N) (k n) : (iblk m c 12 t : Vec Ideal S3072x768 .fp8e4m3) (ix2 k n) =
    (m ((c : Thread nD τ).loc main_arg12) : Vec Ideal S3072x768 .fp8e4m3) (ix2 k n) := by blk_ext! [iblk, V, idx t]
theorem r5 (c : Dev nD) (t : Fin cfg0.N) (k) : (iblk m c 5 t : Vec Ideal S1x768 .f32) (ix2 0 k) =
    (m ((c : Thread nD τ).loc main_arg5) : Vec Ideal S768 .f32) (ix1 k) := by blk_ext! [iblk, V, idx t]
theorem r6 (c : Dev nD) (t : Fin cfg0.N) (k) : (iblk m c 6 t : Vec Ideal S1x768 .f32) (ix2 0 k) =
    (m ((c : Thread nD τ).loc main_arg6) : Vec Ideal S768 .f32) (ix1 k) := by blk_ext! [iblk, V, idx t]
theorem r7 (c : Dev nD) (t : Fin cfg0.N) (k) : (iblk m c 7 t : Vec Ideal S1x768 .f32) (ix2 0 k) =
    (m ((c : Thread nD τ).loc main_arg7) : Vec Ideal S768 .f32) (ix1 k) := by blk_ext! [iblk, V, idx t]
theorem r11 (c : Dev nD) (t : Fin cfg0.N) (k) : (iblk m c 11 t : Vec Ideal S1x3072 .f32) (ix2 0 k) =
    (m ((c : Thread nD τ).loc main_arg11) : Vec Ideal S3072 .f32) (ix1 k) := by blk_ext! [iblk, V, idx t]
theorem r15 (c : Dev nD) (t : Fin cfg0.N) (k) : (iblk m c 15 t : Vec Ideal S1x768 .f32) (ix2 0 k) =
    (m ((c : Thread nD τ).loc main_arg15) : Vec Ideal S768 .f32) (ix1 k) := by blk_ext! [iblk, V, idx t]
theorem r16 (c : Dev nD) (t : Fin cfg0.N) (k) : (iblk m c 16 t : Vec Ideal S1x768 .f32) (ix2 0 k) =
    (m ((c : Thread nD τ).loc main_arg16) : Vec Ideal S768 .f32) (ix1 k) := by blk_ext! [iblk, V, idx t]
theorem r17 (c : Dev nD) (t : Fin cfg0.N) (k) : (iblk m c 17 t : Vec Ideal S1x768 .f32) (ix2 0 k) =
    (m ((c : Thread nD τ).loc main_arg17) : Vec Ideal S768 .f32) (ix1 k) := by blk_ext! [iblk, V, idx t]
theorem r3 (c : Dev nD) (t : Fin cfg0.N) : (iblk m c 3 t : Vec Ideal S1x1 .f32) (ix2 0 0) =
    (m ((c : Thread nD τ).loc main_arg3) : Vec Ideal S1 .f32) (ix1 0) := by blk_ext! [iblk, V, idx t]
theorem r4 (c : Dev nD) (t : Fin cfg0.N) : (iblk m c 4 t : Vec Ideal S1x1 .f32) (ix2 0 0) =
    (m ((c : Thread nD τ).loc main_arg4) : Vec Ideal S1 .f32) (ix1 0) := by blk_ext! [iblk, V, idx t]
theorem r9 (c : Dev nD) (t : Fin cfg0.N) : (iblk m c 9 t : Vec Ideal S1x1 .f32) (ix2 0 0) =
    (m ((c : Thread nD τ).loc main_arg9) : Vec Ideal S1 .f32) (ix1 0) := by blk_ext! [iblk, V, idx t]
theorem r10 (c : Dev nD) (t : Fin cfg0.N) : (iblk m c 10 t : Vec Ideal S1x1 .f32) (ix2 0 0) =
    (m ((c : Thread nD τ).loc main_arg10) : Vec Ideal S1 .f32) (ix1 0) := by blk_ext! [iblk, V, idx t]
theorem r13 (c : Dev nD) (t : Fin cfg0.N) : (iblk m c 13 t : Vec Ideal S1x1 .f32) (ix2 0 0) =
    (m ((c : Thread nD τ).loc main_arg13) : Vec Ideal S1 .f32) (ix1 0) := by blk_ext! [iblk, V, idx t]
theorem r14 (c : Dev nD) (t : Fin cfg0.N) : (iblk m c 14 t : Vec Ideal S1x1 .f32) (ix2 0 0) =
    (m ((c : Thread nD τ).loc main_arg14) : Vec Ideal S1 .f32) (ix1 0) := by blk_ext! [iblk, V, idx t]
theorem r18 (c : Dev nD) (t : Fin cfg0.N) : (iblk m c 18 t : Vec Ideal S1x1 .f32) (ix2 0 0) =
    (m ((c : Thread nD τ).loc main_arg18) : Vec Ideal S1 .f32) (ix1 0) := by blk_ext! [iblk, V, idx t]
theorem r0 (c : Dev nD) (t : Fin cfg0.N) (a : Fin 400) (b : Fin 6) (e : Fin 8) :
    rowAt (iblk m c 0 t : Vec Ideal S19200x768 .bf16) ⟨a.val * 48 + b.val * 8 + e.val, by omega⟩ = xs m c a b e := by
  funext k
  unfold rowAt xs Spec.rowImg
  have he : ((View.whole main_v14).slice (win0_0.rect t)).emb (ix2 (⟨a.val * 48 + b.val * 8 + e.val, by omega⟩ : Fin 19200) k) =
      (ix2 ⟨a.val * 48 + b.val * 8 + e.val, by omega⟩ k : S19200x768.Idx) := by
    generalize (⟨a.val * 48 + b.val * 8 + e.val, by omega⟩ : Fin 19200) = r
    blk_ext [idx t]
  blk_simp [iblk, V, idx t]
  entry_read
  rw [he]
  pointwise
  refine congrArg _ ?_
  congr 1 <;> exact Fin.ext (by dsimp only; omega)
theorem r1 (c : Dev nD) (t : Fin cfg0.N) (a : Fin 400) (b : Fin 6) (e : Fin 8) :
    rowAt (iblk m c 1 t : Vec Ideal S19200x768 .fp8e4m3) ⟨a.val * 48 + b.val * 8 + e.val, by omega⟩ = ats m c a b e := by
  funext k
  unfold rowAt ats Spec.rowTok
  have he : ((View.whole main_v15).slice (win0_1.rect t)).emb (ix2 (⟨a.val * 48 + b.val * 8 + e.val, by omega⟩ : Fin 19200) k) =
      (ix2 ⟨a.val * 48 + b.val * 8 + e.val, by omega⟩ k : S19200x768.Idx) := by
    generalize (⟨a.val * 48 + b.val * 8 + e.val, by omega⟩ : Fin 19200) = r
    blk_ext [idx t]
  blk_simp [iblk, V, idx t]
  entry_read
  rw [he]
  pointwise

theorem B_eq (c : Dev nD) (t : Fin cfg0.N) :
    half (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = P m c := by
  unfold P half Spec.params
  congr 1
  · exact funext fun k => funext fun n => r2 m c t k n
  · exact r3 m c t
  · exact r4 m c t
  · exact funext fun k => r5 m c t k
  · exact funext fun k => r6 m c t k
  · exact funext fun k => r7 m c t k
  · exact funext fun k => funext fun n => r8 m c t k n
  · exact r9 m c t
  · exact r10 m c t
  · exact funext fun k => r11 m c t k
  · exact funext fun k => funext fun n => r12 m c t k n
  · exact r13 m c t
  · exact r14 m c t
  · exact funext fun k => r15 m c t k
  · exact funext fun k => r16 m c t k
  · exact funext fun k => r17 m c t k

theorem final19 (c : Dev nD) : (dats m 0 c).arrAt 19 cfg0.N = Spec.out (P m c) (xs m c) (ats m c) := by
  refine (dats m 0 c).arrAt_eq_of_covers 19 _ (by decide +kernel) fun t hf y => ?_
  blk_simp
  rw [after0_19]
  frame_out
  simp only [e28, e29, e30, e31, e32, e33, e34, e35, e36, e37, e38, e39, e40, e41, e42, e43, e44]
  idx_vars y
  have e : ((View.whole main_v16_0).slice (win0_19.rect t)).emb (ix4 y0 y1 y2 y3) =
      (ix4 y0 y1 y2 y3 : Shape.Idx ⟨4, ![400, 6, 8, 768]⟩) := by
    blk_ext [idx t]
  rw [e]
  refine (step19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _ _ _).trans ?_
  rw [B_eq, r0 m c t, r1 m c t]
  rfl

theorem final20 (c : Dev nD) : (dats m 0 c).arrAt 20 cfg0.N = Spec.codes (P m c) (xs m c) (ats m c) := by
  refine (dats m 0 c).arrAt_eq_of_covers 20 _ (by decide +kernel) fun t hf y => ?_
  blk_simp
  rw [after0_20]
  frame_out
  simp only [e28, e29, e30, e31, e32, e33, e34, e35, e36, e37, e38, e39, e40, e41, e42, e43, e44]
  idx_vars y
  have e : ((View.whole main_v16_1).slice (win0_20.rect t)).emb (ix4 y0 y1 y2 y3) =
      (ix4 y0 y1 y2 y3 : Shape.Idx ⟨4, ![400, 6, 8, 768]⟩) := by
    blk_ext [idx t]
  rw [e]
  refine (step20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _ _ _).trans ?_
  rw [B_eq, r0 m c t, r1 m c t]
  rfl

theorem final21 (c : Dev nD) : (dats m 0 c).arrAt 21 cfg0.N = Spec.hidden (P m c) (xs m c) (ats m c) := by
  refine (dats m 0 c).arrAt_eq_of_covers 21 _ (by decide +kernel) fun t hf y => ?_
  blk_simp
  rw [after0_21]
  frame_out
  simp only [e28, e29, e30, e31, e32, e33, e34, e35, e36, e37, e38, e39, e40, e41, e42, e43, e44]
  idx_vars y
  have e : ((View.whole main_v16_2).slice (win0_21.rect t)).emb (ix4 y0 y1 y2 y3) =
      (ix4 y0 y1 y2 y3 : Shape.Idx ⟨4, ![400, 6, 8, 3072]⟩) := by
    blk_ext [idx t]
  rw [e]
  refine (step21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _ _ _).trans ?_
  rw [B_eq, r0 m c t, r1 m c t]
  rfl

theorem final22 (c : Dev nD) : (dats m 0 c).arrAt 22 cfg0.N = Spec.next (P m c) (an m c) (xs m c) (ats m c) := by
  refine (dats m 0 c).arrAt_eq_of_covers 22 _ (by decide +kernel) fun t hf y => ?_
  blk_simp
  rw [after0_22]
  frame_out
  simp only [e28, e29, e30, e31, e32, e33, e34, e35, e36, e37, e38, e39, e40, e41, e42, e43, e44]
  idx_vars y
  have e : ((View.whole main_v16_3).slice (win0_22.rect t)).emb (ix4 y0 y1 y2 y3) =
      (ix4 y0 y1 y2 y3 : Shape.Idx ⟨4, ![400, 6, 8, 768]⟩) := by
    blk_ext [idx t]
  rw [e]
  refine (step22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _ _ _).trans ?_
  rw [B_eq, r0 m c t, r1 m c t]
  rw [r18]
  rfl
end Arrays

end Cert.MlpRefIdeal.Array

end
-- ==== Proof.MlpEqual.lean ====
/-
  Hand-written. The first block's kernel and its reference compute the same arrays: both are the same functions of the
  parameters and the token rows, and the two launches have the same arguments.
-/
module

public import proofs.«01_k».proof.Defs
public import proofs.«01_k».proof.Proof.MlpArray
public import proofs.«01_k».proof.Proof.MlpRef
public import proofs.«01_k».proof.Proof.Gen.MlpIdeal.Value
public import proofs.«01_k».proof.Proof.Gen.MlpRefIdeal.Value
public import proofs.«01_k».proof.Proof.Gen.Pre_scales_1

@[expose] public section

set_option maxRecDepth 16384

noncomputable section

namespace Cert.MlpIdeal.Equal

open Idealize.ShloMosaic Idealize.ShloMosaic.TcCoe Idealize.SL.Sem Cert.Rows

/-- The precondition says that the scales which the kernel inverts are not zero. -/
theorem scales (m : (ℓ : Loc Cert.MlpIdeal.nD Cert.MlpIdeal.τ Cert.MlpIdeal.sig) → Buf (Elt Ideal) ℓ)
    (h : Cert.Pre_MlpIdeal_scales_1 (hPre_scales_1 := Cert.Pre_scales_1.Gen.facts) m) (c : Dev Cert.MlpIdeal.nD) :
    (Cert.MlpIdeal.Array.P m c).a1 ≠ 0 ∧ (Cert.MlpIdeal.Array.P m c).a2 ≠ 0 ∧ Cert.MlpIdeal.Array.an m c ≠ 0 := by
  have := congrFun (h c) (ix1 0)
  pointwise [Cert.Pre_scales_1.fn] at this
  have split : ∀ a b : BitVec 1, a &&& b = 1#1 → a = 1#1 ∧ b = 1#1 := by decide
  obtain ⟨h12, h3⟩ := split _ _ this
  obtain ⟨h1, h2⟩ := split _ _ h12
  exact ⟨ne_of_une _ h1, ne_of_une _ h2, ne_of_une _ h3⟩

/-- Launches with the same arguments have the same parameters and the same rows of tokens. -/
theorem agree (m : (ℓ : Loc Cert.MlpIdeal.nD Cert.MlpIdeal.τ Cert.MlpIdeal.sig) → Buf (Elt Ideal) ℓ)
    (m' : (ℓ : Loc Cert.MlpRefIdeal.nD Cert.MlpRefIdeal.τ Cert.MlpRefIdeal.sig) → Buf (Elt Ideal) ℓ) (c : Dev Cert.MlpIdeal.nD)
    (h : m' ((c : Thread Cert.MlpRefIdeal.nD Cert.MlpRefIdeal.τ).loc Cert.MlpRefIdeal.main_arg0) = m ((c : Thread Cert.MlpIdeal.nD Cert.MlpIdeal.τ).loc Cert.MlpIdeal.main_arg0) ∧
      m' ((c : Thread Cert.MlpRefIdeal.nD Cert.MlpRefIdeal.τ).loc Cert.MlpRefIdeal.main_arg1) = m ((c : Thread Cert.MlpIdeal.nD Cert.MlpIdeal.τ).loc Cert.MlpIdeal.main_arg1) ∧
      m' ((c : Thread Cert.MlpRefIdeal.nD Cert.MlpRefIdeal.τ).loc Cert.MlpRefIdeal.main_arg2) = m ((c : Thread Cert.MlpIdeal.nD Cert.MlpIdeal.τ).loc Cert.MlpIdeal.main_arg2) ∧
      m' ((c : Thread Cert.MlpRefIdeal.nD Cert.MlpRefIdeal.τ).loc Cert.MlpRefIdeal.main_arg3) = m ((c : Thread Cert.MlpIdeal.nD Cert.MlpIdeal.τ).loc Cert.MlpIdeal.main_arg3) ∧
      m' ((c : Thread Cert.MlpRefIdeal.nD Cert.MlpRefIdeal.τ).loc Cert.MlpRefIdeal.main_arg4) = m ((c : Thread Cert.MlpIdeal.nD Cert.MlpIdeal.τ).loc Cert.MlpIdeal.main_arg4) ∧
      m' ((c : Thread Cert.MlpRefIdeal.nD Cert.MlpRefIdeal.τ).loc Cert.MlpRefIdeal.main_arg5) = m ((c : Thread Cert.MlpIdeal.nD Cert.MlpIdeal.τ).loc Cert.MlpIdeal.main_arg5) ∧
      m' ((c : Thread Cert.MlpRefIdeal.nD Cert.MlpRefIdeal.τ).loc Cert.MlpRefIdeal.main_arg6) = m ((c : Thread Cert.MlpIdeal.nD Cert.MlpIdeal.τ).loc Cert.MlpIdeal.main_arg6) ∧
      m' ((c : Thread Cert.MlpRefIdeal.nD Cert.MlpRefIdeal.τ).loc Cert.MlpRefIdeal.main_arg7) = m ((c : Thread Cert.MlpIdeal.nD Cert.MlpIdeal.τ).loc Cert.MlpIdeal.main_arg7) ∧
      m' ((c : Thread Cert.MlpRefIdeal.nD Cert.MlpRefIdeal.τ).loc Cert.MlpRefIdeal.main_arg8) = m ((c : Thread Cert.MlpIdeal.nD Cert.MlpIdeal.τ).loc Cert.MlpIdeal.main_arg8) ∧
      m' ((c : Thread Cert.MlpRefIdeal.nD Cert.MlpRefIdeal.τ).loc Cert.MlpRefIdeal.main_arg9) = m ((c : Thread Cert.MlpIdeal.nD Cert.MlpIdeal.τ).loc Cert.MlpIdeal.main_arg9) ∧
      m' ((c : Thread Cert.MlpRefIdeal.nD Cert.MlpRefIdeal.τ).loc Cert.MlpRefIdeal.main_arg10) = m ((c : Thread Cert.MlpIdeal.nD Cert.MlpIdeal.τ).loc Cert.MlpIdeal.main_arg10) ∧
      m' ((c : Thread Cert.MlpRefIdeal.nD Cert.MlpRefIdeal.τ).loc Cert.MlpRefIdeal.main_arg11) = m ((c : Thread Cert.MlpIdeal.nD Cert.MlpIdeal.τ).loc Cert.MlpIdeal.main_arg11) ∧
      m' ((c : Thread Cert.MlpRefIdeal.nD Cert.MlpRefIdeal.τ).loc Cert.MlpRefIdeal.main_arg12) = m ((c : Thread Cert.MlpIdeal.nD Cert.MlpIdeal.τ).loc Cert.MlpIdeal.main_arg12) ∧
      m' ((c : Thread Cert.MlpRefIdeal.nD Cert.MlpRefIdeal.τ).loc Cert.MlpRefIdeal.main_arg13) = m ((c : Thread Cert.MlpIdeal.nD Cert.MlpIdeal.τ).loc Cert.MlpIdeal.main_arg13) ∧
      m' ((c : Thread Cert.MlpRefIdeal.nD Cert.MlpRefIdeal.τ).loc Cert.MlpRefIdeal.main_arg14) = m ((c : Thread Cert.MlpIdeal.nD Cert.MlpIdeal.τ).loc Cert.MlpIdeal.main_arg14) ∧
      m' ((c : Thread Cert.MlpRefIdeal.nD Cert.MlpRefIdeal.τ).loc Cert.MlpRefIdeal.main_arg15) = m ((c : Thread Cert.MlpIdeal.nD Cert.MlpIdeal.τ).loc Cert.MlpIdeal.main_arg15) ∧
      m' ((c : Thread Cert.MlpRefIdeal.nD Cert.MlpRefIdeal.τ).loc Cert.MlpRefIdeal.main_arg16) = m ((c : Thread Cert.MlpIdeal.nD Cert.MlpIdeal.τ).loc Cert.MlpIdeal.main_arg16) ∧
      m' ((c : Thread Cert.MlpRefIdeal.nD Cert.MlpRefIdeal.τ).loc Cert.MlpRefIdeal.main_arg17) = m ((c : Thread Cert.MlpIdeal.nD Cert.MlpIdeal.τ).loc Cert.MlpIdeal.main_arg17) ∧
      m' ((c : Thread Cert.MlpRefIdeal.nD Cert.MlpRefIdeal.τ).loc Cert.MlpRefIdeal.main_arg18) = m ((c : Thread Cert.MlpIdeal.nD Cert.MlpIdeal.τ).loc Cert.MlpIdeal.main_arg18)) :
    Cert.MlpRefIdeal.Array.P m' c = Cert.MlpIdeal.Array.P m c ∧ Cert.MlpRefIdeal.Array.xs m' c = Cert.MlpIdeal.Array.xs m c ∧
      Cert.MlpRefIdeal.Array.ats m' c = Cert.MlpIdeal.Array.ats m c ∧ Cert.MlpRefIdeal.Array.an m' c = Cert.MlpIdeal.Array.an m c := by
  obtain ⟨e0, e1, e2, e3, e4, e5, e6, e7, e8, e9, e10, e11, e12, e13, e14, e15, e16, e17, e18⟩ := h
  refine ⟨?_, ?_, ?_, ?_⟩
  · unfold Cert.MlpRefIdeal.Array.P Cert.MlpIdeal.Array.P
    rw [e2, e3, e4, e5, e6, e7, e8, e9, e10, e11, e12, e13, e14, e15, e16, e17]
  · unfold Cert.MlpRefIdeal.Array.xs Cert.MlpIdeal.Array.xs
    rw [e0]
  · unfold Cert.MlpRefIdeal.Array.ats Cert.MlpIdeal.Array.ats
    rw [e1]
  · unfold Cert.MlpRefIdeal.Array.an Cert.MlpIdeal.Array.an
    rw [e18]

/-- The kernel and the reference run, end with the same results, and leave their arguments as they were. -/
theorem algebraic : Cert.algebraic_MlpIdeal_MlpRefIdeal_pre_scales_1 (hMlpIdeal := Cert.MlpIdeal.Gen.facts) (hMlpRefIdeal := Cert.MlpRefIdeal.Gen.facts)
    (hPre_scales_1 := Cert.Pre_scales_1.Gen.facts) := by
  intro m ρ m' ρ' hpre hag
  refine ⟨fun c => Spec.out (Cert.MlpIdeal.Array.P m c) (Cert.MlpIdeal.Array.xs m c) (Cert.MlpIdeal.Array.ats m c), fun c => Spec.codes (Cert.MlpIdeal.Array.P m c) (Cert.MlpIdeal.Array.xs m c) (Cert.MlpIdeal.Array.ats m c), fun c => Spec.hidden (Cert.MlpIdeal.Array.P m c) (Cert.MlpIdeal.Array.xs m c) (Cert.MlpIdeal.Array.ats m c), fun c => Spec.next (Cert.MlpIdeal.Array.P m c) (Cert.MlpIdeal.Array.an m c) (Cert.MlpIdeal.Array.xs m c) (Cert.MlpIdeal.Array.ats m c), ?_, ?_⟩
  · refine (θ_run _ _ _).mono (fun r hr c => ?_) (Cert.MlpIdeal.Value.run_blocks m ρ)
    obtain ⟨h1, h2, hn⟩ := scales m hpre c
    obtain ⟨o0, o1, o2, o3, rest⟩ := hr c
    exact ⟨o0.trans (Cert.MlpIdeal.Array.final19 m c h1 h2), o1.trans (Cert.MlpIdeal.Array.final20 m c h1 h2), o2.trans (Cert.MlpIdeal.Array.final21 m c h1 h2), o3.trans (Cert.MlpIdeal.Array.final22 m c h1 h2 hn), rest⟩
  · refine (θ_run _ _ _).mono (fun r hr c => ?_) (Cert.MlpRefIdeal.Value.run_blocks m' ρ')
    obtain ⟨eP, ex, ea, en⟩ := agree m m' c (hag c)
    obtain ⟨o0, o1, o2, o3, rest⟩ := hr c
    beta_reduce
    rw [← eP, ← ex, ← ea, ← en]
    exact ⟨o0.trans (Cert.MlpRefIdeal.Array.final19 m' c), o1.trans (Cert.MlpRefIdeal.Array.final20 m' c), o2.trans (Cert.MlpRefIdeal.Array.final21 m' c), o3.trans (Cert.MlpRefIdeal.Array.final22 m' c), rest⟩

end Cert.MlpIdeal.Equal

end
-- ==== Proof.MlpLastBlock.lean ====
/-
  Hand-written. The values one grid step of the second block's kernel stores, row by row: the stream after the attention
  branch, its codes, the hidden codes in their six column chunks, and the outputs.
-/
module

public import proofs.«01_k».proof.Proof.Gen.MlpLastIdeal.Value
public import proofs.«01_k».proof.Proof.Rows
public import Idealize.ShloMosaic.Lib.Pipeline.ValueKit
public import Idealize.ShloMosaic.Lib.Pointwise

@[expose] public section

set_option maxRecDepth 16384

noncomputable section

namespace Cert.MlpLastIdeal.Block

open Cert.MlpLastIdeal Cert.MlpLastIdeal.Gen Idealize.ShloMosaic Idealize.ShloMosaic.TcCoe Idealize.SL.Sem Cert.Rows

/-- The row of a parameter vector, and the matrix of a weight. -/
abbrev row {n : Nat} {e : EltTy} (v : Vec Ideal ⟨2, ![1, n]⟩ e) : Fin n → Elt Ideal e := fun k => v (ix2 0 k)
abbrev mat {m n : Nat} {e : EltTy} (v : Vec Ideal ⟨2, ![m, n]⟩ e) : Fin m → Fin n → Elt Ideal e := fun k n => v (ix2 k n)

/-! ## The stream after the attention branch, and its codes -/

section Mid
variable (X : Vec Ideal S8x6x8x768 .f32) (A : Vec Ideal S8x6x8x768 .fp8e4m3) (wp : Vec Ideal S768x768 .fp8e4m3)
  (ap sp a1 : Elt Ideal .f32) (bp g1 c1 : Vec Ideal S1x768 .f32)

/-- The row of the token at place `r` of the block. -/
def tokRow {e : EltTy} (v : Vec Ideal S8x6x8x768 e) (r : Fin 384) : Fin 768 → Elt Ideal e :=
  fun k => v (ix4 ⟨r.val / 48, by omega⟩ ⟨r.val / 8 % 6, by omega⟩ ⟨r.val % 8, by omega⟩ k)

theorem pay5_apply (r : Fin 384) (k : Fin 768) :
    k0_pay5 A wp ap sp bp (ix2 r k) =
      centred (linear (tokRow A r) (mat wp) ap sp (row bp)) k * Ideal.rsqrt (spread (linear (tokRow A r) (mat wp) ap sp (row bp))) := by
  pointwise [k0_pay5]
  rfl

theorem mid_apply (r : Fin 384) (k : Fin 768) :
    k0_pay6 (k0_pay2 X) (k0_pay3 g1) (k0_pay4 c1) (k0_pay5 A wp ap sp bp) (ix2 r k) =
      tokRow X r k + layerNorm (linear (tokRow A r) (mat wp) ap sp (row bp)) (row g1) (row c1) k := by
  rw [← layerNorm_rsqrt, ← pay5_apply]
  pointwise [k0_pay6, k0_pay2, k0_pay3, k0_pay4]
  rfl

theorem codes_apply (v3 v18 v20 v26) (ha : a1 ≠ 0) (r : Fin 384) (k : Fin 768) :
    k0_pay7 v3 v18 v20 v26 a1 (ix2 r k) = code (k0_pay6 v3 v18 v20 v26 (ix2 r k)) a1 := by
  unfold code
  rw [← mul_recip _ _ ha]
  pointwise [k0_pay7]
  try rfl
end Mid

/-! ## The six column chunks of the hidden codes -/

section Chunks
variable (U : Vec Ideal S384x768 .fp8e4m3) (w : Vec Ideal S768x512 .fp8e4m3) (a1 s1 a2 : Elt Ideal .f32) (b : Vec Ideal S1x512 .f32)

/-- One entry of a chunk: the activation of the linear layer, quantised. -/
def chunk (x : Row 768) (n : Fin 512) : EReal := code (gelu (linear x (mat w) a1 s1 (row b) n)) a2

theorem chunk_recip (h : a2 ≠ 0) (x : Row 768) (n : Fin 512) :
    chunk w a1 s1 a2 b x n =
      min chi (max clo (gelu (linear x (mat w) a1 s1 (row b) n) * Ideal.div (Ideal.ofBits .f32 0x3F800000#32) a2)) := by
  rw [one_eq, mul_recip _ _ h]; rfl

theorem lin0 (v3 v18 v20 v26 v42) (r : Fin 384) (n : Fin 512) :
    k0_pay10 v3 v18 v20 v26 v42 w a1 s1 b (ix2 r n) =
      linear (fun k => k0_pay7 v3 v18 v20 v26 v42 (ix2 r k)) (mat w) a1 s1 (row b) n := by
  pointwise [k0_pay10]
  rfl

theorem chunk0 (v3 v18 v20 v26 v42) (h : a2 ≠ 0) (r : Fin 384) (n : Fin 512) :
    k0_pay13 (k0_pay9 a2) (k0_pay11 v3 v18 v20 v26 v42 w a1 s1 b) (k0_pay12 v3 v18 v20 v26 v42 w a1 s1 b) (ix2 r n) =
      chunk w a1 s1 a2 b (fun k => k0_pay7 v3 v18 v20 v26 v42 (ix2 r k)) n := by
  rw [chunk_recip _ _ _ _ _ h, ← lin0]
  pointwise [k0_pay13, k0_pay9, k0_pay11, k0_pay12]
  simp only [Ideal.erf_def]
  rfl
theorem chunk1 (h : a2 ≠ 0) (r : Fin 384) (n : Fin 512) :
    k0_pay18 (k0_pay16 U (k0_pay9 a2) w a1 s1 b) (Scalar.ofBits .f32 0x43E00000#32) k0_pay17 (ix2 r n) =
      chunk w a1 s1 a2 b (fun k => U (ix2 r k)) n := by
  rw [chunk_recip _ _ _ _ _ h]
  pointwise [k0_pay18, k0_pay16, k0_pay17, k0_pay9]
  simp only [Ideal.erf_def]
  rfl
theorem chunk2 (h : a2 ≠ 0) (r : Fin 384) (n : Fin 512) :
    k0_pay21 U (k0_pay9 a2) w a1 s1 b (ix2 r n) = chunk w a1 s1 a2 b (fun k => U (ix2 r k)) n := by
  rw [chunk_recip _ _ _ _ _ h]
  pointwise [k0_pay21, k0_pay9]
  simp only [Ideal.erf_def]
  rfl
theorem chunk3 (h : a2 ≠ 0) (r : Fin 384) (n : Fin 512) :
    k0_pay24 U (k0_pay9 a2) w a1 s1 b (ix2 r n) = chunk w a1 s1 a2 b (fun k => U (ix2 r k)) n := by
  rw [chunk_recip _ _ _ _ _ h]
  pointwise [k0_pay24, k0_pay9]
  simp only [Ideal.erf_def]
  rfl
theorem chunk4 (h : a2 ≠ 0) (r : Fin 384) (n : Fin 512) :
    k0_pay27 U (k0_pay9 a2) w a1 s1 b (ix2 r n) = chunk w a1 s1 a2 b (fun k => U (ix2 r k)) n := by
  rw [chunk_recip _ _ _ _ _ h]
  pointwise [k0_pay27, k0_pay9]
  simp only [Ideal.erf_def]
  rfl
theorem chunk5 (h : a2 ≠ 0) (r : Fin 384) (n : Fin 512) :
    k0_pay32 (k0_pay9 a2) (k0_pay30 U w) (k0_pay31 a1 s1) b (ix2 r n) = chunk w a1 s1 a2 b (fun k => U (ix2 r k)) n := by
  rw [chunk_recip _ _ _ _ _ h]
  pointwise [k0_pay32, k0_pay30, k0_pay31, k0_pay9]
  simp only [Ideal.erf_def]
  rfl

/-! The same entry as the scratch stores it, and as the block of hidden codes does. -/

theorem chunk0s (v3 v18 v20 v26 v42) (h : a2 ≠ 0) (r : Fin 384) (n : Fin 512) :
    k0_pay14 (k0_pay9 a2) (k0_pay11 v3 v18 v20 v26 v42 w a1 s1 b) (k0_pay12 v3 v18 v20 v26 v42 w a1 s1 b) (ix2 r n) = chunk w a1 s1 a2 b (fun k => k0_pay7 v3 v18 v20 v26 v42 (ix2 r k)) n := by
  rw [← chunk0 _ _ _ _ _ _ _ _ _ _ h]
  pointwise [k0_pay14]
theorem chunk0h (v3 v18 v20 v26 v42) (h : a2 ≠ 0) (c : Fin 8) (d : Fin 6) (e : Fin 8) (n : Fin 512) :
    k0_pay15 (k0_pay9 a2) (k0_pay11 v3 v18 v20 v26 v42 w a1 s1 b) (k0_pay12 v3 v18 v20 v26 v42 w a1 s1 b) (ix4 c d e n) =
      chunk w a1 s1 a2 b (fun k => k0_pay7 v3 v18 v20 v26 v42 (ix2 (⟨c.val * 48 + d.val * 8 + e.val, by omega⟩ : Fin 384) k)) n := by
  rw [← chunk0 _ _ _ _ _ _ _ _ _ _ h]
  pointwise [k0_pay15]
theorem chunk1s (h : a2 ≠ 0) (r : Fin 384) (n : Fin 512) :
    k0_pay19 (k0_pay16 U (k0_pay9 a2) w a1 s1 b) (Scalar.ofBits .f32 0x43E00000#32) k0_pay17 (ix2 r n) = chunk w a1 s1 a2 b (fun k => U (ix2 r k)) n := by
  rw [← chunk1 _ _ _ _ _ _ h]
  pointwise [k0_pay19]
theorem chunk1h (h : a2 ≠ 0) (c : Fin 8) (d : Fin 6) (e : Fin 8) (n : Fin 512) :
    k0_pay20 (k0_pay16 U (k0_pay9 a2) w a1 s1 b) (Scalar.ofBits .f32 0x43E00000#32) k0_pay17 (ix4 c d e n) =
      chunk w a1 s1 a2 b (fun k => U (ix2 (⟨c.val * 48 + d.val * 8 + e.val, by omega⟩ : Fin 384) k)) n := by
  rw [← chunk1 _ _ _ _ _ _ h]
  pointwise [k0_pay20]
theorem chunk2s (h : a2 ≠ 0) (r : Fin 384) (n : Fin 512) :
    k0_pay22 U (k0_pay9 a2) w a1 s1 b (ix2 r n) = chunk w a1 s1 a2 b (fun k => U (ix2 r k)) n := by
  rw [← chunk2 _ _ _ _ _ _ h]
  pointwise [k0_pay22]
theorem chunk2h (h : a2 ≠ 0) (c : Fin 8) (d : Fin 6) (e : Fin 8) (n : Fin 512) :
    k0_pay23 (k0_pay21 U (k0_pay9 a2) w a1 s1 b) (ix4 c d e n) =
      chunk w a1 s1 a2 b (fun k => U (ix2 (⟨c.val * 48 + d.val * 8 + e.val, by omega⟩ : Fin 384) k)) n := by
  rw [← chunk2 _ _ _ _ _ _ h]
  pointwise [k0_pay23]
theorem chunk3s (h : a2 ≠ 0) (r : Fin 384) (n : Fin 512) :
    k0_pay25 U (k0_pay9 a2) w a1 s1 b (ix2 r n) = chunk w a1 s1 a2 b (fun k => U (ix2 r k)) n := by
  rw [← chunk3 _ _ _ _ _ _ h]
  pointwise [k0_pay25]
theorem chunk3h (h : a2 ≠ 0) (c : Fin 8) (d : Fin 6) (e : Fin 8) (n : Fin 512) :
    k0_pay26 U (k0_pay9 a2) w a1 s1 b (ix4 c d e n) =
      chunk w a1 s1 a2 b (fun k => U (ix2 (⟨c.val * 48 + d.val * 8 + e.val, by omega⟩ : Fin 384) k)) n := by
  rw [← chunk3 _ _ _ _ _ _ h]
  pointwise [k0_pay26]
theorem chunk4s (h : a2 ≠ 0) (r : Fin 384) (n : Fin 512) :
    k0_pay28 U (k0_pay9 a2) w a1 s1 b (ix2 r n) = chunk w a1 s1 a2 b (fun k => U (ix2 r k)) n := by
  rw [← chunk4 _ _ _ _ _ _ h]
  pointwise [k0_pay28]
theorem chunk4h (h : a2 ≠ 0) (c : Fin 8) (d : Fin 6) (e : Fin 8) (n : Fin 512) :
    k0_pay29 U (k0_pay9 a2) w a1 s1 b (ix4 c d e n) =
      chunk w a1 s1 a2 b (fun k => U (ix2 (⟨c.val * 48 + d.val * 8 + e.val, by omega⟩ : Fin 384) k)) n := by
  rw [← chunk4 _ _ _ _ _ _ h]
  pointwise [k0_pay29]
theorem chunk5s (h : a2 ≠ 0) (r : Fin 384) (n : Fin 512) :
    k0_pay33 (k0_pay9 a2) (k0_pay30 U w) (k0_pay31 a1 s1) b (ix2 r n) = chunk w a1 s1 a2 b (fun k => U (ix2 r k)) n := by
  rw [← chunk5 _ _ _ _ _ _ h]
  pointwise [k0_pay33]
theorem chunk5h (h : a2 ≠ 0) (c : Fin 8) (d : Fin 6) (e : Fin 8) (n : Fin 512) :
    k0_pay34 (k0_pay9 a2) (k0_pay30 U w) (k0_pay31 a1 s1) b (ix4 c d e n) =
      chunk w a1 s1 a2 b (fun k => U (ix2 (⟨c.val * 48 + d.val * 8 + e.val, by omega⟩ : Fin 384) k)) n := by
  rw [← chunk5 _ _ _ _ _ _ h]
  pointwise [k0_pay34]
end Chunks

/-! ## The hidden codes, put together from the chunks -/

section Hidden
variable (v3 : Vec Ideal S384x768 .f32) (v18 v20 : Vec Ideal S1x768 .f32) (v26 : Vec Ideal S384x768 .f32)
  (w1 : Vec Ideal S768x3072 .fp8e4m3) (a1 s1 a2 : Elt Ideal .f32) (b1 : Vec Ideal S1x3072 .f32)

/-- The hidden codes of a row of codes. -/
def hid (x : Row 768) : Row 3072 := fun n => code (gelu (linear x (mat w1) a1 s1 (row b1) n)) a2

/-- A chunk loaded at column `off` is the hidden codes there. -/
theorem chunk_ld (w : Vec Ideal S768x512 .fp8e4m3) (b : Vec Ideal S1x512 .f32) (x x' : Row 768) (n : Fin 512) (N : Fin 3072)
    (hx : x = x') (hw : ∀ k, w (ix2 k n) = w1 (ix2 k N)) (hb : b (ix2 0 n) = b1 (ix2 0 N)) :
    chunk w a1 s1 a2 b x n = hid w1 a1 s1 a2 b1 x' N := by
  subst hx
  unfold chunk hid linear
  simp only [mat, row, hw, hb]

/-- The scratch the six stores fill, -/
def scratch : List (View.Piece (Elt Ideal) S384x3072 .fp8e4m3) := [
    ⟨Rect.unit ![0, 2560] ![384, 512] inb_S384x3072_S384x512_0_2560,
      k0_pay33 (k0_pay9 a2) (k0_pay30 (k0_pay7 v3 v18 v20 v26 a1) (View.ld w1 (Rect.unit ![0, 2560] ![768, 512] inb_S768x3072_S768x512_0_2560))) (k0_pay31 a1 s1) (View.ld b1 (Rect.unit ![0, 2560] ![1, 512] inb_S1x3072_S1x512_0_2560))⟩,
    ⟨Rect.unit ![0, 2048] ![384, 512] inb_S384x3072_S384x512_0_2048,
      k0_pay28 (k0_pay7 v3 v18 v20 v26 a1) (k0_pay9 a2) (View.ld w1 (Rect.unit ![0, 2048] ![768, 512] inb_S768x3072_S768x512_0_2048)) a1 s1 (View.ld b1 (Rect.unit ![0, 2048] ![1, 512] inb_S1x3072_S1x512_0_2048))⟩,
    ⟨Rect.unit ![0, 1536] ![384, 512] inb_S384x3072_S384x512_0_1536,
      k0_pay25 (k0_pay7 v3 v18 v20 v26 a1) (k0_pay9 a2) (View.ld w1 (Rect.unit ![0, 1536] ![768, 512] inb_S768x3072_S768x512_0_1536)) a1 s1 (View.ld b1 (Rect.unit ![0, 1536] ![1, 512] inb_S1x3072_S1x512_0_1536))⟩,
    ⟨Rect.unit ![0, 1024] ![384, 512] inb_S384x3072_S384x512_0_1024,
      k0_pay22 (k0_pay7 v3 v18 v20 v26 a1) (k0_pay9 a2) (View.ld w1 (Rect.unit ![0, 1024] ![768, 512] inb_S768x3072_S768x512_0_1024)) a1 s1 (View.ld b1 (Rect.unit ![0, 1024] ![1, 512] inb_S1x3072_S1x512_0_1024))⟩,
    ⟨Rect.unit ![0, 512] ![384, 512] inb_S384x3072_S384x512_0_512,
      k0_pay19 (k0_pay16 (k0_pay7 v3 v18 v20 v26 a1) (k0_pay9 a2) (View.ld w1 (Rect.unit ![0, 512] ![768, 512] inb_S768x3072_S768x512_0_512)) a1 s1 (View.ld b1 (Rect.unit ![0, 512] ![1, 512] inb_S1x3072_S1x512_0_512))) (Scalar.ofBits .f32 0x43E00000#32) k0_pay17⟩,
    ⟨Rect.unit ![0, 0] ![384, 512] inb_S384x3072_S384x512_0_0,
      k0_pay14 (k0_pay9 a2) (k0_pay11 v3 v18 v20 v26 a1 (View.ld w1 (Rect.unit ![0, 0] ![768, 512] inb_S768x3072_S768x512_0_0)) a1 s1 (View.ld b1 (Rect.unit ![0, 0] ![1, 512] inb_S1x3072_S1x512_0_0))) (k0_pay12 v3 v18 v20 v26 a1 (View.ld w1 (Rect.unit ![0, 0] ![768, 512] inb_S768x3072_S768x512_0_0)) a1 s1 (View.ld b1 (Rect.unit ![0, 0] ![1, 512] inb_S1x3072_S1x512_0_0)))⟩]
/-- and the block of hidden codes they store. -/
def block : List (View.Piece (Elt Ideal) S8x6x8x3072 .fp8e4m3) := [
    ⟨Rect.unit ![0, 0, 0, 2560] ![8, 6, 8, 512] inb_S8x6x8x3072_S8x6x8x512_0_0_0_2560,
      k0_pay34 (k0_pay9 a2) (k0_pay30 (k0_pay7 v3 v18 v20 v26 a1) (View.ld w1 (Rect.unit ![0, 2560] ![768, 512] inb_S768x3072_S768x512_0_2560))) (k0_pay31 a1 s1) (View.ld b1 (Rect.unit ![0, 2560] ![1, 512] inb_S1x3072_S1x512_0_2560))⟩,
    ⟨Rect.unit ![0, 0, 0, 2048] ![8, 6, 8, 512] inb_S8x6x8x3072_S8x6x8x512_0_0_0_2048,
      k0_pay29 (k0_pay7 v3 v18 v20 v26 a1) (k0_pay9 a2) (View.ld w1 (Rect.unit ![0, 2048] ![768, 512] inb_S768x3072_S768x512_0_2048)) a1 s1 (View.ld b1 (Rect.unit ![0, 2048] ![1, 512] inb_S1x3072_S1x512_0_2048))⟩,
    ⟨Rect.unit ![0, 0, 0, 1536] ![8, 6, 8, 512] inb_S8x6x8x3072_S8x6x8x512_0_0_0_1536,
      k0_pay26 (k0_pay7 v3 v18 v20 v26 a1) (k0_pay9 a2) (View.ld w1 (Rect.unit ![0, 1536] ![768, 512] inb_S768x3072_S768x512_0_1536)) a1 s1 (View.ld b1 (Rect.unit ![0, 1536] ![1, 512] inb_S1x3072_S1x512_0_1536))⟩,
    ⟨Rect.unit ![0, 0, 0, 1024] ![8, 6, 8, 512] inb_S8x6x8x3072_S8x6x8x512_0_0_0_1024,
      k0_pay23 (k0_pay21 (k0_pay7 v3 v18 v20 v26 a1) (k0_pay9 a2) (View.ld w1 (Rect.unit ![0, 1024] ![768, 512] inb_S768x3072_S768x512_0_1024)) a1 s1 (View.ld b1 (Rect.unit ![0, 1024] ![1, 512] inb_S1x3072_S1x512_0_1024)))⟩,
    ⟨Rect.unit ![0, 0, 0, 512] ![8, 6, 8, 512] inb_S8x6x8x3072_S8x6x8x512_0_0_0_512,
      k0_pay20 (k0_pay16 (k0_pay7 v3 v18 v20 v26 a1) (k0_pay9 a2) (View.ld w1 (Rect.unit ![0, 512] ![768, 512] inb_S768x3072_S768x512_0_512)) a1 s1 (View.ld b1 (Rect.unit ![0, 512] ![1, 512] inb_S1x3072_S1x512_0_512))) (Scalar.ofBits .f32 0x43E00000#32) k0_pay17⟩,
    ⟨Rect.unit ![0, 0, 0, 0] ![8, 6, 8, 512] inb_S8x6x8x3072_S8x6x8x512_0_0_0_0,
      k0_pay15 (k0_pay9 a2) (k0_pay11 v3 v18 v20 v26 a1 (View.ld w1 (Rect.unit ![0, 0] ![768, 512] inb_S768x3072_S768x512_0_0)) a1 s1 (View.ld b1 (Rect.unit ![0, 0] ![1, 512] inb_S1x3072_S1x512_0_0))) (k0_pay12 v3 v18 v20 v26 a1 (View.ld w1 (Rect.unit ![0, 0] ![768, 512] inb_S768x3072_S768x512_0_0)) a1 s1 (View.ld b1 (Rect.unit ![0, 0] ![1, 512] inb_S1x3072_S1x512_0_0)))⟩]

theorem ldw (off : Nat) (inb) (k : Fin 768) (n : Fin 512) (N : Fin 3072) (h : N.val = off + n.val) :
    View.ld w1 (Rect.unit ![0, off] ![768, 512] inb) (ix2 k n) = w1 (ix2 k N) := by
  refine congrArg w1 (funext fun a => Fin.ext ?_)
  fin_cases a
  · simp [Rect.emb, Rect.unit]
  · simp [Rect.emb, Rect.unit, h]
theorem ldb (off : Nat) (inb) (n : Fin 512) (N : Fin 3072) (h : N.val = off + n.val) :
    View.ld b1 (Rect.unit ![0, off] ![1, 512] inb) (ix2 0 n) = b1 (ix2 0 N) := by
  refine congrArg b1 (funext fun a => Fin.ext ?_)
  fin_cases a
  · simp [Rect.emb, Rect.unit]
  · simp [Rect.emb, Rect.unit, h]

theorem scratch_apply (h : a2 ≠ 0) (r : Fin 384) (n : Fin 3072) :
    View.canon (scratch v3 v18 v20 v26 w1 a1 s1 a2 b1) (ix2 r n) =
      hid w1 a1 s1 a2 b1 (fun k => k0_pay7 v3 v18 v20 v26 a1 (ix2 r k)) n := by
  generalize hy : ix2 r n = y
  have e0 : (y 0).val = r.val := by subst hy; rfl
  have e1 : (y 1).val = n.val := by subst hy; rfl
  clear hy
  unfold scratch
  canon_tiles x h
  all_goals idx_vars x
  all_goals have er : x0 = r := Fin.ext (by omega)
  all_goals subst er
  · exact (chunk5s _ _ _ _ _ _ h _ _).trans (chunk_ld _ _ _ _ _ _ _ _ _ _ _ rfl (fun k => ldw _ _ _ _ _ _ (by omega)) (ldb _ _ _ _ _ (by omega)))
  · exact (chunk4s _ _ _ _ _ _ h _ _).trans (chunk_ld _ _ _ _ _ _ _ _ _ _ _ rfl (fun k => ldw _ _ _ _ _ _ (by omega)) (ldb _ _ _ _ _ (by omega)))
  · exact (chunk3s _ _ _ _ _ _ h _ _).trans (chunk_ld _ _ _ _ _ _ _ _ _ _ _ rfl (fun k => ldw _ _ _ _ _ _ (by omega)) (ldb _ _ _ _ _ (by omega)))
  · exact (chunk2s _ _ _ _ _ _ h _ _).trans (chunk_ld _ _ _ _ _ _ _ _ _ _ _ rfl (fun k => ldw _ _ _ _ _ _ (by omega)) (ldb _ _ _ _ _ (by omega)))
  · exact (chunk1s _ _ _ _ _ _ h _ _).trans (chunk_ld _ _ _ _ _ _ _ _ _ _ _ rfl (fun k => ldw _ _ _ _ _ _ (by omega)) (ldb _ _ _ _ _ (by omega)))
  · exact (chunk0s _ _ _ _ _ _ _ _ _ _ h _ _).trans (chunk_ld _ _ _ _ _ _ _ _ _ _ _ rfl (fun k => ldw _ _ _ _ _ _ (by omega)) (ldb _ _ _ _ _ (by omega)))

theorem block_apply (h : a2 ≠ 0) (c : Fin 8) (d : Fin 6) (e : Fin 8) (n : Fin 3072) :
    View.canon (block v3 v18 v20 v26 w1 a1 s1 a2 b1) (ix4 c d e n) =
      hid w1 a1 s1 a2 b1
        (fun k => k0_pay7 v3 v18 v20 v26 a1 (ix2 (⟨c.val * 48 + d.val * 8 + e.val, by omega⟩ : Fin 384) k)) n := by
  generalize hy : ix4 c d e n = y
  have e0 : (y 0).val = c.val := by subst hy; rfl
  have e1 : (y 1).val = d.val := by subst hy; rfl
  have e2 : (y 2).val = e.val := by subst hy; rfl
  have e3 : (y 3).val = n.val := by subst hy; rfl
  clear hy
  unfold block
  canon_tiles x h
  all_goals idx_vars x
  all_goals have er : x0 = c := Fin.ext (by omega)
  all_goals have es : x1 = d := Fin.ext (by omega)
  all_goals have et : x2 = e := Fin.ext (by omega)
  all_goals subst er es et
  · exact (chunk5h _ _ _ _ _ _ h _ _ _ _).trans (chunk_ld _ _ _ _ _ _ _ _ _ _ _ rfl (fun k => ldw _ _ _ _ _ _ (by omega)) (ldb _ _ _ _ _ (by omega)))
  · exact (chunk4h _ _ _ _ _ _ h _ _ _ _).trans (chunk_ld _ _ _ _ _ _ _ _ _ _ _ rfl (fun k => ldw _ _ _ _ _ _ (by omega)) (ldb _ _ _ _ _ (by omega)))
  · exact (chunk3h _ _ _ _ _ _ h _ _ _ _).trans (chunk_ld _ _ _ _ _ _ _ _ _ _ _ rfl (fun k => ldw _ _ _ _ _ _ (by omega)) (ldb _ _ _ _ _ (by omega)))
  · exact (chunk2h _ _ _ _ _ _ h _ _ _ _).trans (chunk_ld _ _ _ _ _ _ _ _ _ _ _ rfl (fun k => ldw _ _ _ _ _ _ (by omega)) (ldb _ _ _ _ _ (by omega)))
  · exact (chunk1h _ _ _ _ _ _ h _ _ _ _).trans (chunk_ld _ _ _ _ _ _ _ _ _ _ _ rfl (fun k => ldw _ _ _ _ _ _ (by omega)) (ldb _ _ _ _ _ (by omega)))
  · exact (chunk0h _ _ _ _ _ _ _ _ _ _ h _ _ _ _).trans (chunk_ld _ _ _ _ _ _ _ _ _ _ _ rfl (fun k => ldw _ _ _ _ _ _ (by omega)) (ldb _ _ _ _ _ (by omega)))

/-- The whole scratch, and what a load of it reads back. -/
abbrev full : Rect S384x3072 := Rect.unit (s := S384x3072) ![0, 0] ![384, 3072] inb_S384x3072_S384x3072_0_0
abbrev readBack (L : List (View.Piece (Elt Ideal) S384x3072 .fp8e4m3)) : Vec Ideal S384x3072 .fp8e4m3 :=
  (View.whole cc0_scratch0).readCov L full.toLoadRect

theorem scratch_read (h : a2 ≠ 0) (r : Fin 384) (n : Fin 3072) :
    readBack (scratch v3 v18 v20 v26 w1 a1 s1 a2 b1) (ix2 r n) =
      hid w1 a1 s1 a2 b1 (fun k => k0_pay7 v3 v18 v20 v26 a1 (ix2 r k)) n := by
  rw [readBack, View.readCov_eq_canon', ← scratch_apply _ _ _ _ _ _ _ _ _ h]
  refine congrArg (View.canon _) (funext fun a => Fin.ext ?_)
  fin_cases a <;> simp [Rect.toLoadRect, LoadRect.idx, Rect.unit]
end Hidden

/-! ## The feed-forward branch -/

section Out
variable (M : Vec Ideal S384x768 .f32) (H : Vec Ideal S384x3072 .fp8e4m3) (w2 : Vec Ideal S3072x768 .fp8e4m3)
  (a2 s2 : Elt Ideal .f32) (b2 g2 c2 : Vec Ideal S1x768 .f32)

theorem out_apply (a : Fin 8) (b : Fin 6) (c : Fin 8) (k : Fin 768) :
    k0_pay1 M (k0_pay35 H w2 a2 s2) (k0_pay36 b2) g2 c2 (ix4 a b c k) =
      M (ix2 (⟨a.val * 48 + b.val * 8 + c.val, by omega⟩ : Fin 384) k) +
        layerNorm (linear (fun n => H (ix2 (⟨a.val * 48 + b.val * 8 + c.val, by omega⟩ : Fin 384) n)) (mat w2) a2 s2 (row b2))
          (row g2) (row c2) k := by
  rw [← layerNorm_rsqrt]
  pointwise [k0_pay1, k0_pay35, k0_pay36]
  rfl
end Out

/-! ## One grid step, over the contents of its windows -/

section Step
variable (X : Vec Ideal S8x6x8x768 .f32) (A : Vec Ideal S8x6x8x768 .fp8e4m3) (wp : Vec Ideal S768x768 .fp8e4m3)
  (w1 : Vec Ideal S768x3072 .fp8e4m3) (w2 : Vec Ideal S3072x768 .fp8e4m3)
  (bp g1 c1 : Vec Ideal S1x768 .f32) (b1 : Vec Ideal S1x3072 .f32) (b2 g2 c2 : Vec Ideal S1x768 .f32)
  (ap sp a1 s1 a2 s2 : Elt Ideal .f32)

/-- The parameters as the mathematics has them. -/
def half : Half where
  wp := mat wp
  sp := sp
  ap := ap
  bp := row bp
  g1 := row g1
  c1 := row c1
  w1 := mat w1
  s1 := s1
  a1 := a1
  b1 := row b1
  w2 := mat w2
  s2 := s2
  a2 := a2
  b2 := row b2
  g2 := row g2
  c2 := row c2

/-- The stream after the attention branch, the codes of it, and the hidden codes the scratch holds. -/
abbrev kMid : Vec Ideal S384x768 .f32 :=
  k0_pay6 (k0_pay2 X) (k0_pay3 g1) (k0_pay4 c1) (k0_pay5 A wp ap sp bp)
abbrev kScratch : Vec Ideal S384x3072 .fp8e4m3 :=
  readBack (scratch (k0_pay2 X) (k0_pay3 g1) (k0_pay4 c1) (k0_pay5 A wp ap sp bp) w1 a1 s1 a2 b1)

/-- The row of the token at place `(c, d, e)` of the block. -/
def tok {e : EltTy} (v : Vec Ideal S8x6x8x768 e) (a : Fin 8) (b : Fin 6) (c : Fin 8) : Fin 768 → Elt Ideal e :=
  fun k => v (ix4 a b c k)

theorem tokRow_eq {e : EltTy} (v : Vec Ideal S8x6x8x768 e) (a : Fin 8) (b : Fin 6) (c : Fin 8) :
    tokRow v ⟨a.val * 48 + b.val * 8 + c.val, by omega⟩ = tok v a b c := by
  funext k
  unfold tokRow tok
  congr 1
  congr 1 <;> exact Fin.ext (by dsimp only; omega)

theorem mid_half (r : Fin 384) (k : Fin 768) :
    kMid X A wp bp g1 c1 ap sp (ix2 r k) =
      (half wp w1 w2 bp g1 c1 b1 b2 g2 c2 ap sp a1 s1 a2 s2).mid (tokRow X r) (tokRow A r) k :=
  mid_apply X A wp ap sp bp g1 c1 r k

theorem codes_half (h1 : a1 ≠ 0) (r : Fin 384) (k : Fin 768) :
    k0_pay7 (k0_pay2 X) (k0_pay3 g1) (k0_pay4 c1) (k0_pay5 A wp ap sp bp) a1 (ix2 r k) =
      (half wp w1 w2 bp g1 c1 b1 b2 g2 c2 ap sp a1 s1 a2 s2).codes (tokRow X r) (tokRow A r) k :=
  (codes_apply a1 _ _ _ _ h1 r k).trans
    (congrArg (code · a1) (mid_half X A wp w1 w2 bp g1 c1 b1 b2 g2 c2 ap sp a1 s1 a2 s2 r k))

theorem scratch_half (h1 : a1 ≠ 0) (h2 : a2 ≠ 0) (r : Fin 384) (n : Fin 3072) :
    kScratch X A wp w1 bp g1 c1 b1 ap sp a1 s1 a2 (ix2 r n) =
      (half wp w1 w2 bp g1 c1 b1 b2 g2 c2 ap sp a1 s1 a2 s2).hidden (tokRow X r) (tokRow A r) n := by
  refine (scratch_read _ _ _ _ _ _ _ _ _ h2 r n).trans ?_
  simp only [codes_half X A wp w1 w2 bp g1 c1 b1 b2 g2 c2 ap sp a1 s1 a2 s2 h1]
  rfl

/-! What the three output windows hold. -/

theorem step18 (h1 : a1 ≠ 0) (h2 : a2 ≠ 0) (a : Fin 8) (b : Fin 6) (c : Fin 8) (k : Fin 768) :
    k0_pay1 (kMid X A wp bp g1 c1 ap sp) (k0_pay35 (kScratch X A wp w1 bp g1 c1 b1 ap sp a1 s1 a2) w2 a2 s2) (k0_pay36 b2) g2 c2 (ix4 a b c k) =
      (half wp w1 w2 bp g1 c1 b1 b2 g2 c2 ap sp a1 s1 a2 s2).out (tok X a b c) (tok A a b c) k := by
  rw [← tokRow_eq, ← tokRow_eq, out_apply, mid_half X A wp w1 w2 bp g1 c1 b1 b2 g2 c2 ap sp a1 s1 a2 s2]
  simp only [scratch_half X A wp w1 w2 bp g1 c1 b1 b2 g2 c2 ap sp a1 s1 a2 s2 h1 h2]
  rfl

theorem step19 (h1 : a1 ≠ 0) (a : Fin 8) (b : Fin 6) (c : Fin 8) (k : Fin 768) :
    k0_pay8 (k0_pay2 X) (k0_pay3 g1) (k0_pay4 c1) (k0_pay5 A wp ap sp bp) a1 (ix4 a b c k) =
      (half wp w1 w2 bp g1 c1 b1 b2 g2 c2 ap sp a1 s1 a2 s2).codes (tok X a b c) (tok A a b c) k := by
  rw [← tokRow_eq, ← tokRow_eq, ← codes_half X A wp w1 w2 bp g1 c1 b1 b2 g2 c2 ap sp a1 s1 a2 s2 h1]
  pointwise [k0_pay8]

theorem step20 (h1 : a1 ≠ 0) (h2 : a2 ≠ 0) (a : Fin 8) (b : Fin 6) (c : Fin 8) (n : Fin 3072) :
    View.canon (block (k0_pay2 X) (k0_pay3 g1) (k0_pay4 c1) (k0_pay5 A wp ap sp bp) w1 a1 s1 a2 b1) (ix4 a b c n) =
      (half wp w1 w2 bp g1 c1 b1 b2 g2 c2 ap sp a1 s1 a2 s2).hidden (tok X a b c) (tok A a b c) n := by
  rw [block_apply _ _ _ _ _ _ _ _ _ h2, ← tokRow_eq, ← tokRow_eq]
  simp only [codes_half X A wp w1 w2 bp g1 c1 b1 b2 g2 c2 ap sp a1 s1 a2 s2 h1]
  rfl

end Step

end Cert.MlpLastIdeal.Block

end
-- ==== Proof.MlpLastArray.lean ====
/-
  Hand-written. The result arrays of the second block's kernel as functions of its argument arrays: each grid step's windows
  read the arguments, and the steps' blocks cover the results.
-/
module

public import proofs.«01_k».proof.Proof.MlpLastBlock
public import proofs.«01_k».proof.Proof.Spec

@[expose] public section

set_option maxRecDepth 16384

noncomputable section

namespace Cert.MlpLastIdeal.Array

open Cert.MlpLastIdeal Cert.MlpLastIdeal.Gen Cert.MlpLastIdeal.Block Idealize.ShloMosaic Idealize.ShloMosaic.TcCoe Idealize.SL.Sem Cert.Rows

variable (m : (ℓ : Loc nD τ sig) → Buf (Elt Ideal) ℓ)

/-- The parameters and the token rows, from the launched memory. -/
def P (c : Dev nD) : Half :=
  Spec.params (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17))
def xs (c : Dev nD) := Spec.rowTok (m ((c : Thread nD τ).loc main_arg0))
def ats (c : Dev nD) := Spec.rowTok (m ((c : Thread nD τ).loc main_arg1))

/-- Where each window's block lies. -/
theorem idx : ∀ t : Fin cfg0.N, win0_0.index t = ![t.val, 0, 0, 0] ∧ win0_1.index t = ![t.val, 0, 0, 0] ∧
    win0_2.index t = ![0, 0] ∧ win0_3.index t = ![0, 0] ∧ win0_4.index t = ![0, 0] ∧ win0_5.index t = ![0, 0] ∧
    win0_6.index t = ![0, 0] ∧ win0_7.index t = ![0, 0] ∧ win0_8.index t = ![0, 0] ∧ win0_9.index t = ![0, 0] ∧
    win0_10.index t = ![0, 0] ∧ win0_11.index t = ![0, 0] ∧ win0_12.index t = ![0] ∧ win0_13.index t = ![0] ∧
    win0_14.index t = ![0] ∧ win0_15.index t = ![0] ∧ win0_16.index t = ![0] ∧ win0_17.index t = ![0] ∧
    win0_18.index t = ![t.val, 0, 0, 0] ∧ win0_19.index t = ![t.val, 0, 0, 0] ∧ win0_20.index t = ![t.val, 0, 0, 0] := by decide +kernel

/-- A scale as a grid step loads it. -/
abbrev sc (v : Vec Ideal S1 .f32) : Elt Ideal .f32 := View.ld v (Rect.unit (s := S1) ![0] ![1] inb_S1_S1_0) (Shape.Idx.first (by decide))

/-- The parameters a grid step sees. -/
abbrev B (c : Dev nD) (t : Fin cfg0.N) : Half :=
  half (iblk m c 2 t) (iblk m c 3 t) (iblk m c 4 t) (iblk m c 5 t) (iblk m c 6 t) (iblk m c 7 t) (iblk m c 8 t) (iblk m c 9 t)
    (iblk m c 10 t) (iblk m c 11 t) (sc (iblk m c 12 t)) (sc (iblk m c 13 t)) (sc (iblk m c 14 t)) (sc (iblk m c 15 t))
    (sc (iblk m c 16 t)) (sc (iblk m c 17 t))

/-! What each window reads. -/

theorem r2 (c : Dev nD) (t : Fin cfg0.N) (k n) : (iblk m c 2 t : Vec Ideal S768x768 .fp8e4m3) (ix2 k n) =
    (m ((c : Thread nD τ).loc main_arg2) : Vec Ideal S768x768 .fp8e4m3) (ix2 k n) := by blk_ext [iblk, V, idx t]
theorem r3 (c : Dev nD) (t : Fin cfg0.N) (k n) : (iblk m c 3 t : Vec Ideal S768x3072 .fp8e4m3) (ix2 k n) =
    (m ((c : Thread nD τ).loc main_arg8) : Vec Ideal S768x3072 .fp8e4m3) (ix2 k n) := by blk_ext [iblk, V, idx t]
theorem r4 (c : Dev nD) (t : Fin cfg0.N) (k n) : (iblk m c 4 t : Vec Ideal S3072x768 .fp8e4m3) (ix2 k n) =
    (m ((c : Thread nD τ).loc main_arg12) : Vec Ideal S3072x768 .fp8e4m3) (ix2 k n) := by blk_ext [iblk, V, idx t]
theorem r5 (c : Dev nD) (t : Fin cfg0.N) (k) : (iblk m c 5 t : Vec Ideal S1x768 .f32) (ix2 0 k) =
    (m ((c : Thread nD τ).loc main_arg5) : Vec Ideal S768 .f32) (ix1 k) := by blk_ext! [iblk, V, idx t]
theorem r6 (c : Dev nD) (t : Fin cfg0.N) (k) : (iblk m c 6 t : Vec Ideal S1x768 .f32) (ix2 0 k) =
    (m ((c : Thread nD τ).loc main_arg6) : Vec Ideal S768 .f32) (ix1 k) := by blk_ext! [iblk, V, idx t]
theorem r7 (c : Dev nD) (t : Fin cfg0.N) (k) : (iblk m c 7 t : Vec Ideal S1x768 .f32) (ix2 0 k) =
    (m ((c : Thread nD τ).loc main_arg7) : Vec Ideal S768 .f32) (ix1 k) := by blk_ext! [iblk, V, idx t]
theorem r8 (c : Dev nD) (t : Fin cfg0.N) (k) : (iblk m c 8 t : Vec Ideal S1x3072 .f32) (ix2 0 k) =
    (m ((c : Thread nD τ).loc main_arg11) : Vec Ideal S3072 .f32) (ix1 k) := by blk_ext! [iblk, V, idx t]
theorem r9 (c : Dev nD) (t : Fin cfg0.N) (k) : (iblk m c 9 t : Vec Ideal S1x768 .f32) (ix2 0 k) =
    (m ((c : Thread nD τ).loc main_arg15) : Vec Ideal S768 .f32) (ix1 k) := by blk_ext! [iblk, V, idx t]
theorem r10 (c : Dev nD) (t : Fin cfg0.N) (k) : (iblk m c 10 t : Vec Ideal S1x768 .f32) (ix2 0 k) =
    (m ((c : Thread nD τ).loc main_arg16) : Vec Ideal S768 .f32) (ix1 k) := by blk_ext! [iblk, V, idx t]
theorem r11 (c : Dev nD) (t : Fin cfg0.N) (k) : (iblk m c 11 t : Vec Ideal S1x768 .f32) (ix2 0 k) =
    (m ((c : Thread nD τ).loc main_arg17) : Vec Ideal S768 .f32) (ix1 k) := by blk_ext! [iblk, V, idx t]
theorem r12 (c : Dev nD) (t : Fin cfg0.N) : sc (iblk m c 12 t) =
    (m ((c : Thread nD τ).loc main_arg4) : Vec Ideal S1 .f32) (ix1 0) := by
  unfold sc View.ld
  blk_ext [iblk, V, idx t]
theorem r13 (c : Dev nD) (t : Fin cfg0.N) : sc (iblk m c 13 t) =
    (m ((c : Thread nD τ).loc main_arg3) : Vec Ideal S1 .f32) (ix1 0) := by
  unfold sc View.ld
  blk_ext [iblk, V, idx t]
theorem r14 (c : Dev nD) (t : Fin cfg0.N) : sc (iblk m c 14 t) =
    (m ((c : Thread nD τ).loc main_arg10) : Vec Ideal S1 .f32) (ix1 0) := by
  unfold sc View.ld
  blk_ext [iblk, V, idx t]
theorem r15 (c : Dev nD) (t : Fin cfg0.N) : sc (iblk m c 15 t) =
    (m ((c : Thread nD τ).loc main_arg9) : Vec Ideal S1 .f32) (ix1 0) := by
  unfold sc View.ld
  blk_ext [iblk, V, idx t]
theorem r16 (c : Dev nD) (t : Fin cfg0.N) : sc (iblk m c 16 t) =
    (m ((c : Thread nD τ).loc main_arg14) : Vec Ideal S1 .f32) (ix1 0) := by
  unfold sc View.ld
  blk_ext [iblk, V, idx t]
theorem r17 (c : Dev nD) (t : Fin cfg0.N) : sc (iblk m c 17 t) =
    (m ((c : Thread nD τ).loc main_arg13) : Vec Ideal S1 .f32) (ix1 0) := by
  unfold sc View.ld
  blk_ext [iblk, V, idx t]
theorem r1 (c : Dev nD) (t : Fin cfg0.N) (h : t.val < 50) (a b e) : tok (iblk m c 1 t : Vec Ideal S8x6x8x768 .fp8e4m3) a b e =
    ats m c ⟨t.val * 8 + a.val, by omega⟩ b e := by
  funext k
  unfold tok ats Spec.rowTok
  blk_ext! [iblk, V, idx t]
theorem r0 (c : Dev nD) (t : Fin cfg0.N) (h : t.val < 50) (a b e) : tok (iblk m c 0 t : Vec Ideal S8x6x8x768 .f32) a b e =
    xs m c ⟨t.val * 8 + a.val, by omega⟩ b e := by
  funext k
  unfold tok xs Spec.rowTok
  blk_ext! [iblk, V, idx t]

theorem B_eq (c : Dev nD) (t : Fin cfg0.N) : B m c t = P m c := by
  unfold B P half Spec.params
  congr 1
  · exact funext fun k => funext fun n => r2 m c t k n
  · exact r13 m c t
  · exact r12 m c t
  · exact funext fun k => r5 m c t k
  · exact funext fun k => r6 m c t k
  · exact funext fun k => r7 m c t k
  · exact funext fun k => funext fun n => r3 m c t k n
  · exact r15 m c t
  · exact r14 m c t
  · exact funext fun k => r8 m c t k
  · exact funext fun k => funext fun n => r4 m c t k n
  · exact r17 m c t
  · exact r16 m c t
  · exact funext fun k => r9 m c t k
  · exact funext fun k => r10 m c t k
  · exact funext fun k => r11 m c t k

section
variable (c : Dev nD) (h1 : (P m c).a1 ≠ 0) (h2 : (P m c).a2 ≠ 0)
include h1 h2

theorem h1t (t : Fin cfg0.N) : sc (iblk m c 14 t) ≠ 0 := (r14 m c t).trans_ne h1
theorem h2t (t : Fin cfg0.N) : sc (iblk m c 16 t) ≠ 0 := (r16 m c t).trans_ne h2

theorem final18 : (dats m 0 c).arrAt 18 cfg0.N = Spec.out (P m c) (xs m c) (ats m c) := by
  refine (dats m 0 c).arrAt_eq_of_covers 18 _ (by decide +kernel) fun t hf y => ?_
  have ht : t.val < 50 := t.isLt
  have hB := B_eq m c t
  unfold B at hB
  blk_simp
  rw [after0_18]
  unfold outsAt0
  dsimp only
  frame_out
  idx_vars y
  have e : ((View.whole main_v7_0).slice (win0_18.rect t)).emb (ix4 y0 y1 y2 y3) =
      (ix4 ⟨t.val * 8 + y0.val, by omega⟩ y1 y2 y3 : Shape.Idx ⟨4, ![400, 6, 8, 768]⟩) := by
    blk_ext [idx t]
  rw [e]
  refine (step18 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (sc (iblk m c 12 t)) (sc (iblk m c 13 t)) (sc (iblk m c 14 t))
    (sc (iblk m c 15 t)) (sc (iblk m c 16 t)) (sc (iblk m c 17 t)) (h1t m c h1 h2 t) (h2t m c h1 h2 t) _ _ _ _).trans ?_
  rw [hB, r0 m c t ht, r1 m c t ht]
  rfl

theorem final19 : (dats m 0 c).arrAt 19 cfg0.N = Spec.codes (P m c) (xs m c) (ats m c) := by
  refine (dats m 0 c).arrAt_eq_of_covers 19 _ (by decide +kernel) fun t hf y => ?_
  have ht : t.val < 50 := t.isLt
  have hB := B_eq m c t
  unfold B at hB
  blk_simp
  rw [after0_19]
  frame_out
  idx_vars y
  have e : ((View.whole main_v7_1).slice (win0_19.rect t)).emb (ix4 y0 y1 y2 y3) =
      (ix4 ⟨t.val * 8 + y0.val, by omega⟩ y1 y2 y3 : Shape.Idx ⟨4, ![400, 6, 8, 768]⟩) := by
    blk_ext [idx t]
  rw [e]
  refine (step19 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (sc (iblk m c 12 t)) (sc (iblk m c 13 t)) (sc (iblk m c 14 t))
    (sc (iblk m c 15 t)) (sc (iblk m c 16 t)) (sc (iblk m c 17 t)) (h1t m c h1 h2 t) _ _ _ _).trans ?_
  rw [hB, r0 m c t ht, r1 m c t ht]
  rfl

theorem final20 : (dats m 0 c).arrAt 20 cfg0.N = Spec.hidden (P m c) (xs m c) (ats m c) := by
  refine (dats m 0 c).arrAt_eq_of_covers 20 _ (by decide +kernel) fun t hf y => ?_
  have ht : t.val < 50 := t.isLt
  have hB := B_eq m c t
  unfold B at hB
  blk_simp
  rw [after0_20]
  frame_out
  idx_vars y
  have e : ((View.whole main_v7_2).slice (win0_20.rect t)).emb (ix4 y0 y1 y2 y3) =
      (ix4 ⟨t.val * 8 + y0.val, by omega⟩ y1 y2 y3 : Shape.Idx ⟨4, ![400, 6, 8, 3072]⟩) := by
    blk_ext [idx t]
  rw [e]
  refine (step20 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (sc (iblk m c 12 t)) (sc (iblk m c 13 t)) (sc (iblk m c 14 t))
    (sc (iblk m c 15 t)) (sc (iblk m c 16 t)) (sc (iblk m c 17 t)) (h1t m c h1 h2 t) (h2t m c h1 h2 t) _ _ _ _).trans ?_
  rw [hB, r0 m c t ht, r1 m c t ht]
  rfl

end

end Cert.MlpLastIdeal.Array

end
-- ==== Proof.MlpLastRef.lean ====
/-
  Hand-written. The reference of the second block's second half, row by row, and its result arrays as functions of its
  argument arrays.
-/
module

public import proofs.«01_k».proof.Proof.Gen.MlpLastRefIdeal.Value
public import proofs.«01_k».proof.Proof.Spec

@[expose] public section

set_option maxRecDepth 16384

noncomputable section

namespace Cert.MlpLastRefIdeal.Array

open Cert.MlpLastRefIdeal Cert.MlpLastRefIdeal.Gen Idealize.ShloMosaic Idealize.ShloMosaic.TcCoe Idealize.SL.Sem Cert.Rows

section Rows
variable (X : Vec Ideal S19200x768 .f32) (A : Vec Ideal S19200x768 .fp8e4m3) (wp : Vec Ideal S768x768 .fp8e4m3)
  (sp ap : Vec Ideal S1x1 .f32) (bp g1 c1 : Vec Ideal S1x768 .f32)
  (w1 : Vec Ideal S768x3072 .fp8e4m3) (s1 a1 : Vec Ideal S1x1 .f32) (b1 : Vec Ideal S1x3072 .f32)
  (w2 : Vec Ideal S3072x768 .fp8e4m3) (s2 a2 : Vec Ideal S1x1 .f32) (b2 g2 c2 : Vec Ideal S1x768 .f32)

/-- The parameters, as the mathematics has them, and a token's row. -/
def half : Half where
  wp := fun k n => wp (ix2 k n)
  sp := sp (ix2 0 0)
  ap := ap (ix2 0 0)
  bp := fun k => bp (ix2 0 k)
  g1 := fun k => g1 (ix2 0 k)
  c1 := fun k => c1 (ix2 0 k)
  w1 := fun k n => w1 (ix2 k n)
  s1 := s1 (ix2 0 0)
  a1 := a1 (ix2 0 0)
  b1 := fun k => b1 (ix2 0 k)
  w2 := fun k n => w2 (ix2 k n)
  s2 := s2 (ix2 0 0)
  a2 := a2 (ix2 0 0)
  b2 := fun k => b2 (ix2 0 k)
  g2 := fun k => g2 (ix2 0 k)
  c2 := fun k => c2 (ix2 0 k)
abbrev rowAt {e : EltTy} (v : Vec Ideal S19200x768 e) (r : Fin 19200) : Fin 768 → Elt Ideal e := fun k => v (ix2 r k)

theorem mid_row (r : Fin 19200) (k : Fin 768) :
    k0_pay17 (k0_pay2 X) (k0_pay3 A) wp (k0_pay4 sp) (k0_pay5 ap) (k0_pay6 bp) (k0_pay7 g1) (k0_pay8 c1) (ix2 r k) =
      (half wp sp ap bp g1 c1 w1 s1 a1 b1 w2 s2 a2 b2 g2 c2).mid (rowAt X r) (rowAt A r) k := by
  pointwise [k0_pay17, k0_pay2, k0_pay3, k0_pay4, k0_pay5, k0_pay6, k0_pay7, k0_pay8]
  rfl

theorem codes_row (r : Fin 19200) (k : Fin 768) :
    k0_pay18 (k0_pay2 X) (k0_pay3 A) wp (k0_pay4 sp) (k0_pay5 ap) (k0_pay6 bp) (k0_pay7 g1) (k0_pay8 c1) (k0_pay10 a1) (ix2 r k) =
      (half wp sp ap bp g1 c1 w1 s1 a1 b1 w2 s2 a2 b2 g2 c2).codes (rowAt X r) (rowAt A r) k := by
  show _ = code _ _
  rw [← mid_row]
  pointwise [k0_pay18, k0_pay10]
  rfl

theorem hidden_row (r : Fin 19200) (n : Fin 3072) :
    k0_pay21 (k0_pay13 a2) (k0_pay19 (k0_pay2 X) (k0_pay3 A) wp (k0_pay4 sp) (k0_pay5 ap) (k0_pay6 bp) (k0_pay7 g1) (k0_pay8 c1) w1 (k0_pay9 s1) (k0_pay10 a1) (k0_pay11 b1)) k0_pay20 (ix2 r n) =
      (half wp sp ap bp g1 c1 w1 s1 a1 b1 w2 s2 a2 b2 g2 c2).hidden (rowAt X r) (rowAt A r) n := by
  show _ = code (gelu (linear _ _ _ _ _ _)) _
  simp only [linear, ← codes_row]
  pointwise [k0_pay21, k0_pay20, k0_pay19, k0_pay9, k0_pay10, k0_pay11, k0_pay13]
  simp only [Ideal.erf_def]
  rfl

/-! The named intermediate values, over the whole arrays. -/

theorem e24 : k0_pay24 (F := Ideal) X A wp sp ap bp g1 c1 w1 s1 a1 b1 w2 s2 a2 b2 g2 c2 = k0_pay2 X := by
  simp (disch := decide) only [k0_pay24, View.ld_unit_lit]
theorem e25 : k0_pay25 (F := Ideal) X A wp sp ap bp g1 c1 w1 s1 a1 b1 w2 s2 a2 b2 g2 c2 = k0_pay3 A := by
  simp (disch := decide) only [k0_pay25, View.ld_unit_lit]
theorem e26 : k0_pay26 (F := Ideal) X A wp sp ap bp g1 c1 w1 s1 a1 b1 w2 s2 a2 b2 g2 c2 = k0_pay4 sp := by
  simp (disch := decide) only [k0_pay26, View.ld_unit_lit]
theorem e27 : k0_pay27 (F := Ideal) X A wp sp ap bp g1 c1 w1 s1 a1 b1 w2 s2 a2 b2 g2 c2 = k0_pay5 ap := by
  simp (disch := decide) only [k0_pay27, View.ld_unit_lit]
theorem e28 : k0_pay28 (F := Ideal) X A wp sp ap bp g1 c1 w1 s1 a1 b1 w2 s2 a2 b2 g2 c2 = k0_pay6 bp := by
  simp (disch := decide) only [k0_pay28, View.ld_unit_lit]
theorem e29 : k0_pay29 (F := Ideal) X A wp sp ap bp g1 c1 w1 s1 a1 b1 w2 s2 a2 b2 g2 c2 = k0_pay7 g1 := by
  simp (disch := decide) only [k0_pay29, View.ld_unit_lit]
theorem e30 : k0_pay30 (F := Ideal) X A wp sp ap bp g1 c1 w1 s1 a1 b1 w2 s2 a2 b2 g2 c2 = k0_pay8 c1 := by
  simp (disch := decide) only [k0_pay30, View.ld_unit_lit]
theorem e31 : k0_pay31 (F := Ideal) X A wp sp ap bp g1 c1 w1 s1 a1 b1 w2 s2 a2 b2 g2 c2 = k0_pay10 a1 := by
  simp (disch := decide) only [k0_pay31, View.ld_unit_lit]
theorem e32 : k0_pay32 (F := Ideal) X A wp sp ap bp g1 c1 w1 s1 a1 b1 w2 s2 a2 b2 g2 c2 = k0_pay13 a2 := by
  simp (disch := decide) only [k0_pay32, View.ld_unit_lit]
theorem e33 : k0_pay33 (F := Ideal) X A wp sp ap bp g1 c1 w1 s1 a1 b1 w2 s2 a2 b2 g2 c2 = k0_pay19 (k0_pay2 X) (k0_pay3 A) wp (k0_pay4 sp) (k0_pay5 ap) (k0_pay6 bp) (k0_pay7 g1) (k0_pay8 c1) w1 (k0_pay9 s1) (k0_pay10 a1) (k0_pay11 b1) := by
  simp (disch := decide) only [k0_pay33, View.ld_unit_lit, e24, e25, e26, e27, e28, e29, e30, e31]
theorem e34 : k0_pay34 (F := Ideal) X A wp sp ap bp g1 c1 w1 s1 a1 b1 w2 s2 a2 b2 g2 c2 = k0_pay20 := by
  simp (disch := decide) only [k0_pay34]

/-! What the three outputs hold. -/

theorem step18 (a : Fin 400) (b : Fin 6) (e : Fin 8) (k : Fin 768) :
    k0_pay22 w2 (k0_pay12 s2) (k0_pay13 a2) (k0_pay14 b2) (k0_pay15 g2) (k0_pay16 c2) (k0_pay17 (k0_pay2 X) (k0_pay3 A) wp (k0_pay4 sp) (k0_pay5 ap) (k0_pay6 bp) (k0_pay7 g1) (k0_pay8 c1))
        (k0_pay19 (k0_pay2 X) (k0_pay3 A) wp (k0_pay4 sp) (k0_pay5 ap) (k0_pay6 bp) (k0_pay7 g1) (k0_pay8 c1) w1 (k0_pay9 s1) (k0_pay10 a1) (k0_pay11 b1)) k0_pay20 (ix4 a b e k) =
      (half wp sp ap bp g1 c1 w1 s1 a1 b1 w2 s2 a2 b2 g2 c2).out (rowAt X ⟨a.val * 48 + b.val * 8 + e.val, by omega⟩) (rowAt A ⟨a.val * 48 + b.val * 8 + e.val, by omega⟩) k := by
  show _ = Half.mid _ _ _ _ + layerNorm (linear _ _ _ _ _) _ _ _
  generalize hr : (⟨a.val * 48 + b.val * 8 + e.val, by omega⟩ : Fin 19200) = r
  rw [← mid_row]
  rw [show Half.hidden (half wp sp ap bp g1 c1 w1 s1 a1 b1 w2 s2 a2 b2 g2 c2) (rowAt X r) (rowAt A r) = fun n => k0_pay21 (k0_pay13 a2) (k0_pay19 (k0_pay2 X) (k0_pay3 A) wp (k0_pay4 sp) (k0_pay5 ap) (k0_pay6 bp) (k0_pay7 g1) (k0_pay8 c1) w1 (k0_pay9 s1) (k0_pay10 a1) (k0_pay11 b1)) k0_pay20 (ix2 r n)
    from funext fun n => (hidden_row X A wp sp ap bp g1 c1 w1 s1 a1 b1 w2 s2 a2 b2 g2 c2 r n).symm]
  subst hr
  pointwise [k0_pay22, k0_pay12, k0_pay13, k0_pay14, k0_pay15, k0_pay16]
  rfl

theorem step19 (a : Fin 400) (b : Fin 6) (e : Fin 8) (k : Fin 768) :
    k0_pay23 (k0_pay18 (k0_pay2 X) (k0_pay3 A) wp (k0_pay4 sp) (k0_pay5 ap) (k0_pay6 bp) (k0_pay7 g1) (k0_pay8 c1) (k0_pay10 a1)) (ix4 a b e k) =
      (half wp sp ap bp g1 c1 w1 s1 a1 b1 w2 s2 a2 b2 g2 c2).codes (rowAt X ⟨a.val * 48 + b.val * 8 + e.val, by omega⟩) (rowAt A ⟨a.val * 48 + b.val * 8 + e.val, by omega⟩) k := by
  rw [← codes_row]
  pointwise [k0_pay23]

theorem step20 (a : Fin 400) (b : Fin 6) (e : Fin 8) (n : Fin 3072) :
    k0_pay1 (k0_pay21 (k0_pay13 a2) (k0_pay19 (k0_pay2 X) (k0_pay3 A) wp (k0_pay4 sp) (k0_pay5 ap) (k0_pay6 bp) (k0_pay7 g1) (k0_pay8 c1) w1 (k0_pay9 s1) (k0_pay10 a1) (k0_pay11 b1)) k0_pay20) (ix4 a b e n) =
      (half wp sp ap bp g1 c1 w1 s1 a1 b1 w2 s2 a2 b2 g2 c2).hidden (rowAt X ⟨a.val * 48 + b.val * 8 + e.val, by omega⟩) (rowAt A ⟨a.val * 48 + b.val * 8 + e.val, by omega⟩) n := by
  rw [← hidden_row]
  pointwise [k0_pay1]
end Rows

section Arrays
variable (m : (ℓ : Loc nD τ sig) → Buf (Elt Ideal) ℓ)

/-- The parameters and the token rows, from the launched memory. -/
def P (c : Dev nD) : Half :=
  Spec.params (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17))
def xs (c : Dev nD) := Spec.rowTok (m ((c : Thread nD τ).loc main_arg0))
def ats (c : Dev nD) := Spec.rowTok (m ((c : Thread nD τ).loc main_arg1))

/-- The one grid step's windows are the whole arrays. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧
    win0_18.index t = ![0, 0, 0, 0] ∧ win0_19.index t = ![0, 0, 0, 0] ∧ win0_20.index t = ![0, 0, 0, 0] := by decide +kernel

/-! What each window reads. -/

theorem r2 (c : Dev nD) (t : Fin cfg0.N) (k n) : (iblk m c 2 t : Vec Ideal S768x768 .fp8e4m3) (ix2 k n) =
    (m ((c : Thread nD τ).loc main_arg2) : Vec Ideal S768x768 .fp8e4m3) (ix2 k n) := by blk_ext! [iblk, V, idx t]
theorem r8 (c : Dev nD) (t : Fin cfg0.N) (k n) : (iblk m c 8 t : Vec Ideal S768x3072 .fp8e4m3) (ix2 k n) =
    (m ((c : Thread nD τ).loc main_arg8) : Vec Ideal S768x3072 .fp8e4m3) (ix2 k n) := by blk_ext! [iblk, V, idx t]
theorem r12 (c : Dev nD) (t : Fin cfg0.N) (k n) : (iblk m c 12 t : Vec Ideal S3072x768 .fp8e4m3) (ix2 k n) =
    (m ((c : Thread nD τ).loc main_arg12) : Vec Ideal S3072x768 .fp8e4m3) (ix2 k n) := by blk_ext! [iblk, V, idx t]
theorem r5 (c : Dev nD) (t : Fin cfg0.N) (k) : (iblk m c 5 t : Vec Ideal S1x768 .f32) (ix2 0 k) =
    (m ((c : Thread nD τ).loc main_arg5) : Vec Ideal S768 .f32) (ix1 k) := by blk_ext! [iblk, V, idx t]
theorem r6 (c : Dev nD) (t : Fin cfg0.N) (k) : (iblk m c 6 t : Vec Ideal S1x768 .f32) (ix2 0 k) =
    (m ((c : Thread nD τ).loc main_arg6) : Vec Ideal S768 .f32) (ix1 k) := by blk_ext! [iblk, V, idx t]
theorem r7 (c : Dev nD) (t : Fin cfg0.N) (k) : (iblk m c 7 t : Vec Ideal S1x768 .f32) (ix2 0 k) =
    (m ((c : Thread nD τ).loc main_arg7) : Vec Ideal S768 .f32) (ix1 k) := by blk_ext! [iblk, V, idx t]
theorem r11 (c : Dev nD) (t : Fin cfg0.N) (k) : (iblk m c 11 t : Vec Ideal S1x3072 .f32) (ix2 0 k) =
    (m ((c : Thread nD τ).loc main_arg11) : Vec Ideal S3072 .f32) (ix1 k) := by blk_ext! [iblk, V, idx t]
theorem r15 (c : Dev nD) (t : Fin cfg0.N) (k) : (iblk m c 15 t : Vec Ideal S1x768 .f32) (ix2 0 k) =
    (m ((c : Thread nD τ).loc main_arg15) : Vec Ideal S768 .f32) (ix1 k) := by blk_ext! [iblk, V, idx t]
theorem r16 (c : Dev nD) (t : Fin cfg0.N) (k) : (iblk m c 16 t : Vec Ideal S1x768 .f32) (ix2 0 k) =
    (m ((c : Thread nD τ).loc main_arg16) : Vec Ideal S768 .f32) (ix1 k) := by blk_ext! [iblk, V, idx t]
theorem r17 (c : Dev nD) (t : Fin cfg0.N) (k) : (iblk m c 17 t : Vec Ideal S1x768 .f32) (ix2 0 k) =
    (m ((c : Thread nD τ).loc main_arg17) : Vec Ideal S768 .f32) (ix1 k) := by blk_ext! [iblk, V, idx t]
theorem r3 (c : Dev nD) (t : Fin cfg0.N) : (iblk m c 3 t : Vec Ideal S1x1 .f32) (ix2 0 0) =
    (m ((c : Thread nD τ).loc main_arg3) : Vec Ideal S1 .f32) (ix1 0) := by blk_ext! [iblk, V, idx t]
theorem r4 (c : Dev nD) (t : Fin cfg0.N) : (iblk m c 4 t : Vec Ideal S1x1 .f32) (ix2 0 0) =
    (m ((c : Thread nD τ).loc main_arg4) : Vec Ideal S1 .f32) (ix1 0) := by blk_ext! [iblk, V, idx t]
theorem r9 (c : Dev nD) (t : Fin cfg0.N) : (iblk m c 9 t : Vec Ideal S1x1 .f32) (ix2 0 0) =
    (m ((c : Thread nD τ).loc main_arg9) : Vec Ideal S1 .f32) (ix1 0) := by blk_ext! [iblk, V, idx t]
theorem r10 (c : Dev nD) (t : Fin cfg0.N) : (iblk m c 10 t : Vec Ideal S1x1 .f32) (ix2 0 0) =
    (m ((c : Thread nD τ).loc main_arg10) : Vec Ideal S1 .f32) (ix1 0) := by blk_ext! [iblk, V, idx t]
theorem r13 (c : Dev nD) (t : Fin cfg0.N) : (iblk m c 13 t : Vec Ideal S1x1 .f32) (ix2 0 0) =
    (m ((c : Thread nD τ).loc main_arg13) : Vec Ideal S1 .f32) (ix1 0) := by blk_ext! [iblk, V, idx t]
theorem r14 (c : Dev nD) (t : Fin cfg0.N) : (iblk m c 14 t : Vec Ideal S1x1 .f32) (ix2 0 0) =
    (m ((c : Thread nD τ).loc main_arg14) : Vec Ideal S1 .f32) (ix1 0) := by blk_ext! [iblk, V, idx t]
theorem r0 (c : Dev nD) (t : Fin cfg0.N) (a : Fin 400) (b : Fin 6) (e : Fin 8) :
    rowAt (iblk m c 0 t : Vec Ideal S19200x768 .f32) ⟨a.val * 48 + b.val * 8 + e.val, by omega⟩ = xs m c a b e := by
  funext k
  unfold rowAt xs Spec.rowTok
  have he : ((View.whole main_v13).slice (win0_0.rect t)).emb (ix2 (⟨a.val * 48 + b.val * 8 + e.val, by omega⟩ : Fin 19200) k) =
      (ix2 ⟨a.val * 48 + b.val * 8 + e.val, by omega⟩ k : S19200x768.Idx) := by
    generalize (⟨a.val * 48 + b.val * 8 + e.val, by omega⟩ : Fin 19200) = r
    blk_ext [idx t]
  blk_simp [iblk, V, idx t]
  entry_read
  rw [he]
  pointwise
theorem r1 (c : Dev nD) (t : Fin cfg0.N) (a : Fin 400) (b : Fin 6) (e : Fin 8) :
    rowAt (iblk m c 1 t : Vec Ideal S19200x768 .fp8e4m3) ⟨a.val * 48 + b.val * 8 + e.val, by omega⟩ = ats m c a b e := by
  funext k
  unfold rowAt ats Spec.rowTok
  have he : ((View.whole main_v14).slice (win0_1.rect t)).emb (ix2 (⟨a.val * 48 + b.val * 8 + e.val, by omega⟩ : Fin 19200) k) =
      (ix2 ⟨a.val * 48 + b.val * 8 + e.val, by omega⟩ k : S19200x768.Idx) := by
    generalize (⟨a.val * 48 + b.val * 8 + e.val, by omega⟩ : Fin 19200) = r
    blk_ext [idx t]
  blk_simp [iblk, V, idx t]
  entry_read
  rw [he]
  pointwise

theorem B_eq (c : Dev nD) (t : Fin cfg0.N) :
    half (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = P m c := by
  unfold P half Spec.params
  congr 1
  · exact funext fun k => funext fun n => r2 m c t k n
  · exact r3 m c t
  · exact r4 m c t
  · exact funext fun k => r5 m c t k
  · exact funext fun k => r6 m c t k
  · exact funext fun k => r7 m c t k
  · exact funext fun k => funext fun n => r8 m c t k n
  · exact r9 m c t
  · exact r10 m c t
  · exact funext fun k => r11 m c t k
  · exact funext fun k => funext fun n => r12 m c t k n
  · exact r13 m c t
  · exact r14 m c t
  · exact funext fun k => r15 m c t k
  · exact funext fun k => r16 m c t k
  · exact funext fun k => r17 m c t k

theorem final18 (c : Dev nD) : (dats m 0 c).arrAt 18 cfg0.N = Spec.out (P m c) (xs m c) (ats m c) := by
  refine (dats m 0 c).arrAt_eq_of_covers 18 _ (by decide +kernel) fun t hf y => ?_
  blk_simp
  rw [after0_18]
  frame_out
  simp only [e24, e25, e26, e27, e28, e29, e30, e31, e32, e33, e34]
  idx_vars y
  have e : ((View.whole main_v15_0).slice (win0_18.rect t)).emb (ix4 y0 y1 y2 y3) =
      (ix4 y0 y1 y2 y3 : Shape.Idx ⟨4, ![400, 6, 8, 768]⟩) := by
    blk_ext [idx t]
  rw [e]
  refine (step18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _ _ _).trans ?_
  rw [B_eq, r0 m c t, r1 m c t]
  rfl

theorem final19 (c : Dev nD) : (dats m 0 c).arrAt 19 cfg0.N = Spec.codes (P m c) (xs m c) (ats m c) := by
  refine (dats m 0 c).arrAt_eq_of_covers 19 _ (by decide +kernel) fun t hf y => ?_
  blk_simp
  rw [after0_19]
  frame_out
  simp only [e24, e25, e26, e27, e28, e29, e30, e31, e32, e33, e34]
  idx_vars y
  have e : ((View.whole main_v15_1).slice (win0_19.rect t)).emb (ix4 y0 y1 y2 y3) =
      (ix4 y0 y1 y2 y3 : Shape.Idx ⟨4, ![400, 6, 8, 768]⟩) := by
    blk_ext [idx t]
  rw [e]
  refine (step19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _ _ _).trans ?_
  rw [B_eq, r0 m c t, r1 m c t]
  rfl

theorem final20 (c : Dev nD) : (dats m 0 c).arrAt 20 cfg0.N = Spec.hidden (P m c) (xs m c) (ats m c) := by
  refine (dats m 0 c).arrAt_eq_of_covers 20 _ (by decide +kernel) fun t hf y => ?_
  blk_simp
  rw [after0_20]
  frame_out
  simp only [e24, e25, e26, e27, e28, e29, e30, e31, e32, e33, e34]
  idx_vars y
  have e : ((View.whole main_v15_2).slice (win0_20.rect t)).emb (ix4 y0 y1 y2 y3) =
      (ix4 y0 y1 y2 y3 : Shape.Idx ⟨4, ![400, 6, 8, 3072]⟩) := by
    blk_ext [idx t]
  rw [e]
  refine (step20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _ _ _).trans ?_
  rw [B_eq, r0 m c t, r1 m c t]
  rfl

end Arrays

end Cert.MlpLastRefIdeal.Array

end
-- ==== Proof.MlpLastEqual.lean ====
/-
  Hand-written. The second block's kernel and its reference compute the same arrays: both are the same functions of the
  parameters and the token rows, and the two launches have the same arguments.
-/
module

public import proofs.«01_k».proof.Defs
public import proofs.«01_k».proof.Proof.MlpLastArray
public import proofs.«01_k».proof.Proof.MlpLastRef
public import proofs.«01_k».proof.Proof.Gen.MlpLastIdeal.Value
public import proofs.«01_k».proof.Proof.Gen.MlpLastRefIdeal.Value
public import proofs.«01_k».proof.Proof.Gen.Pre_scales_2

@[expose] public section

set_option maxRecDepth 16384

noncomputable section

namespace Cert.MlpLastIdeal.Equal

open Idealize.ShloMosaic Idealize.ShloMosaic.TcCoe Idealize.SL.Sem Cert.Rows

/-- The precondition says that the scales which the kernel inverts are not zero. -/
theorem scales (m : (ℓ : Loc Cert.MlpLastIdeal.nD Cert.MlpLastIdeal.τ Cert.MlpLastIdeal.sig) → Buf (Elt Ideal) ℓ)
    (h : Cert.Pre_MlpLastIdeal_scales_2 (hPre_scales_2 := Cert.Pre_scales_2.Gen.facts) m) (c : Dev Cert.MlpLastIdeal.nD) :
    (Cert.MlpLastIdeal.Array.P m c).a1 ≠ 0 ∧ (Cert.MlpLastIdeal.Array.P m c).a2 ≠ 0 := by
  have := congrFun (h c) (ix1 0)
  pointwise [Cert.Pre_scales_2.fn] at this
  have split : ∀ a b : BitVec 1, a &&& b = 1#1 → a = 1#1 ∧ b = 1#1 := by decide
  obtain ⟨h1, h2⟩ := split _ _ this
  exact ⟨ne_of_une _ h1, ne_of_une _ h2⟩

/-- Launches with the same arguments have the same parameters and the same rows of tokens. -/
theorem agree (m : (ℓ : Loc Cert.MlpLastIdeal.nD Cert.MlpLastIdeal.τ Cert.MlpLastIdeal.sig) → Buf (Elt Ideal) ℓ)
    (m' : (ℓ : Loc Cert.MlpLastRefIdeal.nD Cert.MlpLastRefIdeal.τ Cert.MlpLastRefIdeal.sig) → Buf (Elt Ideal) ℓ) (c : Dev Cert.MlpLastIdeal.nD)
    (h : m' ((c : Thread Cert.MlpLastRefIdeal.nD Cert.MlpLastRefIdeal.τ).loc Cert.MlpLastRefIdeal.main_arg0) = m ((c : Thread Cert.MlpLastIdeal.nD Cert.MlpLastIdeal.τ).loc Cert.MlpLastIdeal.main_arg0) ∧
      m' ((c : Thread Cert.MlpLastRefIdeal.nD Cert.MlpLastRefIdeal.τ).loc Cert.MlpLastRefIdeal.main_arg1) = m ((c : Thread Cert.MlpLastIdeal.nD Cert.MlpLastIdeal.τ).loc Cert.MlpLastIdeal.main_arg1) ∧
      m' ((c : Thread Cert.MlpLastRefIdeal.nD Cert.MlpLastRefIdeal.τ).loc Cert.MlpLastRefIdeal.main_arg2) = m ((c : Thread Cert.MlpLastIdeal.nD Cert.MlpLastIdeal.τ).loc Cert.MlpLastIdeal.main_arg2) ∧
      m' ((c : Thread Cert.MlpLastRefIdeal.nD Cert.MlpLastRefIdeal.τ).loc Cert.MlpLastRefIdeal.main_arg3) = m ((c : Thread Cert.MlpLastIdeal.nD Cert.MlpLastIdeal.τ).loc Cert.MlpLastIdeal.main_arg3) ∧
      m' ((c : Thread Cert.MlpLastRefIdeal.nD Cert.MlpLastRefIdeal.τ).loc Cert.MlpLastRefIdeal.main_arg4) = m ((c : Thread Cert.MlpLastIdeal.nD Cert.MlpLastIdeal.τ).loc Cert.MlpLastIdeal.main_arg4) ∧
      m' ((c : Thread Cert.MlpLastRefIdeal.nD Cert.MlpLastRefIdeal.τ).loc Cert.MlpLastRefIdeal.main_arg5) = m ((c : Thread Cert.MlpLastIdeal.nD Cert.MlpLastIdeal.τ).loc Cert.MlpLastIdeal.main_arg5) ∧
      m' ((c : Thread Cert.MlpLastRefIdeal.nD Cert.MlpLastRefIdeal.τ).loc Cert.MlpLastRefIdeal.main_arg6) = m ((c : Thread Cert.MlpLastIdeal.nD Cert.MlpLastIdeal.τ).loc Cert.MlpLastIdeal.main_arg6) ∧
      m' ((c : Thread Cert.MlpLastRefIdeal.nD Cert.MlpLastRefIdeal.τ).loc Cert.MlpLastRefIdeal.main_arg7) = m ((c : Thread Cert.MlpLastIdeal.nD Cert.MlpLastIdeal.τ).loc Cert.MlpLastIdeal.main_arg7) ∧
      m' ((c : Thread Cert.MlpLastRefIdeal.nD Cert.MlpLastRefIdeal.τ).loc Cert.MlpLastRefIdeal.main_arg8) = m ((c : Thread Cert.MlpLastIdeal.nD Cert.MlpLastIdeal.τ).loc Cert.MlpLastIdeal.main_arg8) ∧
      m' ((c : Thread Cert.MlpLastRefIdeal.nD Cert.MlpLastRefIdeal.τ).loc Cert.MlpLastRefIdeal.main_arg9) = m ((c : Thread Cert.MlpLastIdeal.nD Cert.MlpLastIdeal.τ).loc Cert.MlpLastIdeal.main_arg9) ∧
      m' ((c : Thread Cert.MlpLastRefIdeal.nD Cert.MlpLastRefIdeal.τ).loc Cert.MlpLastRefIdeal.main_arg10) = m ((c : Thread Cert.MlpLastIdeal.nD Cert.MlpLastIdeal.τ).loc Cert.MlpLastIdeal.main_arg10) ∧
      m' ((c : Thread Cert.MlpLastRefIdeal.nD Cert.MlpLastRefIdeal.τ).loc Cert.MlpLastRefIdeal.main_arg11) = m ((c : Thread Cert.MlpLastIdeal.nD Cert.MlpLastIdeal.τ).loc Cert.MlpLastIdeal.main_arg11) ∧
      m' ((c : Thread Cert.MlpLastRefIdeal.nD Cert.MlpLastRefIdeal.τ).loc Cert.MlpLastRefIdeal.main_arg12) = m ((c : Thread Cert.MlpLastIdeal.nD Cert.MlpLastIdeal.τ).loc Cert.MlpLastIdeal.main_arg12) ∧
      m' ((c : Thread Cert.MlpLastRefIdeal.nD Cert.MlpLastRefIdeal.τ).loc Cert.MlpLastRefIdeal.main_arg13) = m ((c : Thread Cert.MlpLastIdeal.nD Cert.MlpLastIdeal.τ).loc Cert.MlpLastIdeal.main_arg13) ∧
      m' ((c : Thread Cert.MlpLastRefIdeal.nD Cert.MlpLastRefIdeal.τ).loc Cert.MlpLastRefIdeal.main_arg14) = m ((c : Thread Cert.MlpLastIdeal.nD Cert.MlpLastIdeal.τ).loc Cert.MlpLastIdeal.main_arg14) ∧
      m' ((c : Thread Cert.MlpLastRefIdeal.nD Cert.MlpLastRefIdeal.τ).loc Cert.MlpLastRefIdeal.main_arg15) = m ((c : Thread Cert.MlpLastIdeal.nD Cert.MlpLastIdeal.τ).loc Cert.MlpLastIdeal.main_arg15) ∧
      m' ((c : Thread Cert.MlpLastRefIdeal.nD Cert.MlpLastRefIdeal.τ).loc Cert.MlpLastRefIdeal.main_arg16) = m ((c : Thread Cert.MlpLastIdeal.nD Cert.MlpLastIdeal.τ).loc Cert.MlpLastIdeal.main_arg16) ∧
      m' ((c : Thread Cert.MlpLastRefIdeal.nD Cert.MlpLastRefIdeal.τ).loc Cert.MlpLastRefIdeal.main_arg17) = m ((c : Thread Cert.MlpLastIdeal.nD Cert.MlpLastIdeal.τ).loc Cert.MlpLastIdeal.main_arg17)) :
    Cert.MlpLastRefIdeal.Array.P m' c = Cert.MlpLastIdeal.Array.P m c ∧ Cert.MlpLastRefIdeal.Array.xs m' c = Cert.MlpLastIdeal.Array.xs m c ∧
      Cert.MlpLastRefIdeal.Array.ats m' c = Cert.MlpLastIdeal.Array.ats m c := by
  obtain ⟨e0, e1, e2, e3, e4, e5, e6, e7, e8, e9, e10, e11, e12, e13, e14, e15, e16, e17⟩ := h
  refine ⟨?_, ?_, ?_⟩
  · unfold Cert.MlpLastRefIdeal.Array.P Cert.MlpLastIdeal.Array.P
    rw [e2, e3, e4, e5, e6, e7, e8, e9, e10, e11, e12, e13, e14, e15, e16, e17]
  · unfold Cert.MlpLastRefIdeal.Array.xs Cert.MlpLastIdeal.Array.xs
    rw [e0]
  · unfold Cert.MlpLastRefIdeal.Array.ats Cert.MlpLastIdeal.Array.ats
    rw [e1]

/-- The kernel and the reference run, end with the same results, and leave their arguments as they were. -/
theorem algebraic : Cert.algebraic_MlpLastIdeal_MlpLastRefIdeal_pre_scales_2 (hMlpLastIdeal := Cert.MlpLastIdeal.Gen.facts) (hMlpLastRefIdeal := Cert.MlpLastRefIdeal.Gen.facts)
    (hPre_scales_2 := Cert.Pre_scales_2.Gen.facts) := by
  intro m ρ m' ρ' hpre hag
  refine ⟨fun c => Spec.out (Cert.MlpLastIdeal.Array.P m c) (Cert.MlpLastIdeal.Array.xs m c) (Cert.MlpLastIdeal.Array.ats m c), fun c => Spec.codes (Cert.MlpLastIdeal.Array.P m c) (Cert.MlpLastIdeal.Array.xs m c) (Cert.MlpLastIdeal.Array.ats m c), fun c => Spec.hidden (Cert.MlpLastIdeal.Array.P m c) (Cert.MlpLastIdeal.Array.xs m c) (Cert.MlpLastIdeal.Array.ats m c), ?_, ?_⟩
  · refine (θ_run _ _ _).mono (fun r hr c => ?_) (Cert.MlpLastIdeal.Value.run_blocks m ρ)
    obtain ⟨h1, h2⟩ := scales m hpre c
    obtain ⟨o0, o1, o2, rest⟩ := hr c
    exact ⟨o0.trans (Cert.MlpLastIdeal.Array.final18 m c h1 h2), o1.trans (Cert.MlpLastIdeal.Array.final19 m c h1 h2), o2.trans (Cert.MlpLastIdeal.Array.final20 m c h1 h2), rest⟩
  · refine (θ_run _ _ _).mono (fun r hr c => ?_) (Cert.MlpLastRefIdeal.Value.run_blocks m' ρ')
    obtain ⟨eP, ex, ea⟩ := agree m m' c (hag c)
    obtain ⟨o0, o1, o2, rest⟩ := hr c
    beta_reduce
    rw [← eP, ← ex, ← ea]
    exact ⟨o0.trans (Cert.MlpLastRefIdeal.Array.final18 m' c), o1.trans (Cert.MlpLastRefIdeal.Array.final19 m' c), o2.trans (Cert.MlpLastRefIdeal.Array.final20 m' c), rest⟩

end Cert.MlpLastIdeal.Equal

end
-- ==== Proof.AttnOff.lean ====
/- The attention call addresses one row of one window by a chain of 32-bit words: the window's number is `4 t + digits`, the
   image, the strip and the column of windows are its quotients and remainders by 30 and by 6. This module states each of
   the seven chains as plain natural arithmetic, for every trip and all digits at once. -/
module

public import proofs.«01_k».proof.AttnIdeal.P01
public import Idealize.ShloMosaic.Lib.Exec

@[expose] public section

set_option maxRecDepth 8192

noncomputable section

namespace Cert.AttnIdeal.Off

open Cert.AttnIdeal
open Idealize.ShloMosaic

/-- The 32-bit word `w` is the number `n`, and `n` is below `B`. -/
class Digit (B : ℕ) (w : BitVec 32) (n : outParam ℕ) : Prop where
  /-- the word is that number -/
  eq : w = BitVec.ofNat 32 n
  /-- and it is below the bound -/
  lt : n < B

instance (B : ℕ) : Digit (B + 1) 0#32 0 := ⟨rfl, by omega⟩
instance (B : ℕ) : Digit (B + 2) 1#32 1 := ⟨rfl, by omega⟩
instance (B : ℕ) : Digit (B + 3) 2#32 2 := ⟨rfl, by omega⟩
instance (B : ℕ) : Digit (B + 4) 3#32 3 := ⟨rfl, by omega⟩
instance (B : ℕ) : Digit (B + 5) 4#32 4 := ⟨rfl, by omega⟩
instance (B : ℕ) : Digit (B + 6) 5#32 5 := ⟨rfl, by omega⟩
instance (B : ℕ) : Digit (B + 7) 6#32 6 := ⟨rfl, by omega⟩
instance (B : ℕ) : Digit (B + 8) 7#32 7 := ⟨rfl, by omega⟩

theorem off1_eq : ∀ (t : Fin k0_t1_loop.trips) (a : Fin 4) (r : Fin 8),
    k0_off1 t (BitVec.ofNat 32 a.val) (BitVec.ofNat 32 r.val)
      = ![40 * ((4 * t.val + a.val) / 30) + 8 * (((4 * t.val + a.val) % 30) / 6) + r.val, ((4 * t.val + a.val) % 30) % 6, 0, 0] := by
  decide +kernel

instance closed1 (t : Fin k0_t1_loop.trips) (a r : BitVec 32) (m n : ℕ) [ha : Digit 4 a m] [hr : Digit 8 r n] :
    ClosedOff (k0_off1 t a r) :=
  ⟨![40 * ((4 * t.val + m) / 30) + 8 * (((4 * t.val + m) % 30) / 6) + n, ((4 * t.val + m) % 30) % 6, 0, 0], by
    rw [ha.eq, hr.eq]; exact off1_eq t ⟨m, ha.lt⟩ ⟨n, hr.lt⟩⟩

theorem off2_eq : ∀ (t : Fin k0_t1_loop.trips) (p : Fin 3) (b : Fin 2) (r : Fin 8),
    k0_off2 t (BitVec.ofNat 32 p.val) (BitVec.ofNat 32 b.val) (BitVec.ofNat 32 r.val)
      = ![40 * ((4 * t.val + p.val + b.val) / 30) + 8 * (((4 * t.val + p.val + b.val) % 30) / 6) + r.val,
          ((4 * t.val + p.val + b.val) % 30) % 6, 0, 0] := by
  decide +kernel

instance closed2 (t : Fin k0_t1_loop.trips) (p b r : BitVec 32) (l m n : ℕ) [hp : Digit 3 p l] [hb : Digit 2 b m] [hr : Digit 8 r n] :
    ClosedOff (k0_off2 t p b r) :=
  ⟨![40 * ((4 * t.val + l + m) / 30) + 8 * (((4 * t.val + l + m) % 30) / 6) + n, ((4 * t.val + l + m) % 30) % 6, 0, 0], by
    rw [hp.eq, hb.eq, hr.eq]; exact off2_eq t ⟨l, hp.lt⟩ ⟨m, hb.lt⟩ ⟨n, hr.lt⟩⟩

theorem off3_eq : ∀ (t : Fin k0_t1_loop.trips) (p : Fin 3) (b : Fin 2) (r : Fin 8),
    k0_off3 t (BitVec.ofNat 32 p.val) (BitVec.ofNat 32 b.val) (BitVec.ofNat 32 r.val)
      = ![40 * ((4 * t.val + p.val + b.val) / 30) + 8 * (((4 * t.val + p.val + b.val) % 30) / 6) + r.val,
          ((4 * t.val + p.val + b.val) % 30) % 6, 0, 128] := by
  decide +kernel

instance closed3 (t : Fin k0_t1_loop.trips) (p b r : BitVec 32) (l m n : ℕ) [hp : Digit 3 p l] [hb : Digit 2 b m] [hr : Digit 8 r n] :
    ClosedOff (k0_off3 t p b r) :=
  ⟨![40 * ((4 * t.val + l + m) / 30) + 8 * (((4 * t.val + l + m) % 30) / 6) + n, ((4 * t.val + l + m) % 30) % 6, 0, 128], by
    rw [hp.eq, hb.eq, hr.eq]; exact off3_eq t ⟨l, hp.lt⟩ ⟨m, hb.lt⟩ ⟨n, hr.lt⟩⟩

theorem off4_eq : ∀ (t : Fin k0_t1_loop.trips) (p : Fin 3) (b : Fin 2) (r : Fin 8),
    k0_off4 t (BitVec.ofNat 32 p.val) (BitVec.ofNat 32 b.val) (BitVec.ofNat 32 r.val)
      = ![40 * ((4 * t.val + p.val + b.val) / 30) + 8 * (((4 * t.val + p.val + b.val) % 30) / 6) + r.val,
          ((4 * t.val + p.val + b.val) % 30) % 6, 0, 256] := by
  decide +kernel

instance closed4 (t : Fin k0_t1_loop.trips) (p b r : BitVec 32) (l m n : ℕ) [hp : Digit 3 p l] [hb : Digit 2 b m] [hr : Digit 8 r n] :
    ClosedOff (k0_off4 t p b r) :=
  ⟨![40 * ((4 * t.val + l + m) / 30) + 8 * (((4 * t.val + l + m) % 30) / 6) + n, ((4 * t.val + l + m) % 30) % 6, 0, 256], by
    rw [hp.eq, hb.eq, hr.eq]; exact off4_eq t ⟨l, hp.lt⟩ ⟨m, hb.lt⟩ ⟨n, hr.lt⟩⟩

theorem off5_eq : ∀ (t : Fin k0_t1_loop.trips) (p : Fin 3) (b : Fin 2) (r : Fin 8),
    k0_off5 t (BitVec.ofNat 32 p.val) (BitVec.ofNat 32 b.val) (BitVec.ofNat 32 r.val)
      = ![40 * ((4 * t.val + p.val + b.val) / 30) + 8 * (((4 * t.val + p.val + b.val) % 30) / 6) + r.val,
          ((4 * t.val + p.val + b.val) % 30) % 6, 0, 384] := by
  decide +kernel

instance closed5 (t : Fin k0_t1_loop.trips) (p b r : BitVec 32) (l m n : ℕ) [hp : Digit 3 p l] [hb : Digit 2 b m] [hr : Digit 8 r n] :
    ClosedOff (k0_off5 t p b r) :=
  ⟨![40 * ((4 * t.val + l + m) / 30) + 8 * (((4 * t.val + l + m) % 30) / 6) + n, ((4 * t.val + l + m) % 30) % 6, 0, 384], by
    rw [hp.eq, hb.eq, hr.eq]; exact off5_eq t ⟨l, hp.lt⟩ ⟨m, hb.lt⟩ ⟨n, hr.lt⟩⟩

theorem off6_eq : ∀ (t : Fin k0_t1_loop.trips) (p : Fin 3) (b : Fin 2) (r : Fin 8),
    k0_off6 t (BitVec.ofNat 32 p.val) (BitVec.ofNat 32 b.val) (BitVec.ofNat 32 r.val)
      = ![40 * ((4 * t.val + p.val + b.val) / 30) + 8 * (((4 * t.val + p.val + b.val) % 30) / 6) + r.val,
          ((4 * t.val + p.val + b.val) % 30) % 6, 0, 512] := by
  decide +kernel

instance closed6 (t : Fin k0_t1_loop.trips) (p b r : BitVec 32) (l m n : ℕ) [hp : Digit 3 p l] [hb : Digit 2 b m] [hr : Digit 8 r n] :
    ClosedOff (k0_off6 t p b r) :=
  ⟨![40 * ((4 * t.val + l + m) / 30) + 8 * (((4 * t.val + l + m) % 30) / 6) + n, ((4 * t.val + l + m) % 30) % 6, 0, 512], by
    rw [hp.eq, hb.eq, hr.eq]; exact off6_eq t ⟨l, hp.lt⟩ ⟨m, hb.lt⟩ ⟨n, hr.lt⟩⟩

theorem off7_eq : ∀ (t : Fin k0_t1_loop.trips) (p : Fin 3) (b : Fin 2) (r : Fin 8),
    k0_off7 t (BitVec.ofNat 32 p.val) (BitVec.ofNat 32 b.val) (BitVec.ofNat 32 r.val)
      = ![40 * ((4 * t.val + p.val + b.val) / 30) + 8 * (((4 * t.val + p.val + b.val) % 30) / 6) + r.val,
          ((4 * t.val + p.val + b.val) % 30) % 6, 0, 640] := by
  decide +kernel

instance closed7 (t : Fin k0_t1_loop.trips) (p b r : BitVec 32) (l m n : ℕ) [hp : Digit 3 p l] [hb : Digit 2 b m] [hr : Digit 8 r n] :
    ClosedOff (k0_off7 t p b r) :=
  ⟨![40 * ((4 * t.val + l + m) / 30) + 8 * (((4 * t.val + l + m) % 30) / 6) + n, ((4 * t.val + l + m) % 30) % 6, 0, 640], by
    rw [hp.eq, hb.eq, hr.eq]; exact off7_eq t ⟨l, hp.lt⟩ ⟨m, hb.lt⟩ ⟨n, hr.lt⟩⟩

end Cert.AttnIdeal.Off

end
-- ==== Proof.AttnTrip.lean ====
/- One trip of the attention call's loop, run once at a symbolic trip number. What it leaves in the array of input codes is a list of 32
   stores, one for each row of each of the trip's four windows; of the array of attention codes and of the two scratch buffers
   it is only said that they hold something. -/
module

public import proofs.«01_k».proof.Proof.Gen.AttnIdeal.Loops
public import proofs.«01_k».proof.Proof.AttnOff
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.AttnIdeal.Codes

open Cert.AttnIdeal Cert.AttnIdeal.Gen Cert.AttnIdeal.Off
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords)
  (arg1 : Memref sig .tc .vmem S80x6x8x768 .bf16) (harg1 : arg1.IsWhole)
  (arg2 : Memref sig .tc .vmem S2304x768 .fp8e4m3) (harg2 : arg2.IsWhole)
  (arg3 : Memref sig .tc .vmem S768x128 .f32) (harg3 : arg3.IsWhole)
  (arg4 : Memref sig .tc .vmem S768x128 .f32) (harg4 : arg4.IsWhole)
  (arg5 : Memref sig .tc .vmem S24x128 .f32) (harg5 : arg5.IsWhole)
  (arg6 : Memref sig .tc .vmem S24x64x128 .f32) (harg6 : arg6.IsWhole)
  (arg7 : Memref sig .tc .smem S1 .f32) (harg7 : arg7.IsWhole)
  (arg8 : Memref sig .tc .smem S1 .f32) (harg8 : arg8.IsWhole)
  (arg9 : Memref sig .tc .smem S1 .f32) (harg9 : arg9.IsWhole)
  (arg10 : Memref sig .tc .vmem S80x6x8x768 .fp8e4m3) (harg10 : arg10.IsWhole)
  (arg11 : Memref sig .tc .vmem S80x6x8x768 .fp8e4m3) (harg11 : arg11.IsWhole)
  (arg12 : Memref sig .tc .vmem S24x64x128 .f32) (harg12 : arg12.IsWhole)
  (arg13 : Memref sig .tc .vmem S256x768 .fp8e4m3) (harg13 : arg13.IsWhole)
  (arg14 : Memref sig .tc .vmem S2304x256 .f32) (harg14 : arg14.IsWhole)
  (v3 v8 v13 v14 : Elt F .f32)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X12 : BufTy.Contents (Elt F) arg12.view.ty)

/-- The buffers a trip touches: the six it reads at the contents `X`, the four it writes at the contents `f`. -/
abbrev Trip (f10 : BufTy.Contents (Elt F) arg10.view.ty) (f11 : BufTy.Contents (Elt F) arg11.view.ty)
    (f13 : BufTy.Contents (Elt F) arg13.view.ty) (f14 : BufTy.Contents (Elt F) arg14.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg12.view.loc (c : Thread nD τ) ↦[arg12.view.set]{fullShare} X12) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg14.view.loc (c : Thread nD τ) ↦[arg14.view.set]{fullShare} f14))

/-- One trip: the list of its stores of input codes, and that it runs and leaves them. -/
@[irreducible] def trip (k : Fin k0_t1_loop.trips) : Σ' (L : List (View.Piece (Elt F) S80x6x8x768 .fp8e4m3)),
    ∀ (E : Set ℕ) f10 f11 f13 f14,
      Trip c arg1 arg2 arg3 arg4 arg5 arg10 arg11 arg12 arg13 arg14 X1 X2 X3 X4 X5 X12 f10 f11 f13 f14
        ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 k PUnit.unit)
          (fun _ => iprop(∃ g11 g13 g14,
            Trip c arg1 arg2 arg3 arg4 arg5 arg10 arg11 arg12 arg13 arg14 X1 X2 X3 X4 X5 X12 (arg10.view.writes (Elt F) f10 L) g11 g13 g14)) := by
  refine ⟨?L, fun E f10 f11 f13 f14 => ?run⟩
  case run =>
    unfold k0_t1_body
    iintro ⟨H1, H2, H3, H4, H5, H12, H10, H11, H13, H14⟩
    sl_exec
    sl_step
    iexists _, _, _
    sl_close

end Cert.AttnIdeal.Codes

end
-- ==== Proof.AttnPieces.lean ====
/- What the stores of one trip of the attention call's loop are: row `r` of the trip's window `a` gets, element by element, the
   quantised input read at the same place. After the trip the windows of all trips so far hold their codes. -/
module

public import proofs.«01_k».proof.Proof.AttnTrip
public import Idealize.ShloMosaic.Lib.Pipeline.Value
public import Idealize.ShloMosaic.Lib.Pipeline.Regions

@[expose] public section

set_option maxRecDepth 8192
set_option maxHeartbeats 4000000

noncomputable section

namespace Cert.AttnIdeal.Codes

open Cert.AttnIdeal Cert.AttnIdeal.Gen Cert.AttnIdeal.Off
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords)
  (arg1 : Memref sig .tc .vmem S80x6x8x768 .bf16) (harg1 : arg1.IsWhole)
  (arg2 : Memref sig .tc .vmem S2304x768 .fp8e4m3) (harg2 : arg2.IsWhole)
  (arg3 : Memref sig .tc .vmem S768x128 .f32) (harg3 : arg3.IsWhole)
  (arg4 : Memref sig .tc .vmem S768x128 .f32) (harg4 : arg4.IsWhole)
  (arg5 : Memref sig .tc .vmem S24x128 .f32) (harg5 : arg5.IsWhole)
  (arg6 : Memref sig .tc .vmem S24x64x128 .f32) (harg6 : arg6.IsWhole)
  (arg7 : Memref sig .tc .smem S1 .f32) (harg7 : arg7.IsWhole)
  (arg8 : Memref sig .tc .smem S1 .f32) (harg8 : arg8.IsWhole)
  (arg9 : Memref sig .tc .smem S1 .f32) (harg9 : arg9.IsWhole)
  (arg10 : Memref sig .tc .vmem S80x6x8x768 .fp8e4m3) (harg10 : arg10.IsWhole)
  (arg11 : Memref sig .tc .vmem S80x6x8x768 .fp8e4m3) (harg11 : arg11.IsWhole)
  (arg12 : Memref sig .tc .vmem S24x64x128 .f32) (harg12 : arg12.IsWhole)
  (arg13 : Memref sig .tc .vmem S256x768 .fp8e4m3) (harg13 : arg13.IsWhole)
  (arg14 : Memref sig .tc .vmem S2304x256 .f32) (harg14 : arg14.IsWhole)
  (v3 v8 v13 v14 : Elt F .f32)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X12 : BufTy.Contents (Elt F) arg12.view.ty)

/-- One code, from the scale's reciprocal `s` and one input: the product clipped to ±448 and rounded to eight bits. -/
def code1 (s : F .f32) (x : Elt F .bf16) : Elt F .fp8e4m3 :=
  FloatOps.truncf FTy.fp8e4m3 bitsLt_fp8e4m3_f32
    (FloatOps.minimumf (FloatOps.ofBits FTy.f32 0x43E00000#32)
      (FloatOps.maximumf (FloatOps.ofBits FTy.f32 0xC3E00000#32) (FloatOps.mulf (FloatOps.extf FTy.f32 bitsLt_bf16_f32 x) s)))

/-- The reciprocal of the scale. -/
def recip (v3 : Elt F .f32) : F .f32 := FloatOps.divf (FloatOps.ofBits FTy.f32 0x3F800000#32) v3

/-- The codes of a row are the codes of its elements. -/
theorem code1_apply (v3 : Elt F .f32) (v : Vec F S1x1x8x768 .bf16) (j : S1x1x8x768.Idx) :
    k0_pay8 (k0_pay2 v3) v j = code1 (recip v3) (v j) := by
  have hj : Shape.reshapeEquiv shapeCasts_S1x1x8x768_S8x768 (Shape.reshapeEquiv shapeCasts_S8x768_S1x1x8x768 j) = j := by
    rw [Shape.reshapeEquiv_reshapeEquiv, Shape.reshapeEquiv_self]
  exact (show k0_pay8 (k0_pay2 v3) v j = code1 (recip v3) (v (Shape.reshapeEquiv shapeCasts_S1x1x8x768_S8x768 (Shape.reshapeEquiv shapeCasts_S8x768_S1x1x8x768 j))) from rfl).trans
    (congrArg (fun y => code1 (recip v3) (v y)) hj)

/-- The codes of a whole block of the input, `x` under the scale `v3`. -/
def codes (v3 : Elt F .f32) (x : Vec F S80x6x8x768 .bf16) : Vec F S80x6x8x768 .fp8e4m3 := fun y => code1 (recip v3) (x y)

/-- The store of row `r` of window `a` of trip `k`. -/
def piece (k : Fin k0_t1_loop.trips) (a : Fin 4) (r : Fin 8) : View.Piece (Elt F) S80x6x8x768 .fp8e4m3 :=
  ⟨Rect.unit (s := S80x6x8x768) (k0_off1 k (BitVec.ofNat 32 a.val) (BitVec.ofNat 32 r.val)) S1x1x8x768.size (k0_off1_inb k a r),
    k0_pay8 (k0_pay2 v3) (View.readAt (Elt F) arg1.view (Rect.unit (s := S80x6x8x768) (k0_off1 k (BitVec.ofNat 32 a.val) (BitVec.ofNat 32 r.val)) S1x1x8x768.size (k0_off1_inb k a r)).toLoadRect X1)⟩

/-- The 32 stores of a trip, the last one first. -/
theorem trip_pieces (k : Fin k0_t1_loop.trips) :
    (trip 𝒱 c bd i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 X1 X2 X3 X4 X5 X12 k).1
      = [3, 2, 1, 0].flatMap fun a => [7, 6, 5, 4, 3, 2, 1, 0].map fun r => piece arg1 v3 X1 k a r := by
  unfold trip
  chain_rfl

/-- Each store of a trip writes the codes of what the input holds at the store's own place. -/
theorem piece_apply (k : Fin k0_t1_loop.trips) (a : Fin 4) (r : Fin 8) (x : (piece arg1 v3 X1 k a r).1.shape.Idx) :
    (piece arg1 v3 X1 k a r).2 x = codes v3 (arg1.view.read (Elt F) X1) ((piece arg1 v3 X1 k a r).1.emb x) :=
  code1_apply v3 _ x

/-- A member of the list is the store of some row of some window of the trip, -/
theorem trip_mem (k : Fin k0_t1_loop.trips) (p : View.Piece (Elt F) S80x6x8x768 .fp8e4m3)
    (hp : p ∈ (trip 𝒱 c bd i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 X1 X2 X3 X4 X5 X12 k).1) :
    ∃ (a : Fin 4) (r : Fin 8), p = piece arg1 v3 X1 k a r := by
  rw [trip_pieces] at hp
  obtain ⟨a, -, hp⟩ := List.mem_flatMap.mp hp
  obtain ⟨r, -, rfl⟩ := List.mem_map.mp hp
  exact ⟨a, r, rfl⟩

/-- and the store of every row of every window of the trip is in it. -/
theorem piece_mem (k : Fin k0_t1_loop.trips) (a : Fin 4) (r : Fin 8) :
    piece arg1 v3 X1 k a r ∈ (trip 𝒱 c bd i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 X1 X2 X3 X4 X5 X12 k).1 := by
  rw [trip_pieces]
  exact List.mem_flatMap.mpr ⟨a, by revert a; decide, List.mem_map.mpr ⟨r, by revert r; decide, rfl⟩⟩

/-- The number of the window that holds a place of the block: 30 windows to an image of 40 rows, six to a strip of eight rows. -/
def win (y : S80x6x8x768.Idx) : ℕ := 30 * ((y 0).val / 40) + 6 * ((y 0).val % 40 / 8) + (y 1).val

theorem win_lt (y : S80x6x8x768.Idx) : win y < 60 := by
  have h0 : (y 0).val < 80 := (y 0).isLt
  have h1 : (y 1).val < 6 := (y 1).isLt
  unfold win; omega

/-- A place of one of the trip's four windows lies under one of the trip's stores. -/
theorem covered (k : Fin k0_t1_loop.trips) (y : S80x6x8x768.Idx) (h : 4 * k.val ≤ win y) (h' : win y < 4 * (k.val + 1)) :
    ∃ p ∈ (trip 𝒱 c bd i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 X1 X2 X3 X4 X5 X12 k).1, y ∈ p.1.set := by
  have h0 : (y 0).val < 80 := (y 0).isLt
  have h1 : (y 1).val < 6 := (y 1).isLt
  have h2 : (y 2).val < 8 := (y 2).isLt
  have h3 : (y 3).val < 768 := (y 3).isLt
  obtain ⟨a, ha⟩ : ∃ a : Fin 4, 4 * k.val + a.val = win y := ⟨⟨win y - 4 * k.val, by omega⟩, by show 4 * k.val + (win y - 4 * k.val) = win y; omega⟩
  refine ⟨_, piece_mem 𝒱 c bd i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 X1 X2 X3 X4 X5 X12 k a ⟨(y 0).val % 8, by omega⟩, ?_⟩
  unfold piece
  rw [Rect.mem_set_unit]
  rw [off1_eq, ha]
  unfold win
  intro ax
  exact match ax with
  | ⟨0, _⟩ => by
    show 40 * ((30 * ((y 0).val / 40) + 6 * ((y 0).val % 40 / 8) + (y 1).val) / 30) + 8 * ((30 * ((y 0).val / 40) + 6 * ((y 0).val % 40 / 8) + (y 1).val) % 30 / 6) + (y 0).val % 8 ≤ (y 0).val
      ∧ (y 0).val < 40 * ((30 * ((y 0).val / 40) + 6 * ((y 0).val % 40 / 8) + (y 1).val) / 30) + 8 * ((30 * ((y 0).val / 40) + 6 * ((y 0).val % 40 / 8) + (y 1).val) % 30 / 6) + (y 0).val % 8 + 1
    omega
  | ⟨1, _⟩ => by
    show (30 * ((y 0).val / 40) + 6 * ((y 0).val % 40 / 8) + (y 1).val) % 30 % 6 ≤ (y 1).val
      ∧ (y 1).val < (30 * ((y 0).val / 40) + 6 * ((y 0).val % 40 / 8) + (y 1).val) % 30 % 6 + 1
    omega
  | ⟨2, _⟩ => ⟨Nat.zero_le _, by show (y 2).val < 0 + 8; omega⟩
  | ⟨3, _⟩ => ⟨Nat.zero_le _, by show (y 3).val < 0 + 768; omega⟩

/-- After a trip on an array whose windows before the trip held their codes, the windows up to and with the trip's do. -/
theorem trip_codes (k : Fin k0_t1_loop.trips) (f10 : BufTy.Contents (Elt F) arg10.view.ty)
    (h : ∀ y, win y < 4 * k.val → arg10.view.read (Elt F) f10 y = codes v3 (arg1.view.read (Elt F) X1) y)
    (y : S80x6x8x768.Idx) (hy : win y < 4 * (k.val + 1)) :
    arg10.view.read (Elt F) (arg10.view.writes (Elt F) f10 (trip 𝒱 c bd i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 X1 X2 X3 X4 X5 X12 k).1) y = codes v3 (arg1.view.read (Elt F) X1) y := by
  by_cases hc : ∃ p ∈ (trip 𝒱 c bd i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 X1 X2 X3 X4 X5 X12 k).1, y ∈ p.1.set
  · refine View.read_writes_apply_of_pieces _ _ _ _ (fun p hp x => ?_) y hc
    obtain ⟨a, r, rfl⟩ := trip_mem 𝒱 c bd i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 X1 X2 X3 X4 X5 X12 k p hp
    exact piece_apply _ _ _ k a r x
  · rw [View.read_writes_apply_of_forall_not_mem _ _ _ _ (fun p hp hm => hc ⟨p, hp, hm⟩)]
    exact h y (by
      by_contra hlt
      exact hc (covered 𝒱 c bd i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 X1 X2 X3 X4 X5 X12 k y (by omega) hy))

end Cert.AttnIdeal.Codes

end
-- ==== Proof.AttnBody.lean ====
/- The attention call's body at one grid point: from its staged blocks it runs through its 15 trips and leaves the codes of the
   input block in the first output's buffer, and something in the second's and in its scratch. -/
module

public import proofs.«01_k».proof.Proof.AttnPieces

@[expose] public section

set_option maxRecDepth 8192
set_option maxHeartbeats 4000000

noncomputable section

namespace Cert.AttnIdeal.Codes

open Cert.AttnIdeal Cert.AttnIdeal.Gen Cert.AttnIdeal.Off
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The loop's invariant before trip `k`: what it reads is unchanged, and the first `4 k` windows hold their codes. -/
abbrev inv (𝒱 : Variants) (c : Dev nD) (bd : Option 𝒱.V) (i : grid0.Coords)
  (arg1 : Memref sig .tc .vmem S80x6x8x768 .bf16) (harg1 : arg1.IsWhole)
  (arg2 : Memref sig .tc .vmem S2304x768 .fp8e4m3) (harg2 : arg2.IsWhole)
  (arg3 : Memref sig .tc .vmem S768x128 .f32) (harg3 : arg3.IsWhole)
  (arg4 : Memref sig .tc .vmem S768x128 .f32) (harg4 : arg4.IsWhole)
  (arg5 : Memref sig .tc .vmem S24x128 .f32) (harg5 : arg5.IsWhole)
  (arg6 : Memref sig .tc .vmem S24x64x128 .f32) (harg6 : arg6.IsWhole)
  (arg7 : Memref sig .tc .smem S1 .f32) (harg7 : arg7.IsWhole)
  (arg8 : Memref sig .tc .smem S1 .f32) (harg8 : arg8.IsWhole)
  (arg9 : Memref sig .tc .smem S1 .f32) (harg9 : arg9.IsWhole)
  (arg10 : Memref sig .tc .vmem S80x6x8x768 .fp8e4m3) (harg10 : arg10.IsWhole)
  (arg11 : Memref sig .tc .vmem S80x6x8x768 .fp8e4m3) (harg11 : arg11.IsWhole)
  (arg12 : Memref sig .tc .vmem S24x64x128 .f32) (harg12 : arg12.IsWhole)
  (arg13 : Memref sig .tc .vmem S256x768 .fp8e4m3) (harg13 : arg13.IsWhole)
  (arg14 : Memref sig .tc .vmem S2304x256 .f32) (harg14 : arg14.IsWhole)
  (v3 v8 v13 v14 : Elt F .f32)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X12 : BufTy.Contents (Elt F) arg12.view.ty) (k : ℕ) (_ : Unit) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg12.view.loc (c : Thread nD τ) ↦[arg12.view.set]{fullShare} X12) ∗ (∃ f, (arg10.view.loc (c : Thread nD τ) ↦[arg10.view.set]{fullShare} f) ∗ ⌜∀ y, win y < 4 * k → arg10.view.read (Elt F) f y = codes v3 (arg1.view.read (Elt F) X1) y⌝) ∗ (∃ f, (arg11.view.loc (c : Thread nD τ) ↦[arg11.view.set]{fullShare} f)) ∗ (∃ f, (arg13.view.loc (c : Thread nD τ) ↦[arg13.view.set]{fullShare} f)) ∗ (∃ f, (arg14.view.loc (c : Thread nD τ) ↦[arg14.view.set]{fullShare} f)))

set_option warn.classDefReducibility false in
/-- One trip takes the invariant to the next trip's. -/
@[sl_loop] def loop (𝒱 : Variants) (c : Dev nD) (bd : Option 𝒱.V) (E : Set ℕ) (i : grid0.Coords)
  (arg1 : Memref sig .tc .vmem S80x6x8x768 .bf16) (harg1 : arg1.IsWhole)
  (arg2 : Memref sig .tc .vmem S2304x768 .fp8e4m3) (harg2 : arg2.IsWhole)
  (arg3 : Memref sig .tc .vmem S768x128 .f32) (harg3 : arg3.IsWhole)
  (arg4 : Memref sig .tc .vmem S768x128 .f32) (harg4 : arg4.IsWhole)
  (arg5 : Memref sig .tc .vmem S24x128 .f32) (harg5 : arg5.IsWhole)
  (arg6 : Memref sig .tc .vmem S24x64x128 .f32) (harg6 : arg6.IsWhole)
  (arg7 : Memref sig .tc .smem S1 .f32) (harg7 : arg7.IsWhole)
  (arg8 : Memref sig .tc .smem S1 .f32) (harg8 : arg8.IsWhole)
  (arg9 : Memref sig .tc .smem S1 .f32) (harg9 : arg9.IsWhole)
  (arg10 : Memref sig .tc .vmem S80x6x8x768 .fp8e4m3) (harg10 : arg10.IsWhole)
  (arg11 : Memref sig .tc .vmem S80x6x8x768 .fp8e4m3) (harg11 : arg11.IsWhole)
  (arg12 : Memref sig .tc .vmem S24x64x128 .f32) (harg12 : arg12.IsWhole)
  (arg13 : Memref sig .tc .vmem S256x768 .fp8e4m3) (harg13 : arg13.IsWhole)
  (arg14 : Memref sig .tc .vmem S2304x256 .f32) (harg14 : arg14.IsWhole)
  (v3 v8 v13 v14 : Elt F .f32)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X12 : BufTy.Contents (Elt F) arg12.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 where
  inv := inv 𝒱 c bd i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 X1 X2 X3 X4 X5 X12
  step k acc := by
    iintro ⟨H1, H2, H3, H4, H5, H12, ⟨%f10, H10, %h10⟩, ⟨%f11, H11⟩, ⟨%f13, H13⟩, ⟨%f14, H14⟩⟩
    iapply (wp_wand_r Idealize.ShloMosaic.frame (wpE (defs₀ (F := F)) 𝒱 (c : Thread nD τ) bd) E)
    isplitl [H1 H2 H3 H4 H5 H12 H10 H11 H13 H14]
    · iapply ((trip 𝒱 c bd i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 X1 X2 X3 X4 X5 X12 k).2 E f10 f11 f13 f14)
      isplitl [H1]; · iexact H1
      isplitl [H2]; · iexact H2
      isplitl [H3]; · iexact H3
      isplitl [H4]; · iexact H4
      isplitl [H5]; · iexact H5
      isplitl [H12]; · iexact H12
      isplitl [H10]; · iexact H10
      isplitl [H11]; · iexact H11
      isplitl [H13]; · iexact H13
      iexact H14
    · iintro %_ ⟨%g11, %g13, %g14, ⟨H1, H2, H3, H4, H5, H12, H10, H11, H13, H14⟩⟩
      isplitl [H1]; · iexact H1
      isplitl [H2]; · iexact H2
      isplitl [H3]; · iexact H3
      isplitl [H4]; · iexact H4
      isplitl [H5]; · iexact H5
      isplitl [H12]; · iexact H12
      isplitl [H10]
      · iexists _; isplitl [H10]; · iexact H10
        ipureintro
        exact fun y hy => trip_codes 𝒱 c bd i arg1 harg1 arg2 harg2 arg3 harg3 arg4 harg4 arg5 harg5 arg6 harg6 arg7 harg7 arg8 harg8 arg9 harg9 arg10 harg10 arg11 harg11 arg12 harg12 arg13 harg13 arg14 harg14 v3 v8 v13 v14 X1 X2 X3 X4 X5 X12 k f10 h10 y hy
      isplitl [H11]; · iexists _; iexact H11
      isplitl [H13]; · iexists _; iexact H13
      iexists _; iexact H14

/-- The one index of a scalar block. -/
abbrev only : S1.Idx := fun a => ⟨0, by revert a; decide⟩

set_option maxHeartbeats 4000000 in
/-- The body's triple, for any continuation. -/
theorem body_run (c : Dev nD) (i : grid0.Coords)
  (arg1 : Memref sig .tc .vmem S80x6x8x768 .bf16) (harg1 : arg1.IsWhole)
  (arg2 : Memref sig .tc .vmem S2304x768 .fp8e4m3) (harg2 : arg2.IsWhole)
  (arg3 : Memref sig .tc .vmem S768x128 .f32) (harg3 : arg3.IsWhole)
  (arg4 : Memref sig .tc .vmem S768x128 .f32) (harg4 : arg4.IsWhole)
  (arg5 : Memref sig .tc .vmem S24x128 .f32) (harg5 : arg5.IsWhole)
  (arg6 : Memref sig .tc .vmem S24x64x128 .f32) (harg6 : arg6.IsWhole)
  (arg7 : Memref sig .tc .smem S1 .f32) (harg7 : arg7.IsWhole)
  (arg8 : Memref sig .tc .smem S1 .f32) (harg8 : arg8.IsWhole)
  (arg9 : Memref sig .tc .smem S1 .f32) (harg9 : arg9.IsWhole)
  (arg10 : Memref sig .tc .vmem S80x6x8x768 .fp8e4m3) (harg10 : arg10.IsWhole)
  (arg11 : Memref sig .tc .vmem S80x6x8x768 .fp8e4m3) (harg11 : arg11.IsWhole)
  (arg12 : Memref sig .tc .vmem S24x64x128 .f32) (harg12 : arg12.IsWhole)
  (arg13 : Memref sig .tc .vmem S256x768 .fp8e4m3) (harg13 : arg13.IsWhole)
  (arg14 : Memref sig .tc .vmem S2304x256 .f32) (harg14 : arg14.IsWhole)
    (x1 : Vec F S80x6x8x768 .bf16) (x2 : Vec F S2304x768 .fp8e4m3) (x3 : Vec F S768x128 .f32) (x4 : Vec F S768x128 .f32) (x5 : Vec F S24x128 .f32) (x6 : Vec F S24x64x128 .f32) (x7 : Vec F S1 .f32) (x8 : Vec F S1 .f32) (x9 : Vec F S1 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (codes (x8 only) x1) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E
          (cc0_attn i arg1 harg1 arg2 harg2 arg3 harg3 arg4 harg4 arg5 harg5 arg6 harg6 arg7 harg7 arg8 harg8 arg9 harg9 arg10 harg10 arg11 harg11 arg12 harg12 arg13 harg13 arg14 harg14) K := by
  rw [cc0_attn_eq_skeleton]; unfold cc0_attn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec
  have key : arg10.view.read (Elt F) fL0 = codes (x8 only) x1 := by
    funext y
    refine (hL7 y (lt_of_lt_of_le (win_lt y) (by decide))).trans ?_
    rw [harg1.read_unread]
    refine congrArg (fun a => codes a x1 y) ?_
    refine Eq.trans ?_ (congrFun (harg8.read_unread x8) only)
    unfold body_run.sl.r
    refine congrArg (arg8.view.read (Elt F) (harg8.unread x8)) (funext fun a => ?_)
    revert a
    decide
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact key
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.AttnIdeal.Codes

end
-- ==== Proof.AttnFrame.lean ====
/- The attention call as a whole: the pipeline around its body, its frame, and the first output as the pipeline assembles it. The
   second output is handed to the body at anything and taken back at anything. -/
module

public import proofs.«01_k».proof.Proof.AttnBody
public import proofs.«01_k».proof.Proof.Gen.AttnIdeal.Frame
public import Idealize.ShloMosaic.Lib.Pipeline.Frame

@[expose] public section

set_option maxRecDepth 16384

noncomputable section

namespace Cert.AttnIdeal.Codes

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the body is handed at a grid point. -/

abbrev ms0 (t : Fin cfg0.N) : Memref sig .tc .vmem S80x6x8x768 .bf16 := win0_0.stage (cfg0.slots t 0)
abbrev ms1 (t : Fin cfg0.N) : Memref sig .tc .vmem S2304x768 .fp8e4m3 := win0_1.stage (cfg0.slots t 1)
abbrev ms2 (t : Fin cfg0.N) : Memref sig .tc .vmem S768x128 .f32 := win0_2.stage (cfg0.slots t 2)
abbrev ms3 (t : Fin cfg0.N) : Memref sig .tc .vmem S768x128 .f32 := win0_3.stage (cfg0.slots t 3)
abbrev ms4 (t : Fin cfg0.N) : Memref sig .tc .vmem S24x128 .f32 := win0_4.stage (cfg0.slots t 4)
abbrev ms5 (t : Fin cfg0.N) : Memref sig .tc .vmem S24x64x128 .f32 := win0_5.stage (cfg0.slots t 5)
abbrev ms6 (t : Fin cfg0.N) : Memref sig .tc .smem S1 .f32 := win0_6.stage (cfg0.slots t 6)
abbrev ms7 (t : Fin cfg0.N) : Memref sig .tc .smem S1 .f32 := win0_7.stage (cfg0.slots t 7)
abbrev ms8 (t : Fin cfg0.N) : Memref sig .tc .smem S1 .f32 := win0_8.stage (cfg0.slots t 8)
abbrev ms9 (t : Fin cfg0.N) : Memref sig .tc .vmem S80x6x8x768 .fp8e4m3 := win0_9.stage (cfg0.slots t 9)
abbrev ms10 (t : Fin cfg0.N) : Memref sig .tc .vmem S80x6x8x768 .fp8e4m3 := win0_10.stage (cfg0.slots t 10)
abbrev sc0 : Memref sig .tc .vmem S24x64x128 .f32 := Memref.whole cc0_scratch0
abbrev sc1 : Memref sig .tc .vmem S256x768 .fp8e4m3 := Memref.whole cc0_scratch1
abbrev sc2 : Memref sig .tc .vmem S2304x256 .f32 := Memref.whole cc0_scratch2

theorem scratch_eq (c : Dev nD) : (Pipeline.ΦA spec0 c : sProp 𝕄) =
    iprop(iprop((∃ d, owns (c : Thread nD τ) sc0 fullShare d) ∗ (∃ d, owns (c : Thread nD τ) sc1 fullShare d)
      ∗ (∃ d, owns (c : Thread nD τ) sc2 fullShare d)) ∗ (∃ r, prngReg c r)) := by
  unfold Pipeline.ΦA; rw [scopedRest0_eq]; simp only [sc0, sc1, sc2, owns_whole]; try rfl

/-- Only the second output is not described. -/
def fgt : Fin 11 → Bool := fun w => w == 10

/-- The first output's block after a grid point: the codes of that point's input block. -/
abbrev out (c : Dev nD) (t : Fin cfg0.N) : Vec F S80x6x8x768 .fp8e4m3 :=
  codes ((iblk m c 7 t : Vec F S1 .f32) only) (iblk m c 0 t : Vec F S80x6x8x768 .bf16)

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => out m c t
    | 10 => Pipeline.Dat.unnamed (cfg := cfg0) 10 t
  Φ _ := Pipeline.ΦA spec0 c
  q _ := fullShare
  owed _ := 0

theorem A_eq (c : Dev nD) (w : Fin cfg0.W) : (dats m 0 c).A w = V m c (Pipeline.arrRef spec0 w) := by dsimp only [dats]
theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d
theorem before4 (c : Dev nD) (t : Fin cfg0.N) (d) : (dats m 0 c).before 4 t d = iblk m c 4 t :=
  before0_4_of m (dats m 0 c) (A_eq m c 4) (fun _ => by dsimp only [dats]) t d
theorem before5 (c : Dev nD) (t : Fin cfg0.N) (d) : (dats m 0 c).before 5 t d = iblk m c 5 t :=
  before0_5_of m (dats m 0 c) (A_eq m c 5) (fun _ => by dsimp only [dats]) t d
theorem before6 (c : Dev nD) (t : Fin cfg0.N) (d) : (dats m 0 c).before 6 t d = iblk m c 6 t :=
  before0_6_of m (dats m 0 c) (A_eq m c 6) (fun _ => by dsimp only [dats]) t d
theorem before7 (c : Dev nD) (t : Fin cfg0.N) (d) : (dats m 0 c).before 7 t d = iblk m c 7 t :=
  before0_7_of m (dats m 0 c) (A_eq m c 7) (fun _ => by dsimp only [dats]) t d
theorem before8 (c : Dev nD) (t : Fin cfg0.N) (d) : (dats m 0 c).before 8 t d = iblk m c 8 t :=
  before0_8_of m (dats m 0 c) (A_eq m c 8) (fun _ => by dsimp only [dats]) t d

def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare d))
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ (∃ d, owns (c : Thread nD τ) (ms10 t) fullShare d))

set_option maxHeartbeats 2400000 in
theorem body_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c (grid0.coords t) (ms0 t) _ (ms1 t) _ (ms2 t) _ (ms3 t) _ (ms4 t) _ (ms5 t) _ (ms6 t) _ (ms7 t) _ (ms8 t) _ (ms9 t) _ (ms10 t) _ sc0 _ sc1 _ sc2 _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [S0]; · iexact S0
  isplitl [S1]; · iexact S1
  isplitl [S2]; · iexact S2
  iintro ⟨H0, H1, H2, H3, H4, H5, H6, H7, H8, H9, H10, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ fgt := fun t => by
  rw [bigSep_W0, bigSep_W0, body_row]
  exact triple_restated (body_point m c t) rfl .rfl fun _ => .rfl

-- the theorem's implicit arguments are found by unifying its conclusion with this statement
set_option backward.isDefEq.respectTransparency.types false in
theorem run : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m} in
theorem kept {r : PUnit × MemSt nD τ sig (Elt F)}
    (h : Pipeline.RDat.FramePost (cfgs 0) (fun c => (dats (F := F) m 0 c).toRForget fgt) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 6 rfl).trans ((A_eq m c 6).trans (V_main_arg2 m c)),
      (Pipeline.RDat.FramePost.arr_in h c 7 rfl).trans ((A_eq m c 7).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((A_eq m c 8).trans (V_main_arg8 m c))⟩

/-- The frame, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => kept h.1 c, h.2⟩) (run m ρ)

variable {m} in
/-- The first output after the run. -/
theorem first {r : PUnit × MemSt nD τ sig (Elt F)}
    (h : Pipeline.RDat.FramePost (cfgs 0) (fun c => (dats (F := F) m 0 c).toRForget fgt) (V m) r) (c : Dev nD) :
    r.2.mem ((cfg0.spec 9).arr.view.loc (c.tc : Thread nD τ)) = (dats m 0 c).arrAt 9 cfg0.N :=
  ((dats m 0 c).toRForget_arrAt_iff (fgt := fgt) (w := 9) rfl _ _).mp ((h c).1 9)

end Cert.AttnIdeal.Codes

end
-- ==== Proof.AttnArray.lean ====
/-
  Hand-written. The first output of the attention call as a function of the call's arguments: its blocks of 80 leading indices cover
  the array, and each holds the codes of the tokens it was given.
-/
module

public import proofs.«01_k».proof.Proof.AttnFrame
public import proofs.«01_k».proof.Proof.Spec

@[expose] public section

set_option maxRecDepth 16384

noncomputable section

namespace Cert.AttnIdeal.Array

open Cert.AttnIdeal Cert.AttnIdeal.Gen Cert.AttnIdeal.Codes Idealize.ShloMosaic Idealize.ShloMosaic.TcCoe Idealize.SL.Sem Cert.Rows

/-- Over the extended reals the code that multiplies by the reciprocal is the code that divides. -/
theorem codes_eq (a : EReal) (h : a ≠ 0) (x : Vec Ideal S80x6x8x768 .bf16) (y : S80x6x8x768.Idx) :
    codes (F := Ideal) a x y = code (x y) a := by
  show min chi (max clo ((x y : EReal) * Ideal.div (Ideal.ofBits .f32 0x3F800000#32) a)) = code (x y) a
  rw [one_eq, mul_recip _ _ h]; rfl

variable (m : (ℓ : Loc nD τ sig) → Buf (Elt Ideal) ℓ)

/-- The token rows and the scale, from the launched memory. -/
def xs (c : Dev nD) := Spec.rowImg (m ((c : Thread nD τ).loc main_arg0))
def an (c : Dev nD) : EReal := (m ((c : Thread nD τ).loc main_arg3) : Vec Ideal S1 .f32) (ix1 0)

theorem idx : ∀ t : Fin cfg0.N, win0_0.index t = ![t.val, 0, 0, 0] ∧ win0_7.index t = ![0] ∧ win0_9.index t = ![t.val, 0, 0, 0] := by
  decide +kernel

theorem r7 (c : Dev nD) (t : Fin cfg0.N) : (iblk m c 7 t : Vec Ideal S1 .f32) only = an m c := by
  unfold an
  rw [show only = (ix1 0 : S1.Idx) from funext fun a => by revert a; decide]
  blk_ext [iblk, V, idx t]

theorem r0 (c : Dev nD) (t : Fin cfg0.N) (h : t.val < 5) (a : Fin 80) (b : Fin 6) (e : Fin 8) (k : Fin 768) :
    (iblk m c 0 t : Vec Ideal S80x6x8x768 .bf16) (ix4 a b e k) = xs m c ⟨t.val * 80 + a.val, by omega⟩ b e k := by
  unfold xs Spec.rowImg
  blk_ext! [iblk, V, idx t]

theorem final9 (c : Dev nD) (hn : an m c ≠ 0) : (dats m 0 c).arrAt 9 cfg0.N = Spec.first (an m c) (xs m c) := by
  refine (dats m 0 c).arrAt_eq_of_covers 9 _ (by decide +kernel) fun t hf y => ?_
  have ht : t.val < 5 := t.isLt
  blk_simp
  rw [show (dats m 0 c).after 9 t = out m c t from by dsimp only [dats]]
  idx_vars y
  have e : ((View.whole main_v15_0).slice (win0_9.rect t)).emb (ix4 y0 y1 y2 y3) =
      (ix4 ⟨t.val * 80 + y0.val, by omega⟩ y1 y2 y3 : Shape.Idx ⟨4, ![400, 6, 8, 768]⟩) := by
    blk_ext [idx t]
  rw [e]
  unfold out
  rw [r7 m c t]
  refine (codes_eq _ hn _ _).trans ?_
  rw [r0 m c t ht]
  rfl

end Cert.AttnIdeal.Array

end
-- ==== Proof.AttnRef.lean ====
/-
  Hand-written. The reference of the quantiser of the input: its result array as a function of its argument arrays.
-/
module

public import proofs.«01_k».proof.Proof.Gen.AttnRefIdeal.Value
public import proofs.«01_k».proof.Proof.Spec

@[expose] public section

set_option maxRecDepth 16384

noncomputable section

namespace Cert.AttnRefIdeal.Array

open Cert.AttnRefIdeal Cert.AttnRefIdeal.Gen Idealize.ShloMosaic Idealize.ShloMosaic.TcCoe Idealize.SL.Sem Cert.Rows

theorem step (X : Vec Ideal S19200x768 .bf16) (s : Vec Ideal S1x1 .f32) (a : Fin 400) (b : Fin 6) (e : Fin 8) (k : Fin 768) :
    k0_pay1 X s (ix4 a b e k) = code (X (ix2 ⟨a.val * 48 + b.val * 8 + e.val, by omega⟩ k)) (s (ix2 0 0)) := by
  pointwise [k0_pay1]
  rfl

variable (m : (ℓ : Loc nD τ sig) → Buf (Elt Ideal) ℓ)

def xs (c : Dev nD) := Spec.rowImg (m ((c : Thread nD τ).loc main_arg0))
def an (c : Dev nD) : EReal := (m ((c : Thread nD τ).loc main_arg3) : Vec Ideal S1 .f32) (ix1 0)

theorem idx : ∀ t : Fin cfg0.N, win0_0.index t = ![0, 0] ∧ win0_1.index t = ![0, 0] ∧ win0_2.index t = ![0, 0, 0, 0] := by
  decide +kernel

theorem r1 (c : Dev nD) (t : Fin cfg0.N) : (iblk m c 1 t : Vec Ideal S1x1 .f32) (ix2 0 0) = an m c := by
  unfold an
  blk_ext! [iblk, V, idx t]

theorem r0 (c : Dev nD) (t : Fin cfg0.N) (a : Fin 400) (b : Fin 6) (e : Fin 8) (k : Fin 768) :
    (iblk m c 0 t : Vec Ideal S19200x768 .bf16) (ix2 ⟨a.val * 48 + b.val * 8 + e.val, by omega⟩ k) = xs m c a b e k := by
  unfold xs Spec.rowImg
  have he : ((View.whole main_v0).slice (win0_0.rect t)).emb (ix2 (⟨a.val * 48 + b.val * 8 + e.val, by omega⟩ : Fin 19200) k) =
      (ix2 ⟨a.val * 48 + b.val * 8 + e.val, by omega⟩ k : S19200x768.Idx) := by
    generalize (⟨a.val * 48 + b.val * 8 + e.val, by omega⟩ : Fin 19200) = r
    blk_ext [idx t]
  blk_simp [iblk, V, idx t]
  entry_read
  rw [he]
  pointwise
  refine congrArg _ ?_
  congr 1 <;> exact Fin.ext (by dsimp only; omega)

theorem final2 (c : Dev nD) : (dats m 0 c).arrAt 2 cfg0.N = Spec.first (an m c) (xs m c) := by
  refine (dats m 0 c).arrAt_eq_of_covers 2 _ (by decide +kernel) fun t hf y => ?_
  blk_simp
  rw [after0_2]
  frame_out
  idx_vars y
  have e : ((View.whole main_v2).slice (win0_2.rect t)).emb (ix4 y0 y1 y2 y3) =
      (ix4 y0 y1 y2 y3 : Shape.Idx ⟨4, ![400, 6, 8, 768]⟩) := by
    blk_ext [idx t]
  rw [e]
  refine (step (iblk m c 0 t) (iblk m c 1 t) _ _ _ _).trans ?_
  rw [r0 m c t, r1 m c t]
  rfl

end Cert.AttnRefIdeal.Array

end
-- ==== Proof.AttnEqual.lean ====
/-
  Hand-written. The attention call's first output and its reference are the same array: both are the same function of the token rows
  and the scale, and the two launches have the same arguments.
-/
module

public import proofs.«01_k».proof.Defs
public import proofs.«01_k».proof.Proof.AttnArray
public import proofs.«01_k».proof.Proof.AttnRef
public import proofs.«01_k».proof.Proof.Gen.Pre_scale_codes

@[expose] public section

set_option maxRecDepth 16384

noncomputable section

namespace Cert.AttnIdeal.Equal

open Idealize.ShloMosaic Idealize.ShloMosaic.TcCoe Idealize.SL.Sem Cert.Rows

/-- The precondition says that the scale which the kernel inverts is not zero. -/
theorem scale (m : (ℓ : Loc Cert.AttnIdeal.nD Cert.AttnIdeal.τ Cert.AttnIdeal.sig) → Buf (Elt Ideal) ℓ)
    (h : Cert.Pre_AttnIdeal_scale_codes (hPre_scale_codes := Cert.Pre_scale_codes.Gen.facts) m) (c : Dev Cert.AttnIdeal.nD) :
    Cert.AttnIdeal.Array.an m c ≠ 0 := by
  have := congrFun (h c) (ix1 0)
  pointwise [Cert.Pre_scale_codes.fn] at this
  exact ne_of_une _ this

/-- Launches with the same arguments have the same scale and the same rows of tokens. -/
theorem agree (m : (ℓ : Loc Cert.AttnIdeal.nD Cert.AttnIdeal.τ Cert.AttnIdeal.sig) → Buf (Elt Ideal) ℓ)
    (m' : (ℓ : Loc Cert.AttnRefIdeal.nD Cert.AttnRefIdeal.τ Cert.AttnRefIdeal.sig) → Buf (Elt Ideal) ℓ) (c : Dev Cert.AttnIdeal.nD)
    (h : m' ((c : Thread Cert.AttnRefIdeal.nD Cert.AttnRefIdeal.τ).loc Cert.AttnRefIdeal.main_arg0) = m ((c : Thread Cert.AttnIdeal.nD Cert.AttnIdeal.τ).loc Cert.AttnIdeal.main_arg0) ∧
      m' ((c : Thread Cert.AttnRefIdeal.nD Cert.AttnRefIdeal.τ).loc Cert.AttnRefIdeal.main_arg3) = m ((c : Thread Cert.AttnIdeal.nD Cert.AttnIdeal.τ).loc Cert.AttnIdeal.main_arg3)) :
    Cert.AttnRefIdeal.Array.xs m' c = Cert.AttnIdeal.Array.xs m c ∧ Cert.AttnRefIdeal.Array.an m' c = Cert.AttnIdeal.Array.an m c := by
  obtain ⟨e0, e3⟩ := h
  refine ⟨?_, ?_⟩
  · unfold Cert.AttnRefIdeal.Array.xs Cert.AttnIdeal.Array.xs
    rw [e0]
  · unfold Cert.AttnRefIdeal.Array.an Cert.AttnIdeal.Array.an
    rw [e3]

/-- The kernel and the reference run, end with the same codes, and leave their arguments as they were. -/
theorem algebraic : Cert.algebraic_AttnIdeal_AttnRefIdeal_pre_scale_codes (hAttnIdeal := Cert.AttnIdeal.Gen.facts)
    (hAttnRefIdeal := Cert.AttnRefIdeal.Gen.facts) (hPre_scale_codes := Cert.Pre_scale_codes.Gen.facts) := by
  intro m ρ m' ρ' hpre hag
  refine ⟨fun c => Spec.first (Cert.AttnIdeal.Array.an m c) (Cert.AttnIdeal.Array.xs m c), ?_, ?_⟩
  · refine (θ_run _ _ _).mono (fun r hr c => ?_) (Cert.AttnIdeal.Codes.run m ρ)
    exact ⟨(Cert.AttnIdeal.Codes.first hr.1 c).trans (Cert.AttnIdeal.Array.final9 m c (scale m hpre c)), Cert.AttnIdeal.Codes.kept hr.1 c⟩
  · refine (θ_run _ _ _).mono (fun r hr c => ?_) (Cert.AttnRefIdeal.Value.run_blocks m' ρ')
    obtain ⟨ex, ea⟩ := agree m m' c ⟨(hag c).1, (hag c).2.2.2.1⟩
    obtain ⟨o, rest⟩ := hr c
    beta_reduce
    rw [← ex, ← ea]
    exact ⟨o.trans (Cert.AttnRefIdeal.Array.final2 m' c), rest⟩

end Cert.AttnIdeal.Equal

end
-- ==== Proof.AttnSame.lean ====
/- The attention call as printed and its ideal reading are the same program text at every reading of the floats, so the frame of the
   one is the frame of the other. -/
module

public import proofs.«01_k».proof.Defs
public import Idealize.ShloMosaic.Lib.Pipeline.Regions

@[expose] public section

set_option maxRecDepth 100000

noncomputable section

namespace Cert.Proof.AttnSame

open Idealize.ShloMosaic

variable (F : FTy → Type) [FloatOps F]

/-- The frame of the ideal reading, stated at any reading of the floats. -/
def FrameIdeal [hAttnIdeal : Cert.AttnIdeal.Facts] : Prop :=
  ∀ (m : (ℓ : Loc Cert.AttnIdeal.nD Cert.AttnIdeal.τ Cert.AttnIdeal.sig) → Buf (Elt F) ℓ) (g : Dev Cert.AttnIdeal.nD → PrngReg),
    θ_run (Cert.AttnIdeal.defs (F := F)) (onTc (τ := Cert.AttnIdeal.τ) (Cert.AttnIdeal.main (F := F))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

/-- The frame of the program as printed, stated at any reading of the floats. -/
def FramePrinted [hAttn : Cert.Attn.Facts] : Prop :=
  ∀ (m : (ℓ : Loc Cert.Attn.nD Cert.Attn.τ Cert.Attn.sig) → Buf (Elt F) ℓ) (g : Dev Cert.Attn.nD → PrngReg),
    θ_run (Cert.Attn.defs (F := F)) (onTc (τ := Cert.Attn.τ) (Cert.Attn.main (F := F))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

theorem same [hAttn : Cert.Attn.Facts] [hAttnIdeal : Cert.AttnIdeal.Facts] : FramePrinted F = FrameIdeal F := by
  chain_rfl

end Cert.Proof.AttnSame

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpLast
public import proofs.«01_k».proof.Proof.Gen.MlpLast.Skeleton
public import proofs.«01_k».proof.Proof.Gen.MlpLast.Launch
public import proofs.«01_k».proof.Proof.Gen.MlpLast.Points
public import proofs.«01_k».proof.Proof.Gen.MlpLast.Frame
public import proofs.«01_k».proof.Proof.Gen.MlpLastIdeal
public import proofs.«01_k».proof.Proof.Gen.MlpLastIdeal.Skeleton
public import proofs.«01_k».proof.Proof.Gen.MlpLastIdeal.Launch
public import proofs.«01_k».proof.Proof.Gen.MlpLastIdeal.Points
public import proofs.«01_k».proof.Proof.Gen.MlpLastIdeal.Frame
public import proofs.«01_k».proof.Proof.Gen.MlpRefIdeal
public import proofs.«01_k».proof.Proof.Gen.MlpRefIdeal.Skeleton
public import proofs.«01_k».proof.Proof.Gen.MlpRefIdeal.Launch
public import proofs.«01_k».proof.Proof.Gen.MlpRefIdeal.Points
public import proofs.«01_k».proof.Proof.Gen.MlpRefIdeal.Frame
public import proofs.«01_k».proof.Proof.Gen.MlpLastRefIdeal
public import proofs.«01_k».proof.Proof.Gen.MlpLastRefIdeal.Skeleton
public import proofs.«01_k».proof.Proof.Gen.MlpLastRefIdeal.Launch
public import proofs.«01_k».proof.Proof.Gen.MlpLastRefIdeal.Points
public import proofs.«01_k».proof.Proof.Gen.MlpLastRefIdeal.Frame
public import proofs.«01_k».proof.Proof.Gen.Attn
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Loops
public import proofs.«01_k».proof.Proof.Gen.AttnRefIdeal
public import proofs.«01_k».proof.Proof.Gen.AttnRefIdeal.Skeleton
public import proofs.«01_k».proof.Proof.Gen.AttnRefIdeal.Launch
public import proofs.«01_k».proof.Proof.Gen.AttnRefIdeal.Points
public import proofs.«01_k».proof.Proof.Gen.AttnRefIdeal.Frame
public import proofs.«01_k».proof.Proof.Gen.Pre_scale_codes
public import proofs.«01_k».proof.Proof.Gen.Pre_scales_1
public import proofs.«01_k».proof.Proof.Gen.Pre_scales_2
public import proofs.«01_k».proof.Proof.Gen.MlpIdeal.Value
public import proofs.«01_k».proof.Proof.Gen.MlpLastIdeal.Value
public import proofs.«01_k».proof.Proof.Gen.MlpRefIdeal.Value
public import proofs.«01_k».proof.Proof.Gen.AttnRefIdeal.Value
public import proofs.«01_k».proof.Proof.Gen.MlpLastRefIdeal.Value
public import proofs.«01_k».proof.Proof.MlpEqual
public import proofs.«01_k».proof.Proof.MlpLastEqual
public import proofs.«01_k».proof.Proof.AttnEqual
public import proofs.«01_k».proof.Proof.AttnSame
public import Idealize.ShloMosaic.Adequacy
public import Idealize.ShloMosaic.Init

@[expose] public section

noncomputable section

namespace Cert.Proof

open Idealize.ShloMosaic Idealize.SL.Sem Cert.Mlp

/-- The attention call as printed is framed, because its ideal reading is. -/
theorem attn_frame : AttnSame.FramePrinted Bits (hAttn := Cert.Attn.Gen.facts) :=
  (AttnSame.same Bits (hAttn := Cert.Attn.Gen.facts) (hAttnIdeal := Cert.AttnIdeal.Gen.facts)).mpr fun m ρ => Cert.AttnIdeal.Codes.frame m ρ

/-- The claims in their order: each program's frame, the three ideal readings, and the three equations of kernel and reference. -/
theorem claim : Cert.Claim := ⟨
  Cert.Mlp.Gen.facts, Cert.MlpIdeal.Gen.facts, Cert.MlpLast.Gen.facts, Cert.MlpLastIdeal.Gen.facts, Cert.Attn.Gen.facts, Cert.AttnIdeal.Gen.facts,
  Cert.MlpRefIdeal.Gen.facts, Cert.MlpLastRefIdeal.Gen.facts, Cert.AttnRefIdeal.Gen.facts, Cert.Pre_scales_1.Gen.facts, Cert.Pre_scales_2.Gen.facts,
  Cert.Pre_scale_codes.Gen.facts,
  fun m ρ _ => Cert.Mlp.Gen.frame m ρ,
  fun m ρ _ => Cert.MlpIdeal.Gen.frame m ρ,
  fun m ρ _ => Cert.MlpIdeal.Gen.frame m ρ,
  fun m ρ _ => Cert.MlpLast.Gen.frame m ρ,
  fun m ρ _ => Cert.MlpLastIdeal.Gen.frame m ρ,
  fun m ρ _ => Cert.MlpLastIdeal.Gen.frame m ρ,
  fun m ρ _ => attn_frame m ρ,
  fun m ρ _ => Cert.AttnIdeal.Codes.frame m ρ,
  fun m ρ _ => Cert.AttnIdeal.Codes.frame m ρ,
  fun m ρ _ => Cert.MlpRefIdeal.Gen.frame m ρ,
  fun m ρ _ => Cert.MlpRefIdeal.Gen.frame m ρ,
  fun m ρ _ => Cert.MlpLastRefIdeal.Gen.frame m ρ,
  fun m ρ _ => Cert.MlpLastRefIdeal.Gen.frame m ρ,
  fun m ρ _ => Cert.AttnRefIdeal.Gen.frame m ρ,
  fun m ρ _ => Cert.AttnRefIdeal.Gen.frame m ρ,
  trivial,
  trivial,
  trivial,
  Cert.MlpIdeal.Equal.algebraic,
  Cert.MlpLastIdeal.Equal.algebraic,
  Cert.AttnIdeal.Equal.algebraic⟩

end Cert.Proof

end
